-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_v20) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)) (v2 : (c : Dev Cert.Kernel4Ideal.nD) → Buf (Elt Ideal) ((c.tc : Thread Cert.Kernel4Ideal.nD Cert.Kernel4Ideal.τ).loc Cert.Kernel4Ideal.main_v4_2)) (v3 : (c : Dev Cert.Kernel4Ideal.nD) → Buf (Elt Ideal) ((c.tc : Thread Cert.Kernel4Ideal.nD Cert.Kernel4Ideal.τ).loc Cert.Kernel4Ideal.main_v4_3)) (v4 : (c : Dev Cert.Kernel4Ideal.nD) → Buf (Elt Ideal) ((c.tc : Thread Cert.Kernel4Ideal.nD Cert.Kernel4Ideal.τ).loc Cert.Kernel4Ideal.main_v4_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_v4_2) = v2 c
          ∧ r.2.mem ((c.tc : Thread Cert.Kernel4Ideal.nD Cert.Kernel4Ideal.τ).loc Cert.Kernel4Ideal.main_v4_3) = v3 c
          ∧ r.2.mem ((c.tc : Thread Cert.Kernel4Ideal.nD Cert.Kernel4Ideal.τ).loc Cert.Kernel4Ideal.main_v4_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v35) = v0 c
          ∧ r.2.mem ((c.tc : Thread Cert.Reference4Ideal.nD Cert.Reference4Ideal.τ).loc Cert.Reference4Ideal.main_v36) = v1 c
          ∧ r.2.mem ((c.tc : Thread Cert.Reference4Ideal.nD Cert.Reference4Ideal.τ).loc Cert.Reference4Ideal.main_v37) = v2 c
          ∧ r.2.mem ((c.tc : Thread Cert.Reference4Ideal.nD Cert.Reference4Ideal.τ).loc Cert.Reference4Ideal.main_v38) = v3 c
          ∧ r.2.mem ((c.tc : Thread Cert.Reference4Ideal.nD Cert.Reference4Ideal.τ).loc Cert.Reference4Ideal.main_v39) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
-- ==== Kernel.lean ====
abbrev S1x16384x2048 : Shape := ⟨3, ![1, 16384, 2048]⟩
abbrev S1x2048x11264 : Shape := ⟨3, ![1, 2048, 11264]⟩
abbrev S1x3x5632 : Shape := ⟨3, ![1, 3, 5632]⟩
abbrev S1x5632 : Shape := ⟨2, ![1, 5632]⟩
abbrev S16384x2048 : Shape := ⟨2, ![16384, 2048]⟩
abbrev S2048x11264 : Shape := ⟨2, ![2048, 11264]⟩
abbrev S3x5632 : Shape := ⟨2, ![3, 5632]⟩
abbrev S16384x5632 : Shape := ⟨2, ![16384, 5632]⟩
abbrev S2048x2048 : Shape := ⟨2, ![2048, 2048]⟩
abbrev S16x2048 : Shape := ⟨2, ![16, 2048]⟩
abbrev S2048x512 : Shape := ⟨2, ![2048, 512]⟩
abbrev S3x512 : Shape := ⟨2, ![3, 512]⟩
abbrev S1x512 : Shape := ⟨2, ![1, 512]⟩
abbrev S2080x2048 : Shape := ⟨2, ![2080, 2048]⟩
abbrev S1056x2048 : Shape := ⟨2, ![1056, 2048]⟩
abbrev S1056x512 : Shape := ⟨2, ![1056, 512]⟩
abbrev S1024x2048 : Shape := ⟨2, ![1024, 2048]⟩
abbrev S1024x512 : Shape := ⟨2, ![1024, 512]⟩

abbrev nBuf : Space → Nat
  | .hbm => 10
  | .vmem => 17
  | .smem => 0
  | _ => 0

abbrev bufTy : (tb : Table) → Fin (tcTables nBuf tb) → BufTy
  | .hbm, ⟨0, _⟩ => ⟨S1x16384x2048, .f32⟩
  | .hbm, ⟨1, _⟩ => ⟨S1x2048x11264, .f32⟩
  | .hbm, ⟨2, _⟩ => ⟨S1x3x5632, .f32⟩
  | .hbm, ⟨3, _⟩ => ⟨S1x5632, .f32⟩
  | .hbm, ⟨4, _⟩ => ⟨S16384x2048, .f32⟩
  | .hbm, ⟨5, _⟩ => ⟨S16384x2048, .bf16⟩
  | .hbm, ⟨6, _⟩ => ⟨S2048x11264, .f32⟩
  | .hbm, ⟨7, _⟩ => ⟨S2048x11264, .bf16⟩
  | .hbm, ⟨8, _⟩ => ⟨S3x5632, .f32⟩
  | .hbm, ⟨9, _⟩ => ⟨S16384x5632, .bf16⟩
  | .local _ .vmem, ⟨0, _⟩ => ⟨S2048x2048, .bf16⟩
  | .local _ .vmem, ⟨1, _⟩ => ⟨S2048x2048, .bf16⟩
  | .local _ .vmem, ⟨2, _⟩ => ⟨S16x2048, .bf16⟩
  | .local _ .vmem, ⟨3, _⟩ => ⟨S16x2048, .bf16⟩
  | .local _ .vmem, ⟨4, _⟩ => ⟨S16x2048, .bf16⟩
  | .local _ .vmem, ⟨5, _⟩ => ⟨S16x2048, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S3x512, .f32⟩
  | .local _ .vmem, ⟨11, _⟩ => ⟨S3x512, .f32⟩
  | .local _ .vmem, ⟨12, _⟩ => ⟨S1x512, .f32⟩
  | .local _ .vmem, ⟨13, _⟩ => ⟨S1x512, .f32⟩
  | .local _ .vmem, ⟨14, _⟩ => ⟨S2048x512, .bf16⟩
  | .local _ .vmem, ⟨15, _⟩ => ⟨S2048x512, .bf16⟩
  | .local _ .vmem, ⟨16, _⟩ => ⟨S2080x2048, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S1x16384x2048 : Shape := ⟨3, ![1, 16384, 2048]⟩
abbrev S1x2048x11264 : Shape := ⟨3, ![1, 2048, 11264]⟩
abbrev S1x3x5632 : Shape := ⟨3, ![1, 3, 5632]⟩
abbrev S1x5632 : Shape := ⟨2, ![1, 5632]⟩
abbrev S2048x11264 : Shape := ⟨2, ![2048, 11264]⟩
abbrev S1x16384x11264 : Shape := ⟨3, ![1, 16384, 11264]⟩
abbrev S1x16384x5632 : Shape := ⟨3, ![1, 16384, 5632]⟩
abbrev S3x5632 : Shape := ⟨2, ![3, 5632]⟩
abbrev S5632 : Shape := ⟨1, ![5632]⟩
abbrev S_ : Shape := ⟨0, ![]⟩
abbrev S1x1x5632 : Shape := ⟨3, ![1, 1, 5632]⟩
abbrev S1x16383x5632 : Shape := ⟨3, ![1, 16383, 5632]⟩
abbrev S16384x5632 : Shape := ⟨2, ![16384, 5632]⟩

abbrev nBuf : Space → Nat
  | .hbm => 48
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x2048x11264, .f32⟩
  | .hbm, ⟨2, _⟩ => ⟨S1x3x5632, .f32⟩
  | .hbm, ⟨3, _⟩ => ⟨S1x5632, .f32⟩
  | .hbm, ⟨4, _⟩ => ⟨S2048x11264, .f32⟩
  | .hbm, ⟨5, _⟩ => ⟨S1x16384x11264, .f32⟩
  | .hbm, ⟨6, _⟩ => ⟨S1x16384x5632, .f32⟩
  | .hbm, ⟨7, _⟩ => ⟨S1x16384x5632, .f32⟩
  | .hbm, ⟨8, _⟩ => ⟨S3x5632, .f32⟩
  | .hbm, ⟨9, _⟩ => ⟨S5632, .f32⟩
  | .hbm, ⟨10, _⟩ => ⟨S_, .f32⟩
  | .hbm, ⟨11, _⟩ => ⟨S1x1x5632, .f32⟩
  | .hbm, ⟨12, _⟩ => ⟨S1x16383x5632, .f32⟩
  | .hbm, ⟨13, _⟩ => ⟨S1x16384x5632, .f32⟩
  | .hbm, ⟨14, _⟩ => ⟨S1x16383x5632, .f32⟩
  | .hbm, ⟨15, _⟩ => ⟨S1x16384x5632, .f32⟩
  | .hbm, ⟨16, _⟩ => ⟨S1x5632, .f32⟩
  | .hbm, ⟨17, _⟩ => ⟨S5632, .f32⟩
  | .hbm, ⟨18, _⟩ => ⟨S1x1x5632, .f32⟩
  | .hbm, ⟨19, _⟩ => ⟨S1x16384x5632, .f32⟩
  | .hbm, ⟨20, _⟩ => ⟨S1x16384x5632, .f32⟩
  | .hbm, ⟨21, _⟩ => ⟨S1x5632, .f32⟩
  | .hbm, ⟨22, _⟩ => ⟨S5632, .f32⟩
  | .hbm, ⟨23, _⟩ => ⟨S1x1x5632, .f32⟩
  | .hbm, ⟨24, _⟩ => ⟨S1x16384x5632, .f32⟩
  | .hbm, ⟨25, _⟩ => ⟨S1x16384x5632, .f32⟩
  | .hbm, ⟨26, _⟩ => ⟨S1x16384x5632, .f32⟩
  | .hbm, ⟨27, _⟩ => ⟨S1x5632, .f32⟩
  | .hbm, ⟨28, _⟩ => ⟨S5632, .f32⟩
  | .hbm, ⟨29, _⟩ => ⟨S1x1x5632, .f32⟩
  | .hbm, ⟨30, _⟩ => ⟨S1x16384x5632, .f32⟩
  | .hbm, ⟨31, _⟩ => ⟨S1x16384x5632, .f32⟩
  | .hbm, ⟨32, _⟩ => ⟨S1x16384x5632, .f32⟩
  | .hbm, ⟨33, _⟩ => ⟨S1x1x5632, .f32⟩
  | .hbm, ⟨34, _⟩ => ⟨S1x16384x5632, .f32⟩
  | .hbm, ⟨35, _⟩ => ⟨S1x16384x5632, .f32⟩
  | .hbm, ⟨36, _⟩ => ⟨S1x16384x5632, .f32⟩
  | .hbm, ⟨37, _⟩ => ⟨S1x16384x5632, .f32⟩
  | .hbm, ⟨38, _⟩ => ⟨S_, .f32⟩
  | .hbm, ⟨39, _⟩ => ⟨S1x16384x5632, .f32⟩
  | .hbm, ⟨40, _⟩ => ⟨S1x16384x5632, .f32⟩
  | .hbm, ⟨41, _⟩ => ⟨S_, .f32⟩
  | .hbm, ⟨42, _⟩ => ⟨S1x16384x5632, .f32⟩
  | .hbm, ⟨43, _⟩ => ⟨S1x16384x5632, .f32⟩
  | .hbm, ⟨44, _⟩ => ⟨S1x16384x5632, .f32⟩
  | .hbm, ⟨45, _⟩ => ⟨S1x16384x5632, .f32⟩
  | .hbm, ⟨46, _⟩ => ⟨S16384x5632, .f32⟩
  | .hbm, ⟨47, _⟩ => ⟨S16384x5632, .bf16⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_0 : Ref sig .tc := ⟨.hbm, 38, rfl⟩
abbrev main_v33 : Ref sig .tc := ⟨.hbm, 39, rfl⟩
abbrev main_v34 : Ref sig .tc := ⟨.hbm, 40, rfl⟩
abbrev main_cst_1 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩

abbrev nD : Nat := 1
abbrev τ : Topo := Topo.v7x

variable {F : FTy → Type} [FloatOps F]
-- ==== Kernel2.lean ====
abbrev S1x16384x5632 : Shape := ⟨3, ![1, 16384, 5632]⟩
abbrev S1x5632x2048 : Shape := ⟨3, ![1, 5632, 2048]⟩
abbrev S1x16384x2048 : Shape := ⟨3, ![1, 16384, 2048]⟩
abbrev S2048 : Shape := ⟨1, ![2048]⟩
abbrev S16384x5632 : Shape := ⟨2, ![16384, 5632]⟩
abbrev S5632x2048 : Shape := ⟨2, ![5632, 2048]⟩
abbrev S16384x2048 : Shape := ⟨2, ![16384, 2048]⟩
abbrev S1x2048 : Shape := ⟨2, ![1, 2048]⟩
abbrev S1024x1408 : Shape := ⟨2, ![1024, 1408]⟩
abbrev S1408x2048 : Shape := ⟨2, ![1408, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 11
  | .vmem => 9
  | .smem => 0
  | _ => 0

abbrev bufTy : (tb : Table) → Fin (tcTables nBuf tb) → BufTy
  | .hbm, ⟨0, _⟩ => ⟨S1x16384x5632, .f32⟩
  | .hbm, ⟨1, _⟩ => ⟨S1x5632x2048, .f32⟩
  | .hbm, ⟨2, _⟩ => ⟨S1x16384x2048, .f32⟩
  | .hbm, ⟨3, _⟩ => ⟨S2048, .f32⟩
  | .hbm, ⟨4, _⟩ => ⟨S16384x5632, .f32⟩
  | .hbm, ⟨5, _⟩ => ⟨S16384x5632, .bf16⟩
  | .hbm, ⟨6, _⟩ => ⟨S5632x2048, .f32⟩
  | .hbm, ⟨7, _⟩ => ⟨S5632x2048, .bf16⟩
  | .hbm, ⟨8, _⟩ => ⟨S16384x2048, .f32⟩
  | .hbm, ⟨9, _⟩ => ⟨S1x2048, .f32⟩
  | .hbm, ⟨10, _⟩ => ⟨S16384x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x2048, .bf16⟩
  | .local _ .vmem, ⟨3, _⟩ => ⟨S1408x2048, .bf16⟩
  | .local _ .vmem, ⟨4, _⟩ => ⟨S1024x2048, .f32⟩
  | .local _ .vmem, ⟨5, _⟩ => ⟨S1024x2048, .f32⟩
  | .local _ .vmem, ⟨6, _⟩ => ⟨S1x2048, .f32⟩
  | .local _ .vmem, ⟨7, _⟩ => ⟨S1024x2048, .f32⟩
  | .local _ .vmem, ⟨8, _⟩ => ⟨S1024x2048, .f32⟩
  | _, _ => ⟨S1x16384x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S1x16384x5632 : Shape := ⟨3, ![1, 16384, 5632]⟩
abbrev S1x5632x2048 : Shape := ⟨3, ![1, 5632, 2048]⟩
abbrev S1x16384x2048 : Shape := ⟨3, ![1, 16384, 2048]⟩
abbrev S2048 : Shape := ⟨1, ![2048]⟩
abbrev S5632x2048 : Shape := ⟨2, ![5632, 2048]⟩
abbrev S_ : Shape := ⟨0, ![]⟩
abbrev S1x16384 : Shape := ⟨2, ![1, 16384]⟩
abbrev S1x16384x1 : Shape := ⟨3, ![1, 16384, 1]⟩
abbrev S1x1x2048 : Shape := ⟨3, ![1, 1, 2048]⟩
abbrev S16384x2048 : Shape := ⟨2, ![16384, 2048]⟩

abbrev nBuf : Space → Nat
  | .hbm => 24
  | .vmem => 0
  | .smem => 0
  | _ => 0

abbrev bufTy : (tb : Table) → Fin (tcTables nBuf tb) → BufTy
  | .hbm, ⟨0, _⟩ => ⟨S1x16384x5632, .f32⟩
  | .hbm, ⟨1, _⟩ => ⟨S1x5632x2048, .f32⟩
  | .hbm, ⟨2, _⟩ => ⟨S1x16384x2048, .f32⟩
  | .hbm, ⟨3, _⟩ => ⟨S2048, .f32⟩
  | .hbm, ⟨4, _⟩ => ⟨S5632x2048, .f32⟩
  | .hbm, ⟨5, _⟩ => ⟨S1x16384x2048, .f32⟩
  | .hbm, ⟨6, _⟩ => ⟨S1x16384x2048, .f32⟩
  | .hbm, ⟨7, _⟩ => ⟨S1x16384x2048, .f32⟩
  | .hbm, ⟨8, _⟩ => ⟨S_, .f32⟩
  | .hbm, ⟨9, _⟩ => ⟨S1x16384, .f32⟩
  | .hbm, ⟨10, _⟩ => ⟨S1x16384x1, .f32⟩
  | .hbm, ⟨11, _⟩ => ⟨S_, .f32⟩
  | .hbm, ⟨12, _⟩ => ⟨S1x16384x1, .f32⟩
  | .hbm, ⟨13, _⟩ => ⟨S1x16384x1, .f32⟩
  | .hbm, ⟨14, _⟩ => ⟨S_, .f32⟩
  | .hbm, ⟨15, _⟩ => ⟨S1x16384x1, .f32⟩
  | .hbm, ⟨16, _⟩ => ⟨S1x16384x1, .f32⟩
  | .hbm, ⟨17, _⟩ => ⟨S1x16384x1, .f32⟩
  | .hbm, ⟨18, _⟩ => ⟨S1x16384x2048, .f32⟩
  | .hbm, ⟨19, _⟩ => ⟨S1x16384x2048, .f32⟩
  | .hbm, ⟨20, _⟩ => ⟨S1x1x2048, .f32⟩
  | .hbm, ⟨21, _⟩ => ⟨S1x16384x2048, .f32⟩
  | .hbm, ⟨22, _⟩ => ⟨S1x16384x2048, .f32⟩
  | .hbm, ⟨23, _⟩ => ⟨S16384x2048, .f32⟩
  | _, _ => ⟨S1x16384x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel3.lean ====
abbrev S1x16384x2048 : Shape := ⟨3, ![1, 16384, 2048]⟩
abbrev S1x16384x1024 : Shape := ⟨3, ![1, 16384, 1024]⟩
abbrev S1x2048x2048 : Shape := ⟨3, ![1, 2048, 2048]⟩
abbrev S1x2048 : Shape := ⟨2, ![1, 2048]⟩
abbrev S16384x1024 : Shape := ⟨2, ![16384, 1024]⟩
abbrev S2048x2048 : Shape := ⟨2, ![2048, 2048]⟩
abbrev S16384x2048 : Shape := ⟨2, ![16384, 2048]⟩
abbrev S512x1024 : Shape := ⟨2, ![512, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S1x16384x2048, .f32⟩
  | .hbm, ⟨1, _⟩ => ⟨S1x16384x1024, .f32⟩
  | .hbm, ⟨2, _⟩ => ⟨S1x16384x1024, .f32⟩
  | .hbm, ⟨3, _⟩ => ⟨S1x2048x2048, .f32⟩
  | .hbm, ⟨4, _⟩ => ⟨S1x2048, .f32⟩
  | .hbm, ⟨5, _⟩ => ⟨S16384x1024, .f32⟩
  | .hbm, ⟨6, _⟩ => ⟨S16384x1024, .bf16⟩
  | .hbm, ⟨7, _⟩ => ⟨S16384x1024, .f32⟩
  | .hbm, ⟨8, _⟩ => ⟨S16384x1024, .bf16⟩
  | .hbm, ⟨9, _⟩ => ⟨S2048x2048, .f32⟩
  | .hbm, ⟨10, _⟩ => ⟨S2048x2048, .bf16⟩
  | .hbm, ⟨11, _⟩ => ⟨S16384x2048, .f32⟩
  | .hbm, ⟨12, _⟩ => ⟨S16384x2048, .f32⟩
  | .hbm, ⟨13, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S1x16384x2048 : Shape := ⟨3, ![1, 16384, 2048]⟩
abbrev S1x16384x1024 : Shape := ⟨3, ![1, 16384, 1024]⟩
abbrev S1x2048x2048 : Shape := ⟨3, ![1, 2048, 2048]⟩
abbrev S1x2048 : Shape := ⟨2, ![1, 2048]⟩
abbrev S16384x2048 : Shape := ⟨2, ![16384, 2048]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩

abbrev nBuf : Space → Nat
  | .hbm => 29
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x16384x1024, .f32⟩
  | .hbm, ⟨2, _⟩ => ⟨S1x16384x1024, .f32⟩
  | .hbm, ⟨3, _⟩ => ⟨S1x2048x2048, .f32⟩
  | .hbm, ⟨4, _⟩ => ⟨S1x2048, .f32⟩
  | .hbm, ⟨5, _⟩ => ⟨S16384x2048, .f32⟩
  | .hbm, ⟨6, _⟩ => ⟨S1x16384x2048, .f32⟩
  | .hbm, ⟨7, _⟩ => ⟨S2048x2048, .f32⟩
  | .hbm, ⟨8, _⟩ => ⟨S1x16384x2048, .f32⟩
  | .hbm, ⟨9, _⟩ => ⟨S16384x2048, .f32⟩
  | .hbm, ⟨10, _⟩ => ⟨S16384x2048, .f32⟩
  | .hbm, ⟨11, _⟩ => ⟨S2048, .f32⟩
  | .hbm, ⟨12, _⟩ => ⟨S16384x2048, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x2048, .f32⟩
  | .hbm, ⟨24, _⟩ => ⟨S16384x2048, .f32⟩
  | .hbm, ⟨25, _⟩ => ⟨S1x2048, .f32⟩
  | .hbm, ⟨26, _⟩ => ⟨S16384x2048, .f32⟩
  | .hbm, ⟨27, _⟩ => ⟨S16384x2048, .f32⟩
  | .hbm, ⟨28, _⟩ => ⟨S16384x2048, .bf16⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel4.lean ====
abbrev S1x16384x2048 : Shape := ⟨3, ![1, 16384, 2048]⟩
abbrev S1x2048 : Shape := ⟨2, ![1, 2048]⟩
abbrev S1x2048x6144 : Shape := ⟨3, ![1, 2048, 6144]⟩
abbrev S6144 : Shape := ⟨1, ![6144]⟩
abbrev S1x6144 : Shape := ⟨2, ![1, 6144]⟩
abbrev S16384x2048 : Shape := ⟨2, ![16384, 2048]⟩
abbrev S2048x6144 : Shape := ⟨2, ![2048, 6144]⟩
abbrev S16384x4096 : Shape := ⟨2, ![16384, 4096]⟩
abbrev S1024x16384 : Shape := ⟨2, ![1024, 16384]⟩
abbrev S4x4096x3072 : Shape := ⟨3, ![4, 4096, 3072]⟩
abbrev S16x1024x3072 : Shape := ⟨3, ![16, 1024, 3072]⟩
abbrev S512x2048 : Shape := ⟨2, ![512, 2048]⟩
abbrev S2048x1024 : Shape := ⟨2, ![2048, 1024]⟩
abbrev S1x1024 : Shape := ⟨2, ![1, 1024]⟩
abbrev S512x1024 : Shape := ⟨2, ![512, 1024]⟩
abbrev S1024x512 : Shape := ⟨2, ![1024, 512]⟩
abbrev S4x128x1024 : Shape := ⟨3, ![4, 128, 1024]⟩
abbrev S16x32x1024 : Shape := ⟨3, ![16, 32, 1024]⟩
abbrev S2x8x512x128 : Shape := ⟨4, ![2, 8, 512, 128]⟩
abbrev S512 : Shape := ⟨1, ![512]⟩
abbrev S512x1 : Shape := ⟨2, ![512, 1]⟩
abbrev S512x128 : Shape := ⟨2, ![512, 128]⟩
abbrev S1x1x512x128 : Shape := ⟨4, ![1, 1, 512, 128]⟩
abbrev S1x1x128x128 : Shape := ⟨4, ![1, 1, 128, 128]⟩
abbrev S128x128 : Shape := ⟨2, ![128, 128]⟩
abbrev S1x128x128 : Shape := ⟨3, ![1, 128, 128]⟩
abbrev S1x1x32x128 : Shape := ⟨4, ![1, 1, 32, 128]⟩
abbrev S32x128 : Shape := ⟨2, ![32, 128]⟩
abbrev S1x32x128 : Shape := ⟨3, ![1, 32, 128]⟩

abbrev nBuf : Space → Nat
  | .hbm => 13
  | .vmem => 19
  | .smem => 0
  | _ => 0

abbrev bufTy : (tb : Table) → Fin (tcTables nBuf tb) → BufTy
  | .hbm, ⟨0, _⟩ => ⟨S1x16384x2048, .f32⟩
  | .hbm, ⟨1, _⟩ => ⟨S1x2048, .f32⟩
  | .hbm, ⟨2, _⟩ => ⟨S1x2048x6144, .f32⟩
  | .hbm, ⟨3, _⟩ => ⟨S6144, .f32⟩
  | .hbm, ⟨4, _⟩ => ⟨S1x6144, .f32⟩
  | .hbm, ⟨5, _⟩ => ⟨S16384x2048, .f32⟩
  | .hbm, ⟨6, _⟩ => ⟨S2048x6144, .f32⟩
  | .hbm, ⟨7, _⟩ => ⟨S2048x6144, .bf16⟩
  | .hbm, ⟨8, _⟩ => ⟨S16384x4096, .bf16⟩
  | .hbm, ⟨9, _⟩ => ⟨S1024x16384, .bf16⟩
  | .hbm, ⟨10, _⟩ => ⟨S1024x16384, .bf16⟩
  | .hbm, ⟨11, _⟩ => ⟨S4x4096x3072, .bf16⟩
  | .hbm, ⟨12, _⟩ => ⟨S16x1024x3072, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S4x128x1024, .bf16⟩
  | .local _ .vmem, ⟨14, _⟩ => ⟨S4x128x1024, .bf16⟩
  | .local _ .vmem, ⟨15, _⟩ => ⟨S16x32x1024, .bf16⟩
  | .local _ .vmem, ⟨16, _⟩ => ⟨S16x32x1024, .bf16⟩
  | .local _ .vmem, ⟨17, _⟩ => ⟨S512x2048, .bf16⟩
  | .local _ .vmem, ⟨18, _⟩ => ⟨S2x8x512x128, .f32⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![32, 6], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_4 : BitVec 32 := 0#32
  let v11 : BitVec 1 := Scalar.cmpi .ne v10 c0_i32_4
  v11

def k0_cond6 (i : grid0.Coords) : BitVec 1 :=
  let arg1 : BitVec 32 := BitVec.ofNat 32 (i 1).val
  let c4_i32 : BitVec 32 := 4#32
  let v15 : BitVec 1 := Scalar.cmpi .eq arg1 c4_i32
  let v16 : BitVec 32 := Scalar.extui v15
  let c0_i32_6 : BitVec 32 := 0#32
  let v17 : BitVec 1 := Scalar.cmpi .ne v16 c0_i32_6
  v17

def k0_cond5 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_5 : BitVec 32 := 0#32
  let v14 : BitVec 1 := Scalar.cmpi .ne v13 c0_i32_5
  v14

def k0_cond7 (i : grid0.Coords) : BitVec 1 :=
  let arg1 : BitVec 32 := BitVec.ofNat 32 (i 1).val
  let c5_i32 : BitVec 32 := 5#32
  let v18 : BitVec 1 := Scalar.cmpi .eq arg1 c5_i32
  let v19 : BitVec 32 := Scalar.extui v18
  let c0_i32_7 : BitVec 32 := 0#32
  let v20 : BitVec 1 := Scalar.cmpi .ne v19 c0_i32_7
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi arg1 c3_i32
  let c6_i32 : BitVec 32 := 6#32
  let c0_i32 : BitVec 32 := 0#32
  let v1 : BitVec 1 := Scalar.cmpi .eq c6_i32 c0_i32
  let c1_i32 : BitVec 32 := 1#32
  let v2 : BitVec 32 := Scalar.select v1 c1_i32 c6_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![c0_i32_3.toNat, v10.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi arg1 c3_i32
  let c6_i32 : BitVec 32 := 6#32
  let c0_i32 : BitVec 32 := 0#32
  let v1 : BitVec 1 := Scalar.cmpi .eq c6_i32 c0_i32
  let c1_i32 : BitVec 32 := 1#32
  let v2 : BitVec 32 := Scalar.select v1 c1_i32 c6_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![c0_i32_3.toNat, v10.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .slt arg1 c3_i32
  let c1_i32 : BitVec 32 := 1#32
  let v1 : BitVec 32 := Scalar.addi arg1 c1_i32
  let c0_i32 : BitVec 32 := 0#32
  let v2 : BitVec 32 := Scalar.select v0 v1 c0_i32
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  let c0_i32_1 : BitVec 32 := 0#32
  ![c0_i32_0.toNat, arg0.toNat, v2.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  let c0_i32_1 : BitVec 32 := 0#32
  ![c0_i32_0.toNat, arg0.toNat, v2.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4x128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x32x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S1x16384x2048 : Shape := ⟨3, ![1, 16384, 2048]⟩
abbrev S1x2048 : Shape := ⟨2, ![1, 2048]⟩
abbrev S1x2048x6144 : Shape := ⟨3, ![1, 2048, 6144]⟩
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x6144 : Shape := ⟨2, ![2048, 6144]⟩
abbrev S16384x6144 : Shape := ⟨2, ![16384, 6144]⟩
abbrev S16384x1024 : Shape := ⟨2, ![16384, 1024]⟩
abbrev S16384x3072 : Shape := ⟨2, ![16384, 3072]⟩
abbrev S16384x4096 : Shape := ⟨2, ![16384, 4096]⟩
abbrev S1024x16384 : Shape := ⟨2, ![1024, 16384]⟩
abbrev S4096x4x3072 : Shape := ⟨3, ![4096, 4, 3072]⟩
abbrev S4x4096x3072 : Shape := ⟨3, ![4, 4096, 3072]⟩
abbrev S1024x16x3072 : Shape := ⟨3, ![1024, 16, 3072]⟩
abbrev S16x1024x3072 : Shape := ⟨3, ![16, 1024, 3072]⟩

abbrev nBuf : Space → Nat
  | .hbm => 48
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x2048, .f32⟩
  | .hbm, ⟨2, _⟩ => ⟨S1x2048x6144, .f32⟩
  | .hbm, ⟨3, _⟩ => ⟨S16384x2048, .f32⟩
  | .hbm, ⟨4, _⟩ => ⟨S2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S2048x6144, .f32⟩
  | .hbm, ⟨22, _⟩ => ⟨S16384x6144, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S16384x3072, .f32⟩
  | .hbm, ⟨33, _⟩ => ⟨S16384x4096, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S1024x16384, .f32⟩
  | .hbm, ⟨38, _⟩ => ⟨S1024x16384, .f32⟩
  | .hbm, ⟨39, _⟩ => ⟨S4096x4x3072, .f32⟩
  | .hbm, ⟨40, _⟩ => ⟨S4x4096x3072, .f32⟩
  | .hbm, ⟨41, _⟩ => ⟨S1024x16x3072, .f32⟩
  | .hbm, ⟨42, _⟩ => ⟨S16x1024x3072, .f32⟩
  | .hbm, ⟨43, _⟩ => ⟨S16384x4096, .bf16⟩
  | .hbm, ⟨44, _⟩ => ⟨S1024x16384, .bf16⟩
  | .hbm, ⟨45, _⟩ => ⟨S1024x16384, .bf16⟩
  | .hbm, ⟨46, _⟩ => ⟨S4x4096x3072, .bf16⟩
  | .hbm, ⟨47, _⟩ => ⟨S16x1024x3072, .bf16⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩

abbrev nD : Nat := 1
abbrev τ : Topo := Topo.v7x

variable {F : FTy → Type} [FloatOps F]
-- ==== Kernel5.lean ====
abbrev S1x16384x6144 : Shape := ⟨3, ![1, 16384, 6144]⟩
abbrev S32x12 : Shape := ⟨2, ![32, 12]⟩
abbrev S1x1 : Shape := ⟨2, ![1, 1]⟩
abbrev S1x256 : Shape := ⟨2, ![1, 256]⟩
abbrev S1x2048x2048 : Shape := ⟨3, ![1, 2048, 2048]⟩
abbrev S1x2048x11264 : Shape := ⟨3, ![1, 2048, 11264]⟩
abbrev S1x5632x2048 : Shape := ⟨3, ![1, 5632, 2048]⟩
abbrev S16384x6144 : Shape := ⟨2, ![16384, 6144]⟩
abbrev S16384x1024 : Shape := ⟨2, ![16384, 1024]⟩
abbrev S_ : Shape := ⟨0, ![]⟩
abbrev S1024x16384 : Shape := ⟨2, ![1024, 16384]⟩
abbrev S16384x3072 : Shape := ⟨2, ![16384, 3072]⟩
abbrev S16384x4096 : Shape := ⟨2, ![16384, 4096]⟩
abbrev S256x1 : Shape := ⟨2, ![256, 1]⟩
abbrev S2048x2048 : Shape := ⟨2, ![2048, 2048]⟩
abbrev S2048x11264 : Shape := ⟨2, ![2048, 11264]⟩
abbrev S5632x2048 : Shape := ⟨2, ![5632, 2048]⟩
abbrev S128x1024 : Shape := ⟨2, ![128, 1024]⟩
abbrev S16384x128 : Shape := ⟨2, ![16384, 128]⟩
abbrev S256x16384 : Shape := ⟨2, ![256, 16384]⟩
abbrev S32x2048 : Shape := ⟨2, ![32, 2048]⟩
abbrev S32x11264 : Shape := ⟨2, ![32, 11264]⟩
abbrev S176x2048 : Shape := ⟨2, ![176, 2048]⟩
abbrev S1024x256 : Shape := ⟨2, ![1024, 256]⟩
abbrev S3x1024x1024 : Shape := ⟨3, ![3, 1024, 1024]⟩
abbrev S2x1x1024 : Shape := ⟨3, ![2, 1, 1024]⟩
abbrev S2x256x1024 : Shape := ⟨3, ![2, 256, 1024]⟩
abbrev S8x1024x256 : Shape := ⟨3, ![8, 1024, 256]⟩
abbrev S2x1x1 : Shape := ⟨3, ![2, 1, 1]⟩
abbrev S1 : Shape := ⟨1, ![1]⟩
abbrev S1024x128 : Shape := ⟨2, ![1024, 128]⟩
abbrev S1024 : Shape := ⟨1, ![1024]⟩
abbrev S1024x1 : Shape := ⟨2, ![1024, 1]⟩
abbrev S1x1x1 : Shape := ⟨3, ![1, 1, 1]⟩
abbrev S8x2048 : Shape := ⟨2, ![8, 2048]⟩
abbrev S1x2048 : Shape := ⟨2, ![1, 2048]⟩
abbrev S128x2048 : Shape := ⟨2, ![128, 2048]⟩
abbrev S1x128x1024 : Shape := ⟨3, ![1, 128, 1024]⟩
abbrev S1x1024 : Shape := ⟨2, ![1, 1024]⟩
abbrev S1x1x1024 : Shape := ⟨3, ![1, 1, 1024]⟩
abbrev S1x1024x256 : Shape := ⟨3, ![1, 1024, 256]⟩
abbrev S1x256x256 : Shape := ⟨3, ![1, 256, 256]⟩
abbrev S256x256 : Shape := ⟨2, ![256, 256]⟩
abbrev S256x1024 : Shape := ⟨2, ![256, 1024]⟩
abbrev S128x256 : Shape := ⟨2, ![128, 256]⟩
abbrev S1x1x256 : Shape := ⟨3, ![1, 1, 256]⟩
abbrev S256 : Shape := ⟨1, ![256]⟩
abbrev S1x2x1x1024 : Shape := ⟨4, ![1, 2, 1, 1024]⟩
abbrev S1x1x1x1 : Shape := ⟨4, ![1, 1, 1, 1]⟩
abbrev S1x256x1024 : Shape := ⟨3, ![1, 256, 1024]⟩

abbrev nBuf : Space → Nat
  | .hbm => 32
  | .vmem => 29
  | .smem => 3
  | _ => 0

abbrev bufTy : (tb : Table) → Fin (tcTables nBuf tb) → BufTy
  | .hbm, ⟨0, _⟩ => ⟨S1x16384x6144, .f32⟩
  | .hbm, ⟨1, _⟩ => ⟨S32x12, .f32⟩
  | .hbm, ⟨2, _⟩ => ⟨S1x1, .f32⟩
  | .hbm, ⟨3, _⟩ => ⟨S1x256, .f32⟩
  | .hbm, ⟨4, _⟩ => ⟨S1x2048x2048, .f32⟩
  | .hbm, ⟨5, _⟩ => ⟨S1x2048x11264, .f32⟩
  | .hbm, ⟨6, _⟩ => ⟨S1x5632x2048, .f32⟩
  | .hbm, ⟨7, _⟩ => ⟨S16384x6144, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S1024x16384, .f32⟩
  | .hbm, ⟨13, _⟩ => ⟨S1024x16384, .bf16⟩
  | .hbm, ⟨14, _⟩ => ⟨S16384x1024, .f32⟩
  | .hbm, ⟨15, _⟩ => ⟨S1024x16384, .f32⟩
  | .hbm, ⟨16, _⟩ => ⟨S1024x16384, .bf16⟩
  | .hbm, ⟨17, _⟩ => ⟨S16384x1024, .f32⟩
  | .hbm, ⟨18, _⟩ => ⟨S16384x3072, .f32⟩
  | .hbm, ⟨19, _⟩ => ⟨S16384x4096, .f32⟩
  | .hbm, ⟨20, _⟩ => ⟨S16384x4096, .bf16⟩
  | .hbm, ⟨21, _⟩ => ⟨S_, .f32⟩
  | .hbm, ⟨22, _⟩ => ⟨S32x12, .f32⟩
  | .hbm, ⟨23, _⟩ => ⟨S32x12, .f32⟩
  | .hbm, ⟨24, _⟩ => ⟨S256x1, .f32⟩
  | .hbm, ⟨25, _⟩ => ⟨S2048x2048, .f32⟩
  | .hbm, ⟨26, _⟩ => ⟨S2048x11264, .f32⟩
  | .hbm, ⟨27, _⟩ => ⟨S5632x2048, .f32⟩
  | .hbm, ⟨28, _⟩ => ⟨S16384x1024, .bf16⟩
  | .hbm, ⟨29, _⟩ => ⟨S2048x2048, .bf16⟩
  | .hbm, ⟨30, _⟩ => ⟨S2048x11264, .bf16⟩
  | .hbm, ⟨31, _⟩ => ⟨S5632x2048, .bf16⟩
  | .local _ .vmem, ⟨0, _⟩ => ⟨S128x1024, .bf16⟩
  | .local _ .vmem, ⟨1, _⟩ => ⟨S128x1024, .bf16⟩
  | .local _ .vmem, ⟨2, _⟩ => ⟨S16384x128, .bf16⟩
  | .local _ .vmem, ⟨3, _⟩ => ⟨S16384x128, .bf16⟩
  | .local _ .vmem, ⟨4, _⟩ => ⟨S256x16384, .bf16⟩
  | .local _ .vmem, ⟨5, _⟩ => ⟨S256x1, .f32⟩
  | .local _ .vmem, ⟨6, _⟩ => ⟨S128x1024, .bf16⟩
  | .local _ .vmem, ⟨7, _⟩ => ⟨S128x1024, .bf16⟩
  | .local _ .vmem, ⟨8, _⟩ => ⟨S32x2048, .f32⟩
  | .local _ .vmem, ⟨9, _⟩ => ⟨S32x2048, .f32⟩
  | .local _ .vmem, ⟨10, _⟩ => ⟨S32x11264, .f32⟩
  | .local _ .vmem, ⟨11, _⟩ => ⟨S32x11264, .f32⟩
  | .local _ .vmem, ⟨12, _⟩ => ⟨S176x2048, .f32⟩
  | .local _ .vmem, ⟨13, _⟩ => ⟨S176x2048, .f32⟩
  | .local _ .vmem, ⟨14, _⟩ => ⟨S1024x256, .bf16⟩
  | .local _ .vmem, ⟨15, _⟩ => ⟨S1024x256, .bf16⟩
  | .local _ .vmem, ⟨16, _⟩ => ⟨S32x2048, .bf16⟩
  | .local _ .vmem, ⟨17, _⟩ => ⟨S32x2048, .bf16⟩
  | .local _ .vmem, ⟨18, _⟩ => ⟨S32x11264, .bf16⟩
  | .local _ .vmem, ⟨19, _⟩ => ⟨S32x11264, .bf16⟩
  | .local _ .vmem, ⟨20, _⟩ => ⟨S176x2048, .bf16⟩
  | .local _ .vmem, ⟨21, _⟩ => ⟨S176x2048, .bf16⟩
  | .local _ .vmem, ⟨22, _⟩ => ⟨S3x1024x1024, .f32⟩
  | .local _ .vmem, ⟨23, _⟩ => ⟨S2x1x1024, .f32⟩
  | .local _ .vmem, ⟨24, _⟩ => ⟨S2x1x1024, .f32⟩
  | .local _ .vmem, ⟨25, _⟩ => ⟨S2x256x1024, .f32⟩
  | .local _ .vmem, ⟨26, _⟩ => ⟨S8x1024x256, .bf16⟩
  | .local _ .vmem, ⟨27, _⟩ => ⟨S2x1x1024, .f32⟩
  | .local _ .vmem, ⟨28, _⟩ => ⟨S2x1x1, .f32⟩
  | .local _ .smem, ⟨0, _⟩ => ⟨S32x12, .f32⟩
  | .local _ .smem, ⟨1, _⟩ => ⟨S1x1, .f32⟩
  | .local _ .smem, ⟨2, _⟩ => ⟨S1, .i32⟩
  | _, _ => ⟨S1x16384x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_v19_2 : Ref sig .tc := ⟨.hbm, 30, rfl⟩
abbrev main_v19_3 : Ref sig .tc := ⟨.hbm, 31, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_stg0_0 : Ref sig .tc := ⟨.smem, 0, rfl⟩
abbrev cc0_stg7_0 : Ref sig .tc := ⟨.smem, 1, rfl⟩
abbrev cc0_scratch7 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_125 : BitVec 32 := 0#32
  let c16_i32_126 : BitVec 32 := 16#32
  let v283 : BitVec 32 := Scalar.addi c0_i32_125 c16_i32_126
  let c1_i32_127 : BitVec 32 := 1#32
  ⟨c0_i32_125, v283, c1_i32_127⟩
def k0_mult1 (k0_t1 : Fin k0_t1_loop.trips) : BitVec 32 :=
  let c0_i32_125 : BitVec 32 := 0#32
  let c1_i32_127 : BitVec 32 := 1#32
  let arg25 : BitVec 32 := Scf.iv c0_i32_125 c1_i32_127 k0_t1
  let c1024_i32_384 : BitVec 32 := 1024#32
  let v984 : BitVec 32 := Scalar.muli arg25 c1024_i32_384
  v984
def k0_off1 (k0_t1 : Fin k0_t1_loop.trips) : Fin 2 → Nat :=
  let c0_i32_125 : BitVec 32 := 0#32
  let c1_i32_127 : BitVec 32 := 1#32
  let arg25 : BitVec 32 := Scf.iv c0_i32_125 c1_i32_127 k0_t1
  let c1024_i32_384 : BitVec 32 := 1024#32
  let v984 : BitVec 32 := Scalar.muli arg25 c1024_i32_384
  let v985 : BitVec 32 := v984
  let v986 : Index := Scalar.indexCast v985
  let c0_385 : Index := 0#32
  ![v986.toNat, 0]
@[reducible] def k0_t2_loop : Scf.Loop 32 :=
  let c0_i32_133 : BitVec 32 := 0#32
  let c16_i32_134 : BitVec 32 := 16#32
  let v289 : BitVec 32 := Scalar.addi c0_i32_133 c16_i32_134
  let c1_i32_135 : BitVec 32 := 1#32
  ⟨c0_i32_133, v289, c1_i32_135⟩
def k0_mult2 (k0_t2 : Fin k0_t2_loop.trips) : BitVec 32 :=
  let c0_i32_133 : BitVec 32 := 0#32
  let c1_i32_135 : BitVec 32 := 1#32
  let arg25 : BitVec 32 := Scf.iv c0_i32_133 c1_i32_135 k0_t2
  let c1024_i32_384 : BitVec 32 := 1024#32
  let v984 : BitVec 32 := Scalar.muli arg25 c1024_i32_384
  v984
def k0_off2 (k0_t2 : Fin k0_t2_loop.trips) : Fin 2 → Nat :=
  let c0_i32_133 : BitVec 32 := 0#32
  let c1_i32_135 : BitVec 32 := 1#32
  let arg25 : BitVec 32 := Scf.iv c0_i32_133 c1_i32_135 k0_t2
  let c1024_i32_384 : BitVec 32 := 1024#32
  let v984 : BitVec 32 := Scalar.muli arg25 c1024_i32_384
  let v985 : BitVec 32 := v984
  let v986 : Index := Scalar.indexCast v985
  let c0_385 : Index := 0#32
  ![v986.toNat, 0]
def k0_off3 (i : grid0.Coords) : Fin 2 → Nat :=
  let c15_141 : Index := 15#32
  let arg0 : BitVec 32 := BitVec.ofNat 32 (i 0).val
  let v302 : Index := Scalar.indexCast arg0
  ![15, v302.toNat]
def k0_off4 (i : grid0.Coords) : Fin 2 → Nat :=
  let c14_142 : Index := 14#32
  let arg0 : BitVec 32 := BitVec.ofNat 32 (i 0).val
  let v307 : Index := Scalar.indexCast arg0
  ![14, v307.toNat]
def k0_off5 (i : grid0.Coords) : Fin 2 → Nat :=
  let c13_143 : Index := 13#32
  let arg0 : BitVec 32 := BitVec.ofNat 32 (i 0).val
  let v313 : Index := Scalar.indexCast arg0
  ![13, v313.toNat]
def k0_off6 (i : grid0.Coords) : Fin 2 → Nat :=
  let c12_144 : Index := 12#32
  let arg0 : BitVec 32 := BitVec.ofNat 32 (i 0).val
  let v319 : Index := Scalar.indexCast arg0
  ![12, v319.toNat]
def k0_off7 (i : grid0.Coords) : Fin 2 → Nat :=
  let c11_145 : Index := 11#32
  let arg0 : BitVec 32 := BitVec.ofNat 32 (i 0).val
  let v325 : Index := Scalar.indexCast arg0
  ![11, v325.toNat]
def k0_off8 (i : grid0.Coords) : Fin 2 → Nat :=
  let c10_146 : Index := 10#32
  let arg0 : BitVec 32 := BitVec.ofNat 32 (i 0).val
  let v331 : Index := Scalar.indexCast arg0
  ![10, v331.toNat]
def k0_off9 (i : grid0.Coords) : Fin 2 → Nat :=
  let c9_147 : Index := 9#32
  let arg0 : BitVec 32 := BitVec.ofNat 32 (i 0).val
  let v337 : Index := Scalar.indexCast arg0
  ![9, v337.toNat]
def k0_off10 (i : grid0.Coords) : Fin 2 → Nat :=
  let c8_148 : Index := 8#32
  let arg0 : BitVec 32 := BitVec.ofNat 32 (i 0).val
  let v343 : Index := Scalar.indexCast arg0
  ![8, v343.toNat]
def k0_off11 (i : grid0.Coords) : Fin 2 → Nat :=
  let c7_149 : Index := 7#32
  let arg0 : BitVec 32 := BitVec.ofNat 32 (i 0).val
  let v349 : Index := Scalar.indexCast arg0
  ![7, v349.toNat]
def k0_off12 (i : grid0.Coords) : Fin 2 → Nat :=
  let c6_150 : Index := 6#32
  let arg0 : BitVec 32 := BitVec.ofNat 32 (i 0).val
  let v355 : Index := Scalar.indexCast arg0
  ![6, v355.toNat]
def k0_off13 (i : grid0.Coords) : Fin 2 → Nat :=
  let c5_151 : Index := 5#32
  let arg0 : BitVec 32 := BitVec.ofNat 32 (i 0).val
  let v361 : Index := Scalar.indexCast arg0
  ![5, v361.toNat]
def k0_off14 (i : grid0.Coords) : Fin 2 → Nat :=
  let c4_152 : Index := 4#32
  let arg0 : BitVec 32 := BitVec.ofNat 32 (i 0).val
  let v367 : Index := Scalar.indexCast arg0
  ![4, v367.toNat]
def k0_off15 (i : grid0.Coords) : Fin 2 → Nat :=
  let c3_153 : Index := 3#32
  let arg0 : BitVec 32 := BitVec.ofNat 32 (i 0).val
  let v373 : Index := Scalar.indexCast arg0
  ![3, v373.toNat]
def k0_off16 (i : grid0.Coords) : Fin 2 → Nat :=
  let c2_154 : Index := 2#32
  let arg0 : BitVec 32 := BitVec.ofNat 32 (i 0).val
  let v379 : Index := Scalar.indexCast arg0
  ![2, v379.toNat]
def k0_off17 (i : grid0.Coords) : Fin 2 → Nat :=
  let c1_156 : Index := 1#32
  let arg0 : BitVec 32 := BitVec.ofNat 32 (i 0).val
  let v385 : Index := Scalar.indexCast arg0
  ![1, v385.toNat]
def k0_off18 (i : grid0.Coords) : Fin 2 → Nat :=
  let c0_158 : Index := 0#32
  let arg0 : BitVec 32 := BitVec.ofNat 32 (i 0).val
  let v391 : Index := Scalar.indexCast arg0
  ![0, v391.toNat]
def k0_off19 (i : grid0.Coords) : Fin 2 → Nat :=
  let c17_160 : Index := 17#32
  let arg0 : BitVec 32 := BitVec.ofNat 32 (i 0).val
  let v397 : Index := Scalar.indexCast arg0
  ![17, v397.toNat]
def k0_off20 (i : grid0.Coords) : Fin 2 → Nat :=
  let c18_162 : Index := 18#32
  let arg0 : BitVec 32 := BitVec.ofNat 32 (i 0).val
  let v403 : Index := Scalar.indexCast arg0
  ![18, v403.toNat]
def k0_off21 (i : grid0.Coords) : Fin 2 → Nat :=
  let c19_163 : Index := 19#32
  let arg0 : BitVec 32 := BitVec.ofNat 32 (i 0).val
  let v409 : Index := Scalar.indexCast arg0
  ![19, v409.toNat]
def k0_off22 (i : grid0.Coords) : Fin 2 → Nat :=
  let c20_165 : Index := 20#32
  let arg0 : BitVec 32 := BitVec.ofNat 32 (i 0).val
  let v415 : Index := Scalar.indexCast arg0
  ![20, v415.toNat]
def k0_off23 (i : grid0.Coords) : Fin 2 → Nat :=
  let c21_166 : Index := 21#32
  let arg0 : BitVec 32 := BitVec.ofNat 32 (i 0).val
  let v421 : Index := Scalar.indexCast arg0
  ![21, v421.toNat]
def k0_off24 (i : grid0.Coords) : Fin 2 → Nat :=
  let c22_167 : Index := 22#32
  let arg0 : BitVec 32 := BitVec.ofNat 32 (i 0).val
  let v427 : Index := Scalar.indexCast arg0
  ![22, v427.toNat]
def k0_off25 (i : grid0.Coords) : Fin 2 → Nat :=
  let c23_168 : Index := 23#32
  let arg0 : BitVec 32 := BitVec.ofNat 32 (i 0).val
  let v433 : Index := Scalar.indexCast arg0
  ![23, v433.toNat]
def k0_off26 (i : grid0.Coords) : Fin 2 → Nat :=
  let c24_169 : Index := 24#32
  let arg0 : BitVec 32 := BitVec.ofNat 32 (i 0).val
  let v439 : Index := Scalar.indexCast arg0
  ![24, v439.toNat]
def k0_off27 (i : grid0.Coords) : Fin 2 → Nat :=
  let c25_170 : Index := 25#32
  let arg0 : BitVec 32 := BitVec.ofNat 32 (i 0).val
  let v445 : Index := Scalar.indexCast arg0
  ![25, v445.toNat]
def k0_off28 (i : grid0.Coords) : Fin 2 → Nat :=
  let c26_171 : Index := 26#32
  let arg0 : BitVec 32 := BitVec.ofNat 32 (i 0).val
  let v451 : Index := Scalar.indexCast arg0
  ![26, v451.toNat]
def k0_off29 (i : grid0.Coords) : Fin 2 → Nat :=
  let c27_172 : Index := 27#32
  let arg0 : BitVec 32 := BitVec.ofNat 32 (i 0).val
  let v457 : Index := Scalar.indexCast arg0
  ![27, v457.toNat]
def k0_off30 (i : grid0.Coords) : Fin 2 → Nat :=
  let c28_173 : Index := 28#32
  let arg0 : BitVec 32 := BitVec.ofNat 32 (i 0).val
  let v463 : Index := Scalar.indexCast arg0
  ![28, v463.toNat]
def k0_off31 (i : grid0.Coords) : Fin 2 → Nat :=
  let c29_174 : Index := 29#32
  let arg0 : BitVec 32 := BitVec.ofNat 32 (i 0).val
  let v469 : Index := Scalar.indexCast arg0
  ![29, v469.toNat]
def k0_off32 (i : grid0.Coords) : Fin 2 → Nat :=
  let c30_175 : Index := 30#32
  let arg0 : BitVec 32 := BitVec.ofNat 32 (i 0).val
  let v475 : Index := Scalar.indexCast arg0
  ![30, v475.toNat]
def k0_off33 (i : grid0.Coords) : Fin 2 → Nat :=
  let c31_176 : Index := 31#32
  let arg0 : BitVec 32 := BitVec.ofNat 32 (i 0).val
  let v481 : Index := Scalar.indexCast arg0
  ![31, v481.toNat]
def k0_off34 (i : grid0.Coords) : Fin 2 → Nat :=
  let c15 : Index := 15#32
  let arg0 : BitVec 32 := BitVec.ofNat 32 (i 0).val
  let v3 : Index := Scalar.indexCast arg0
  ![15, v3.toNat]
def k0_off35 (i : grid0.Coords) : Fin 2 → Nat :=
  let c31 : Index := 31#32
  let arg0 : BitVec 32 := BitVec.ofNat 32 (i 0).val
  let v5 : Index := Scalar.indexCast arg0
  ![31, v5.toNat]
def k0_off36 (i : grid0.Coords) : Fin 2 → Nat :=
  let c0 : Index := 0#32
  let arg0 : BitVec 32 := BitVec.ofNat 32 (i 0).val
  let v7 : Index := Scalar.indexCast arg0
  ![0, v7.toNat]
def k0_off37 (i : grid0.Coords) : Fin 2 → Nat :=
  let c1 : Index := 1#32
  let arg0 : BitVec 32 := BitVec.ofNat 32 (i 0).val
  let v9 : Index := Scalar.indexCast arg0
  ![1, v9.toNat]
def k0_off38 (i : grid0.Coords) : Fin 2 → Nat :=
  let c2 : Index := 2#32
  let arg0 : BitVec 32 := BitVec.ofNat 32 (i 0).val
  let v12 : Index := Scalar.indexCast arg0
  ![2, v12.toNat]
def k0_off39 (i : grid0.Coords) : Fin 2 → Nat :=
  let c3 : Index := 3#32
  let arg0 : BitVec 32 := BitVec.ofNat 32 (i 0).val
  let v15 : Index := Scalar.indexCast arg0
  ![3, v15.toNat]
def k0_off40 (i : grid0.Coords) : Fin 2 → Nat :=
  let c4 : Index := 4#32
  let arg0 : BitVec 32 := BitVec.ofNat 32 (i 0).val
  let v18 : Index := Scalar.indexCast arg0
  ![4, v18.toNat]
def k0_off41 (i : grid0.Coords) : Fin 2 → Nat :=
  let c5 : Index := 5#32
  let arg0 : BitVec 32 := BitVec.ofNat 32 (i 0).val
  let v21 : Index := Scalar.indexCast arg0
  ![5, v21.toNat]
def k0_off42 (i : grid0.Coords) : Fin 2 → Nat :=
  let c6 : Index := 6#32
  let arg0 : BitVec 32 := BitVec.ofNat 32 (i 0).val
  let v24 : Index := Scalar.indexCast arg0
  ![6, v24.toNat]
def k0_off43 (i : grid0.Coords) : Fin 2 → Nat :=
  let c7 : Index := 7#32
  let arg0 : BitVec 32 := BitVec.ofNat 32 (i 0).val
  let v27 : Index := Scalar.indexCast arg0
  ![7, v27.toNat]
def k0_off44 (i : grid0.Coords) : Fin 2 → Nat :=
  let c8 : Index := 8#32
  let arg0 : BitVec 32 := BitVec.ofNat 32 (i 0).val
  let v30 : Index := Scalar.indexCast arg0
  ![8, v30.toNat]
def k0_off45 (i : grid0.Coords) : Fin 2 → Nat :=
  let c9 : Index := 9#32
  let arg0 : BitVec 32 := BitVec.ofNat 32 (i 0).val
  let v33 : Index := Scalar.indexCast arg0
  ![9, v33.toNat]
def k0_off46 (i : grid0.Coords) : Fin 2 → Nat :=
  let c10 : Index := 10#32
  let arg0 : BitVec 32 := BitVec.ofNat 32 (i 0).val
  let v36 : Index := Scalar.indexCast arg0
  ![10, v36.toNat]
def k0_off47 (i : grid0.Coords) : Fin 2 → Nat :=
  let c11 : Index := 11#32
  let arg0 : BitVec 32 := BitVec.ofNat 32 (i 0).val
  let v39 : Index := Scalar.indexCast arg0
  ![11, v39.toNat]
def k0_off48 (i : grid0.Coords) : Fin 2 → Nat :=
  let c12 : Index := 12#32
  let arg0 : BitVec 32 := BitVec.ofNat 32 (i 0).val
  let v42 : Index := Scalar.indexCast arg0
  ![12, v42.toNat]
def k0_off49 (i : grid0.Coords) : Fin 2 → Nat :=
  let c13 : Index := 13#32
  let arg0 : BitVec 32 := BitVec.ofNat 32 (i 0).val
  let v45 : Index := Scalar.indexCast arg0
  ![13, v45.toNat]
def k0_off50 (i : grid0.Coords) : Fin 2 → Nat :=
  let c14 : Index := 14#32
  let arg0 : BitVec 32 := BitVec.ofNat 32 (i 0).val
  let v48 : Index := Scalar.indexCast arg0
  ![14, v48.toNat]
def k0_off51 (i : grid0.Coords) : Fin 2 → Nat :=
  let c16 : Index := 16#32
  let arg0 : BitVec 32 := BitVec.ofNat 32 (i 0).val
  let v54 : Index := Scalar.indexCast arg0
  ![16, v54.toNat]
def k0_off52 (i : grid0.Coords) : Fin 2 → Nat :=
  let c17 : Index := 17#32
  let arg0 : BitVec 32 := BitVec.ofNat 32 (i 0).val
  let v57 : Index := Scalar.indexCast arg0
  ![17, v57.toNat]
def k0_off53 (i : grid0.Coords) : Fin 2 → Nat :=
  let c18 : Index := 18#32
  let arg0 : BitVec 32 := BitVec.ofNat 32 (i 0).val
  let v60 : Index := Scalar.indexCast arg0
  ![18, v60.toNat]
def k0_off54 (i : grid0.Coords) : Fin 2 → Nat :=
  let c19 : Index := 19#32
  let arg0 : BitVec 32 := BitVec.ofNat 32 (i 0).val
  let v63 : Index := Scalar.indexCast arg0
  ![19, v63.toNat]
def k0_off55 (i : grid0.Coords) : Fin 2 → Nat :=
  let c20 : Index := 20#32
  let arg0 : BitVec 32 := BitVec.ofNat 32 (i 0).val
  let v66 : Index := Scalar.indexCast arg0
  ![20, v66.toNat]
def k0_off56 (i : grid0.Coords) : Fin 2 → Nat :=
  let c21 : Index := 21#32
  let arg0 : BitVec 32 := BitVec.ofNat 32 (i 0).val
  let v69 : Index := Scalar.indexCast arg0
  ![21, v69.toNat]
def k0_off57 (i : grid0.Coords) : Fin 2 → Nat :=
  let c22 : Index := 22#32
  let arg0 : BitVec 32 := BitVec.ofNat 32 (i 0).val
  let v72 : Index := Scalar.indexCast arg0
  ![22, v72.toNat]
def k0_off58 (i : grid0.Coords) : Fin 2 → Nat :=
  let c23 : Index := 23#32
  let arg0 : BitVec 32 := BitVec.ofNat 32 (i 0).val
  let v75 : Index := Scalar.indexCast arg0
  ![23, v75.toNat]
def k0_off59 (i : grid0.Coords) : Fin 2 → Nat :=
  let c24 : Index := 24#32
  let arg0 : BitVec 32 := BitVec.ofNat 32 (i 0).val
  let v78 : Index := Scalar.indexCast arg0
  ![24, v78.toNat]
def k0_off60 (i : grid0.Coords) : Fin 2 → Nat :=
  let c25 : Index := 25#32
  let arg0 : BitVec 32 := BitVec.ofNat 32 (i 0).val
  let v81 : Index := Scalar.indexCast arg0
  ![25, v81.toNat]
def k0_off61 (i : grid0.Coords) : Fin 2 → Nat :=
  let c26 : Index := 26#32
  let arg0 : BitVec 32 := BitVec.ofNat 32 (i 0).val
  let v84 : Index := Scalar.indexCast arg0
  ![26, v84.toNat]
def k0_off62 (i : grid0.Coords) : Fin 2 → Nat :=
  let c27 : Index := 27#32
  let arg0 : BitVec 32 := BitVec.ofNat 32 (i 0).val
  let v87 : Index := Scalar.indexCast arg0
  ![27, v87.toNat]
def k0_off63 (i : grid0.Coords) : Fin 2 → Nat :=
  let c28 : Index := 28#32
  let arg0 : BitVec 32 := BitVec.ofNat 32 (i 0).val
  let v90 : Index := Scalar.indexCast arg0
  ![28, v90.toNat]
def k0_off64 (i : grid0.Coords) : Fin 2 → Nat :=
  let c29 : Index := 29#32
  let arg0 : BitVec 32 := BitVec.ofNat 32 (i 0).val
  let v93 : Index := Scalar.indexCast arg0
  ![29, v93.toNat]
def k0_off65 (i : grid0.Coords) : Fin 2 → Nat :=
  let c30 : Index := 30#32
  let arg0 : BitVec 32 := BitVec.ofNat 32 (i 0).val
  let v96 : Index := Scalar.indexCast arg0
  ![30, v96.toNat]
def k0_cond2 (i : grid0.Coords) : BitVec 1 :=
  let arg1 : BitVec 32 := BitVec.ofNat 32 (i 1).val
  let c_m1_i32 : BitVec 32 := 4294967295#32
  let v156 : BitVec 32 := Scalar.addi arg1 c_m1_i32
  let c0_i32_39 : BitVec 32 := 0#32
  let v157 : BitVec 1 := Scalar.cmpi .sge v156 c0_i32_39
  let c16_i32_40 : BitVec 32 := 16#32
  let v158 : BitVec 1 := Scalar.cmpi .slt v156 c16_i32_40
  let v159 : BitVec 1 := Scalar.andi v157 v158
  let v160 : BitVec 32 := Scalar.extui v159
  let c0_i32_41 : BitVec 32 := 0#32
  let v161 : BitVec 1 := Scalar.cmpi .ne v160 c0_i32_41
  v161

def k0_mult3 (i : grid0.Coords) : BitVec 32 :=
  let arg1 : BitVec 32 := BitVec.ofNat 32 (i 1).val
  let c_m1_i32 : BitVec 32 := 4294967295#32
  let v156 : BitVec 32 := Scalar.addi arg1 c_m1_i32
  let c1024_i32_124 : BitVec 32 := 1024#32
  let v282 : BitVec 32 := Scalar.muli v156 c1024_i32_124
  v282
def k0_mult4 (v284 : BitVec 32) : BitVec 32 :=
  let c1024_i32_126 : BitVec 32 := 1024#32
  let v285 : BitVec 32 := Scalar.muli v284 c1024_i32_126
  v285

def k0_off66 (v284 : BitVec 32) : Fin 2 → Nat :=
  let c0_130 : Index := 0#32
  let c1024_i32_126 : BitVec 32 := 1024#32
  let v285 : BitVec 32 := Scalar.muli v284 c1024_i32_126
  let v286 : BitVec 32 := v285
  let v289 : Index := Scalar.indexCast v286
  ![0, v289.toNat]

def k0_chk1 (i : grid0.Coords) (v284 : BitVec 32) : Prop :=
  (∀ (k0_h2 : k0_cond2 i = 1#1), 1024 ∣ (k0_mult4 v284).toNat) ∧
  (∀ (k0_h2 : k0_cond2 i = 1#1), ∀ a, (k0_off66 v284) a + S256x1024.size a ≤ S256x16384.size a)
theorem k0_mult4_dvd : ∀ (i : grid0.Coords) (v284 : BitVec 32) (k0_hw1 : k0_chk1 i v284), ∀ (k0_h2 : k0_cond2 i = 1#1), 1024 ∣ (k0_mult4 v284).toNat := fun i v284 k0_hw1 k0_h2 => k0_hw1.1 k0_h2
theorem k0_off66_inb : ∀ (i : grid0.Coords) (v284 : BitVec 32) (k0_hw1 : k0_chk1 i v284), ∀ (k0_h2 : k0_cond2 i = 1#1), ∀ a, (k0_off66 v284) a + S256x1024.size a ≤ S256x16384.size a := fun i v284 k0_hw1 k0_h2 => k0_hw1.2 k0_h2

def k0_off67 (i : grid0.Coords) : Fin 2 → Nat :=
  let arg1 : BitVec 32 := BitVec.ofNat 32 (i 1).val
  let c_m1_i32 : BitVec 32 := 4294967295#32
  let v156 : BitVec 32 := Scalar.addi arg1 c_m1_i32
  let c1024_i32_124 : BitVec 32 := 1024#32
  let v282 : BitVec 32 := Scalar.muli v156 c1024_i32_124
  let v283 : BitVec 32 := v282
  let v299 : Index := Scalar.indexCast v283
  let c0_138 : Index := 0#32
  ![v299.toNat, 0]
def k0_off68 (i : grid0.Coords) : Fin 2 → Nat :=
  let c0_161 : Index := 0#32
  let arg1 : BitVec 32 := BitVec.ofNat 32 (i 1).val
  let c_m1_i32 : BitVec 32 := 4294967295#32
  let v156 : BitVec 32 := Scalar.addi arg1 c_m1_i32
  let c1024_i32_124 : BitVec 32 := 1024#32
  let v282 : BitVec 32 := Scalar.muli v156 c1024_i32_124
  let v283 : BitVec 32 := v282
  let v327 : Index := Scalar.indexCast v283
  ![0, v327.toNat]
def k0_cond3 (i : grid0.Coords) : BitVec 1 :=
  let arg1 : BitVec 32 := BitVec.ofNat 32 (i 1).val
  let c0_i32_42 : BitVec 32 := 0#32
  let v162 : BitVec 32 := Scalar.addi arg1 c0_i32_42
  let c0_i32_43 : BitVec 32 := 0#32
  let v163 : BitVec 1 := Scalar.cmpi .sge v162 c0_i32_43
  let c16_i32_44 : BitVec 32 := 16#32
  let v164 : BitVec 1 := Scalar.cmpi .slt v162 c16_i32_44
  let v165 : BitVec 1 := Scalar.andi v163 v164
  let v166 : BitVec 32 := Scalar.extui v165
  let c0_i32_45 : BitVec 32 := 0#32
  let v167 : BitVec 1 := Scalar.cmpi .ne v166 c0_i32_45
  v167

def k0_mult5 (i : grid0.Coords) : BitVec 32 :=
  let arg1 : BitVec 32 := BitVec.ofNat 32 (i 1).val
  let c0_i32_42 : BitVec 32 := 0#32
  let v162 : BitVec 32 := Scalar.addi arg1 c0_i32_42
  let c1024_i32_124 : BitVec 32 := 1024#32
  let v282 : BitVec 32 := Scalar.muli v162 c1024_i32_124
  v282
def k0_mult6 (v284 : BitVec 32) : BitVec 32 :=
  let c1024_i32_126 : BitVec 32 := 1024#32
  let v285 : BitVec 32 := Scalar.muli v284 c1024_i32_126
  v285

def k0_off69 (v284 : BitVec 32) : Fin 2 → Nat :=
  let c0_130 : Index := 0#32
  let c1024_i32_126 : BitVec 32 := 1024#32
  let v285 : BitVec 32 := Scalar.muli v284 c1024_i32_126
  let v286 : BitVec 32 := v285
  let v289 : Index := Scalar.indexCast v286
  ![0, v289.toNat]

def k0_chk2 (i : grid0.Coords) (v284 : BitVec 32) : Prop :=
  (∀ (k0_h3 : k0_cond3 i = 1#1), 1024 ∣ (k0_mult6 v284).toNat) ∧
  (∀ (k0_h3 : k0_cond3 i = 1#1), ∀ a, (k0_off69 v284) a + S256x1024.size a ≤ S256x16384.size a)
theorem k0_mult6_dvd : ∀ (i : grid0.Coords) (v284 : BitVec 32) (k0_hw2 : k0_chk2 i v284), ∀ (k0_h3 : k0_cond3 i = 1#1), 1024 ∣ (k0_mult6 v284).toNat := fun i v284 k0_hw2 k0_h3 => k0_hw2.1 k0_h3
theorem k0_off69_inb : ∀ (i : grid0.Coords) (v284 : BitVec 32) (k0_hw2 : k0_chk2 i v284), ∀ (k0_h3 : k0_cond3 i = 1#1), ∀ a, (k0_off69 v284) a + S256x1024.size a ≤ S256x16384.size a := fun i v284 k0_hw2 k0_h3 => k0_hw2.2 k0_h3

def k0_off70 (i : grid0.Coords) : Fin 2 → Nat :=
  let arg1 : BitVec 32 := BitVec.ofNat 32 (i 1).val
  let c0_i32_42 : BitVec 32 := 0#32
  let v162 : BitVec 32 := Scalar.addi arg1 c0_i32_42
  let c1024_i32_124 : BitVec 32 := 1024#32
  let v282 : BitVec 32 := Scalar.muli v162 c1024_i32_124
  let v283 : BitVec 32 := v282
  let v299 : Index := Scalar.indexCast v283
  let c0_138 : Index := 0#32
  ![v299.toNat, 0]
def k0_off71 (i : grid0.Coords) : Fin 2 → Nat :=
  let c0_161 : Index := 0#32
  let arg1 : BitVec 32 := BitVec.ofNat 32 (i 1).val
  let c0_i32_42 : BitVec 32 := 0#32
  let v162 : BitVec 32 := Scalar.addi arg1 c0_i32_42
  let c1024_i32_124 : BitVec 32 := 1024#32
  let v282 : BitVec 32 := Scalar.muli v162 c1024_i32_124
  let v283 : BitVec 32 := v282
  let v327 : Index := Scalar.indexCast v283
  ![0, v327.toNat]
def k0_cond4 (i : grid0.Coords) : BitVec 1 :=
  let arg1 : BitVec 32 := BitVec.ofNat 32 (i 1).val
  let c1_i32_46 : BitVec 32 := 1#32
  let v168 : BitVec 32 := Scalar.addi arg1 c1_i32_46
  let c0_i32_47 : BitVec 32 := 0#32
  let v169 : BitVec 1 := Scalar.cmpi .sge v168 c0_i32_47
  let c16_i32_48 : BitVec 32 := 16#32
  let v170 : BitVec 1 := Scalar.cmpi .slt v168 c16_i32_48
  let v171 : BitVec 1 := Scalar.andi v169 v170
  let v172 : BitVec 32 := Scalar.extui v171
  let c0_i32_49 : BitVec 32 := 0#32
  let v173 : BitVec 1 := Scalar.cmpi .ne v172 c0_i32_49
  v173

def k0_mult7 (i : grid0.Coords) : BitVec 32 :=
  let arg1 : BitVec 32 := BitVec.ofNat 32 (i 1).val
  let c1_i32_46 : BitVec 32 := 1#32
  let v168 : BitVec 32 := Scalar.addi arg1 c1_i32_46
  let c1024_i32_124 : BitVec 32 := 1024#32
  let v282 : BitVec 32 := Scalar.muli v168 c1024_i32_124
  v282
def k0_mult8 (v284 : BitVec 32) : BitVec 32 :=
  let c1024_i32_126 : BitVec 32 := 1024#32
  let v285 : BitVec 32 := Scalar.muli v284 c1024_i32_126
  v285

def k0_off72 (v284 : BitVec 32) : Fin 2 → Nat :=
  let c0_130 : Index := 0#32
  let c1024_i32_126 : BitVec 32 := 1024#32
  let v285 : BitVec 32 := Scalar.muli v284 c1024_i32_126
  let v286 : BitVec 32 := v285
  let v289 : Index := Scalar.indexCast v286
  ![0, v289.toNat]

def k0_chk3 (i : grid0.Coords) (v284 : BitVec 32) : Prop :=
  (∀ (k0_h4 : k0_cond4 i = 1#1), 1024 ∣ (k0_mult8 v284).toNat) ∧
  (∀ (k0_h4 : k0_cond4 i = 1#1), ∀ a, (k0_off72 v284) a + S256x1024.size a ≤ S256x16384.size a)
theorem k0_mult8_dvd : ∀ (i : grid0.Coords) (v284 : BitVec 32) (k0_hw3 : k0_chk3 i v284), ∀ (k0_h4 : k0_cond4 i = 1#1), 1024 ∣ (k0_mult8 v284).toNat := fun i v284 k0_hw3 k0_h4 => k0_hw3.1 k0_h4
theorem k0_off72_inb : ∀ (i : grid0.Coords) (v284 : BitVec 32) (k0_hw3 : k0_chk3 i v284), ∀ (k0_h4 : k0_cond4 i = 1#1), ∀ a, (k0_off72 v284) a + S256x1024.size a ≤ S256x16384.size a := fun i v284 k0_hw3 k0_h4 => k0_hw3.2 k0_h4

def k0_off73 (i : grid0.Coords) : Fin 2 → Nat :=
  let arg1 : BitVec 32 := BitVec.ofNat 32 (i 1).val
  let c1_i32_46 : BitVec 32 := 1#32
  let v168 : BitVec 32 := Scalar.addi arg1 c1_i32_46
  let c1024_i32_124 : BitVec 32 := 1024#32
  let v282 : BitVec 32 := Scalar.muli v168 c1024_i32_124
  let v283 : BitVec 32 := v282
  let v299 : Index := Scalar.indexCast v283
  let c0_138 : Index := 0#32
  ![v299.toNat, 0]
def k0_off74 (i : grid0.Coords) : Fin 2 → Nat :=
  let c0_161 : Index := 0#32
  let arg1 : BitVec 32 := BitVec.ofNat 32 (i 1).val
  let c1_i32_46 : BitVec 32 := 1#32
  let v168 : BitVec 32 := Scalar.addi arg1 c1_i32_46
  let c1024_i32_124 : BitVec 32 := 1024#32
  let v282 : BitVec 32 := Scalar.muli v168 c1024_i32_124
  let v283 : BitVec 32 := v282
  let v327 : Index := Scalar.indexCast v283
  ![0, v327.toNat]
def k0_cond5 (i : grid0.Coords) : BitVec 1 :=
  let c16_i32_50 : BitVec 32 := 16#32
  let arg1 : BitVec 32 := BitVec.ofNat 32 (i 1).val
  let c1_i32_37 : BitVec 32 := 1#32
  let v153 : BitVec 32 := Scalar.addi arg1 c1_i32_37
  let c1_i32_38 : BitVec 32 := 1#32
  let v154 : BitVec 32 := Scalar.addi v153 c1_i32_38
  let c16_i32 : BitVec 32 := 16#32
  let v155 : BitVec 32 := Scalar.minsi v154 c16_i32
  let c1_i32 : BitVec 32 := 1#32
  let v151 : BitVec 32 := Scalar.subi arg1 c1_i32
  let c0_i32_36 : BitVec 32 := 0#32
  let v152 : BitVec 32 := Scalar.maxsi v151 c0_i32_36
  let v174 : BitVec 32 := Scalar.subi v155 v152
  let v175 : BitVec 32 := Scalar.subi c16_i32_50 v174
  let c1_i32_51 : BitVec 32 := 1#32
  let v176 : BitVec 32 := Scalar.andi v175 c1_i32_51
  let c0_i32_52 : BitVec 32 := 0#32
  let v177 : BitVec 1 := Scalar.cmpi .ne v176 c0_i32_52
  let v178 : BitVec 32 := Scalar.extui v177
  let c0_i32_53 : BitVec 32 := 0#32
  let v179 : BitVec 1 := Scalar.cmpi .ne v178 c0_i32_53
  v179

def k0_mult9 (i : grid0.Coords) : BitVec 32 :=
  let arg1 : BitVec 32 := BitVec.ofNat 32 (i 1).val
  let c1_i32 : BitVec 32 := 1#32
  let v151 : BitVec 32 := Scalar.subi arg1 c1_i32
  let c0_i32_36 : BitVec 32 := 0#32
  let v152 : BitVec 32 := Scalar.maxsi v151 c0_i32_36
  let c0_i32_124 : BitVec 32 := 0#32
  let v282 : BitVec 1 := Scalar.cmpi .sgt v152 c0_i32_124
  let c0_i32_126 : BitVec 32 := 0#32
  let c0_i32_125 : BitVec 32 := 0#32
  let c1_i32_37 : BitVec 32 := 1#32
  let v153 : BitVec 32 := Scalar.addi arg1 c1_i32_37
  let c1_i32_38 : BitVec 32 := 1#32
  let v154 : BitVec 32 := Scalar.addi v153 c1_i32_38
  let c16_i32 : BitVec 32 := 16#32
  let v155 : BitVec 32 := Scalar.minsi v154 c16_i32
  let v283 : BitVec 32 := Scalar.subi v155 v152
  let v284 : BitVec 32 := Scalar.addi c0_i32_125 v283
  let v285 : BitVec 32 := Scalar.select v282 c0_i32_126 v284
  let c1024_i32_127 : BitVec 32 := 1024#32
  let v287 : BitVec 32 := Scalar.muli v285 c1024_i32_127
  v287
def k0_mult10 (v289 : BitVec 32) : BitVec 32 :=
  let c1024_i32_129 : BitVec 32 := 1024#32
  let v290 : BitVec 32 := Scalar.muli v289 c1024_i32_129
  v290

def k0_off75 (v289 : BitVec 32) : Fin 2 → Nat :=
  let c0_133 : Index := 0#32
  let c1024_i32_129 : BitVec 32 := 1024#32
  let v290 : BitVec 32 := Scalar.muli v289 c1024_i32_129
  let v291 : BitVec 32 := v290
  let v294 : Index := Scalar.indexCast v291
  ![0, v294.toNat]

def k0_chk4 (i : grid0.Coords) (v289 : BitVec 32) : Prop :=
  (∀ (k0_h5 : k0_cond5 i = 1#1), 1024 ∣ (k0_mult10 v289).toNat) ∧
  (∀ (k0_h5 : k0_cond5 i = 1#1), ∀ a, (k0_off75 v289) a + S256x1024.size a ≤ S256x16384.size a)
theorem k0_mult10_dvd : ∀ (i : grid0.Coords) (v289 : BitVec 32) (k0_hw4 : k0_chk4 i v289), ∀ (k0_h5 : k0_cond5 i = 1#1), 1024 ∣ (k0_mult10 v289).toNat := fun i v289 k0_hw4 k0_h5 => k0_hw4.1 k0_h5
theorem k0_off75_inb : ∀ (i : grid0.Coords) (v289 : BitVec 32) (k0_hw4 : k0_chk4 i v289), ∀ (k0_h5 : k0_cond5 i = 1#1), ∀ a, (k0_off75 v289) a + S256x1024.size a ≤ S256x16384.size a := fun i v289 k0_hw4 k0_h5 => k0_hw4.2 k0_h5

def k0_off76 (i : grid0.Coords) : Fin 2 → Nat :=
  let arg1 : BitVec 32 := BitVec.ofNat 32 (i 1).val
  let c1_i32 : BitVec 32 := 1#32
  let v151 : BitVec 32 := Scalar.subi arg1 c1_i32
  let c0_i32_36 : BitVec 32 := 0#32
  let v152 : BitVec 32 := Scalar.maxsi v151 c0_i32_36
  let c0_i32_124 : BitVec 32 := 0#32
  let v282 : BitVec 1 := Scalar.cmpi .sgt v152 c0_i32_124
  let c0_i32_126 : BitVec 32 := 0#32
  let c0_i32_125 : BitVec 32 := 0#32
  let c1_i32_37 : BitVec 32 := 1#32
  let v153 : BitVec 32 := Scalar.addi arg1 c1_i32_37
  let c1_i32_38 : BitVec 32 := 1#32
  let v154 : BitVec 32 := Scalar.addi v153 c1_i32_38
  let c16_i32 : BitVec 32 := 16#32
  let v155 : BitVec 32 := Scalar.minsi v154 c16_i32
  let v283 : BitVec 32 := Scalar.subi v155 v152
  let v284 : BitVec 32 := Scalar.addi c0_i32_125 v283
  let v285 : BitVec 32 := Scalar.select v282 c0_i32_126 v284
  let c1024_i32_127 : BitVec 32 := 1024#32
  let v287 : BitVec 32 := Scalar.muli v285 c1024_i32_127
  let v288 : BitVec 32 := v287
  let v304 : Index := Scalar.indexCast v288
  let c0_141 : Index := 0#32
  ![v304.toNat, 0]
def k0_off77 (i : grid0.Coords) : Fin 2 → Nat :=
  let c0_161 : Index := 0#32
  let arg1 : BitVec 32 := BitVec.ofNat 32 (i 1).val
  let c1_i32 : BitVec 32 := 1#32
  let v151 : BitVec 32 := Scalar.subi arg1 c1_i32
  let c0_i32_36 : BitVec 32 := 0#32
  let v152 : BitVec 32 := Scalar.maxsi v151 c0_i32_36
  let c0_i32_124 : BitVec 32 := 0#32
  let v282 : BitVec 1 := Scalar.cmpi .sgt v152 c0_i32_124
  let c0_i32_126 : BitVec 32 := 0#32
  let c0_i32_125 : BitVec 32 := 0#32
  let c1_i32_37 : BitVec 32 := 1#32
  let v153 : BitVec 32 := Scalar.addi arg1 c1_i32_37
  let c1_i32_38 : BitVec 32 := 1#32
  let v154 : BitVec 32 := Scalar.addi v153 c1_i32_38
  let c16_i32 : BitVec 32 := 16#32
  let v155 : BitVec 32 := Scalar.minsi v154 c16_i32
  let v283 : BitVec 32 := Scalar.subi v155 v152
  let v284 : BitVec 32 := Scalar.addi c0_i32_125 v283
  let v285 : BitVec 32 := Scalar.select v282 c0_i32_126 v284
  let c1024_i32_127 : BitVec 32 := 1024#32
  let v287 : BitVec 32 := Scalar.muli v285 c1024_i32_127
  let v288 : BitVec 32 := v287
  let v331 : Index := Scalar.indexCast v288
  ![0, v331.toNat]
def k0_cond6 (i : grid0.Coords) : BitVec 1 :=
  let c16_i32_50 : BitVec 32 := 16#32
  let arg1 : BitVec 32 := BitVec.ofNat 32 (i 1).val
  let c1_i32_37 : BitVec 32 := 1#32
  let v153 : BitVec 32 := Scalar.addi arg1 c1_i32_37
  let c1_i32_38 : BitVec 32 := 1#32
  let v154 : BitVec 32 := Scalar.addi v153 c1_i32_38
  let c16_i32 : BitVec 32 := 16#32
  let v155 : BitVec 32 := Scalar.minsi v154 c16_i32
  let c1_i32 : BitVec 32 := 1#32
  let v151 : BitVec 32 := Scalar.subi arg1 c1_i32
  let c0_i32_36 : BitVec 32 := 0#32
  let v152 : BitVec 32 := Scalar.maxsi v151 c0_i32_36
  let v174 : BitVec 32 := Scalar.subi v155 v152
  let v175 : BitVec 32 := Scalar.subi c16_i32_50 v174
  let c2_i32 : BitVec 32 := 2#32
  let v181 : BitVec 32 := Scalar.andi v175 c2_i32
  let c0_i32_55 : BitVec 32 := 0#32
  let v182 : BitVec 1 := Scalar.cmpi .ne v181 c0_i32_55
  let v183 : BitVec 32 := Scalar.extui v182
  let c0_i32_56 : BitVec 32 := 0#32
  let v184 : BitVec 1 := Scalar.cmpi .ne v183 c0_i32_56
  v184

def k0_mult11 (i : grid0.Coords) : BitVec 32 :=
  let c0_i32_54 : BitVec 32 := 0#32
  let c16_i32_50 : BitVec 32 := 16#32
  let arg1 : BitVec 32 := BitVec.ofNat 32 (i 1).val
  let c1_i32_37 : BitVec 32 := 1#32
  let v153 : BitVec 32 := Scalar.addi arg1 c1_i32_37
  let c1_i32_38 : BitVec 32 := 1#32
  let v154 : BitVec 32 := Scalar.addi v153 c1_i32_38
  let c16_i32 : BitVec 32 := 16#32
  let v155 : BitVec 32 := Scalar.minsi v154 c16_i32
  let c1_i32 : BitVec 32 := 1#32
  let v151 : BitVec 32 := Scalar.subi arg1 c1_i32
  let c0_i32_36 : BitVec 32 := 0#32
  let v152 : BitVec 32 := Scalar.maxsi v151 c0_i32_36
  let v174 : BitVec 32 := Scalar.subi v155 v152
  let v175 : BitVec 32 := Scalar.subi c16_i32_50 v174
  let c1_i32_51 : BitVec 32 := 1#32
  let v176 : BitVec 32 := Scalar.andi v175 c1_i32_51
  let v180 : BitVec 32 := Scalar.addi c0_i32_54 v176
  let c0_i32_124 : BitVec 32 := 0#32
  let v282 : BitVec 32 := Scalar.addi v180 c0_i32_124
  let v283 : BitVec 1 := Scalar.cmpi .slt v282 v152
  let c0_i32_125 : BitVec 32 := 0#32
  let v284 : BitVec 32 := Scalar.addi v180 c0_i32_125
  let c0_i32_126 : BitVec 32 := 0#32
  let v285 : BitVec 32 := Scalar.addi v180 c0_i32_126
  let v286 : BitVec 32 := Scalar.subi v155 v152
  let v287 : BitVec 32 := Scalar.addi v285 v286
  let v288 : BitVec 32 := Scalar.select v283 v284 v287
  let c1024_i32_127 : BitVec 32 := 1024#32
  let v290 : BitVec 32 := Scalar.muli v288 c1024_i32_127
  v290
def k0_mult12 (v292 : BitVec 32) : BitVec 32 :=
  let c1024_i32_129 : BitVec 32 := 1024#32
  let v293 : BitVec 32 := Scalar.muli v292 c1024_i32_129
  v293

def k0_off78 (v292 : BitVec 32) : Fin 2 → Nat :=
  let c0_133 : Index := 0#32
  let c1024_i32_129 : BitVec 32 := 1024#32
  let v293 : BitVec 32 := Scalar.muli v292 c1024_i32_129
  let v294 : BitVec 32 := v293
  let v297 : Index := Scalar.indexCast v294
  ![0, v297.toNat]

def k0_chk5 (i : grid0.Coords) (v292 : BitVec 32) : Prop :=
  (∀ (k0_h6 : k0_cond6 i = 1#1), 1024 ∣ (k0_mult12 v292).toNat) ∧
  (∀ (k0_h6 : k0_cond6 i = 1#1), ∀ a, (k0_off78 v292) a + S256x1024.size a ≤ S256x16384.size a)
theorem k0_mult12_dvd : ∀ (i : grid0.Coords) (v292 : BitVec 32) (k0_hw5 : k0_chk5 i v292), ∀ (k0_h6 : k0_cond6 i = 1#1), 1024 ∣ (k0_mult12 v292).toNat := fun i v292 k0_hw5 k0_h6 => k0_hw5.1 k0_h6
theorem k0_off78_inb : ∀ (i : grid0.Coords) (v292 : BitVec 32) (k0_hw5 : k0_chk5 i v292), ∀ (k0_h6 : k0_cond6 i = 1#1), ∀ a, (k0_off78 v292) a + S256x1024.size a ≤ S256x16384.size a := fun i v292 k0_hw5 k0_h6 => k0_hw5.2 k0_h6

def k0_off79 (i : grid0.Coords) (c0_i32_124 : BitVec 32) (c0_i32_125 : BitVec 32) (c0_i32_126 : BitVec 32) : Fin 2 → Nat :=
  let c0_i32_54 : BitVec 32 := 0#32
  let c16_i32_50 : BitVec 32 := 16#32
  let arg1 : BitVec 32 := BitVec.ofNat 32 (i 1).val
  let c1_i32_37 : BitVec 32 := 1#32
  let v153 : BitVec 32 := Scalar.addi arg1 c1_i32_37
  let c1_i32_38 : BitVec 32 := 1#32
  let v154 : BitVec 32 := Scalar.addi v153 c1_i32_38
  let c16_i32 : BitVec 32 := 16#32
  let v155 : BitVec 32 := Scalar.minsi v154 c16_i32
  let c1_i32 : BitVec 32 := 1#32
  let v151 : BitVec 32 := Scalar.subi arg1 c1_i32
  let c0_i32_36 : BitVec 32 := 0#32
  let v152 : BitVec 32 := Scalar.maxsi v151 c0_i32_36
  let v174 : BitVec 32 := Scalar.subi v155 v152
  let v175 : BitVec 32 := Scalar.subi c16_i32_50 v174
  let c1_i32_51 : BitVec 32 := 1#32
  let v176 : BitVec 32 := Scalar.andi v175 c1_i32_51
  let v180 : BitVec 32 := Scalar.addi c0_i32_54 v176
  let v282 : BitVec 32 := Scalar.addi v180 c0_i32_124
  let v283 : BitVec 1 := Scalar.cmpi .slt v282 v152
  let v284 : BitVec 32 := Scalar.addi v180 c0_i32_125
  let v285 : BitVec 32 := Scalar.addi v180 c0_i32_126
  let v286 : BitVec 32 := Scalar.subi v155 v152
  let v287 : BitVec 32 := Scalar.addi v285 v286
  let v288 : BitVec 32 := Scalar.select v283 v284 v287
  let c1024_i32_127 : BitVec 32 := 1024#32
  let v290 : BitVec 32 := Scalar.muli v288 c1024_i32_127
  let v291 : BitVec 32 := v290
  let v307 : Index := Scalar.indexCast v291
  let c0_141 : Index := 0#32
  ![v307.toNat, 0]
def k0_off79_at (r : Fin 2) : BitVec 32 × BitVec 32 × BitVec 32 :=
  if r.val < 1 then
    (0#32, 0#32, 0#32)
  else
    (1#32, 1#32, 1#32)
def k0_off80 (i : grid0.Coords) (c0_i32_124 : BitVec 32) (c0_i32_125 : BitVec 32) (c0_i32_126 : BitVec 32) : Fin 2 → Nat :=
  let c0_161 : Index := 0#32
  let c0_i32_54 : BitVec 32 := 0#32
  let c16_i32_50 : BitVec 32 := 16#32
  let arg1 : BitVec 32 := BitVec.ofNat 32 (i 1).val
  let c1_i32_37 : BitVec 32 := 1#32
  let v153 : BitVec 32 := Scalar.addi arg1 c1_i32_37
  let c1_i32_38 : BitVec 32 := 1#32
  let v154 : BitVec 32 := Scalar.addi v153 c1_i32_38
  let c16_i32 : BitVec 32 := 16#32
  let v155 : BitVec 32 := Scalar.minsi v154 c16_i32
  let c1_i32 : BitVec 32 := 1#32
  let v151 : BitVec 32 := Scalar.subi arg1 c1_i32
  let c0_i32_36 : BitVec 32 := 0#32
  let v152 : BitVec 32 := Scalar.maxsi v151 c0_i32_36
  let v174 : BitVec 32 := Scalar.subi v155 v152
  let v175 : BitVec 32 := Scalar.subi c16_i32_50 v174
  let c1_i32_51 : BitVec 32 := 1#32
  let v176 : BitVec 32 := Scalar.andi v175 c1_i32_51
  let v180 : BitVec 32 := Scalar.addi c0_i32_54 v176
  let v282 : BitVec 32 := Scalar.addi v180 c0_i32_124
  let v283 : BitVec 1 := Scalar.cmpi .slt v282 v152
  let v284 : BitVec 32 := Scalar.addi v180 c0_i32_125
  let v285 : BitVec 32 := Scalar.addi v180 c0_i32_126
  let v286 : BitVec 32 := Scalar.subi v155 v152
  let v287 : BitVec 32 := Scalar.addi v285 v286
  let v288 : BitVec 32 := Scalar.select v283 v284 v287
  let c1024_i32_127 : BitVec 32 := 1024#32
  let v290 : BitVec 32 := Scalar.muli v288 c1024_i32_127
  let v291 : BitVec 32 := v290
  let v334 : Index := Scalar.indexCast v291
  ![0, v334.toNat]
def k0_off80_at (r : Fin 2) : BitVec 32 × BitVec 32 × BitVec 32 :=
  if r.val < 1 then
    (0#32, 0#32, 0#32)
  else
    (1#32, 1#32, 1#32)
def k0_mult13 (i : grid0.Coords) : BitVec 32 :=
  let c0_i32_54 : BitVec 32 := 0#32
  let c16_i32_50 : BitVec 32 := 16#32
  let arg1 : BitVec 32 := BitVec.ofNat 32 (i 1).val
  let c1_i32_37 : BitVec 32 := 1#32
  let v153 : BitVec 32 := Scalar.addi arg1 c1_i32_37
  let c1_i32_38 : BitVec 32 := 1#32
  let v154 : BitVec 32 := Scalar.addi v153 c1_i32_38
  let c16_i32 : BitVec 32 := 16#32
  let v155 : BitVec 32 := Scalar.minsi v154 c16_i32
  let c1_i32 : BitVec 32 := 1#32
  let v151 : BitVec 32 := Scalar.subi arg1 c1_i32
  let c0_i32_36 : BitVec 32 := 0#32
  let v152 : BitVec 32 := Scalar.maxsi v151 c0_i32_36
  let v174 : BitVec 32 := Scalar.subi v155 v152
  let v175 : BitVec 32 := Scalar.subi c16_i32_50 v174
  let c1_i32_51 : BitVec 32 := 1#32
  let v176 : BitVec 32 := Scalar.andi v175 c1_i32_51
  let v180 : BitVec 32 := Scalar.addi c0_i32_54 v176
  let c1_i32_353 : BitVec 32 := 1#32
  let v592 : BitVec 32 := Scalar.addi v180 c1_i32_353
  let v593 : BitVec 1 := Scalar.cmpi .slt v592 v152
  let c1_i32_354 : BitVec 32 := 1#32
  let v594 : BitVec 32 := Scalar.addi v180 c1_i32_354
  let c1_i32_355 : BitVec 32 := 1#32
  let v595 : BitVec 32 := Scalar.addi v180 c1_i32_355
  let v596 : BitVec 32 := Scalar.subi v155 v152
  let v597 : BitVec 32 := Scalar.addi v595 v596
  let v598 : BitVec 32 := Scalar.select v593 v594 v597
  let c1024_i32_356 : BitVec 32 := 1024#32
  let v600 : BitVec 32 := Scalar.muli v598 c1024_i32_356
  v600
def k0_mult14 (i : grid0.Coords) : BitVec 32 :=
  let c0_i32_54 : BitVec 32 := 0#32
  let c16_i32_50 : BitVec 32 := 16#32
  let arg1 : BitVec 32 := BitVec.ofNat 32 (i 1).val
  let c1_i32_37 : BitVec 32 := 1#32
  let v153 : BitVec 32 := Scalar.addi arg1 c1_i32_37
  let c1_i32_38 : BitVec 32 := 1#32
  let v154 : BitVec 32 := Scalar.addi v153 c1_i32_38
  let c16_i32 : BitVec 32 := 16#32
  let v155 : BitVec 32 := Scalar.minsi v154 c16_i32
  let c1_i32 : BitVec 32 := 1#32
  let v151 : BitVec 32 := Scalar.subi arg1 c1_i32
  let c0_i32_36 : BitVec 32 := 0#32
  let v152 : BitVec 32 := Scalar.maxsi v151 c0_i32_36
  let v174 : BitVec 32 := Scalar.subi v155 v152
  let v175 : BitVec 32 := Scalar.subi c16_i32_50 v174
  let c1_i32_51 : BitVec 32 := 1#32
  let v176 : BitVec 32 := Scalar.andi v175 c1_i32_51
  let v180 : BitVec 32 := Scalar.addi c0_i32_54 v176
  let c0_i32_124 : BitVec 32 := 0#32
  let v282 : BitVec 32 := Scalar.addi v180 c0_i32_124
  let v283 : BitVec 1 := Scalar.cmpi .slt v282 v152
  let c0_i32_125 : BitVec 32 := 0#32
  let v284 : BitVec 32 := Scalar.addi v180 c0_i32_125
  let c0_i32_126 : BitVec 32 := 0#32
  let v285 : BitVec 32 := Scalar.addi v180 c0_i32_126
  let v286 : BitVec 32 := Scalar.subi v155 v152
  let v287 : BitVec 32 := Scalar.addi v285 v286
  let v288 : BitVec 32 := Scalar.select v283 v284 v287
  let c1024_i32_357 : BitVec 32 := 1024#32
  let v602 : BitVec 32 := Scalar.muli v288 c1024_i32_357
  v602
@[reducible] def k0_t3_loop (i : grid0.Coords) : Scf.Loop 32 :=
  let c0_i32_69 : BitVec 32 := 0#32
  let c16_i32_50 : BitVec 32 := 16#32
  let arg1 : BitVec 32 := BitVec.ofNat 32 (i 1).val
  let c1_i32_37 : BitVec 32 := 1#32
  let v153 : BitVec 32 := Scalar.addi arg1 c1_i32_37
  let c1_i32_38 : BitVec 32 := 1#32
  let v154 : BitVec 32 := Scalar.addi v153 c1_i32_38
  let c16_i32 : BitVec 32 := 16#32
  let v155 : BitVec 32 := Scalar.minsi v154 c16_i32
  let c1_i32 : BitVec 32 := 1#32
  let v151 : BitVec 32 := Scalar.subi arg1 c1_i32
  let c0_i32_36 : BitVec 32 := 0#32
  let v152 : BitVec 32 := Scalar.maxsi v151 c0_i32_36
  let v174 : BitVec 32 := Scalar.subi v155 v152
  let v175 : BitVec 32 := Scalar.subi c16_i32_50 v174
  let c0_i32_57 : BitVec 32 := 0#32
  let v187 : BitVec 1 := Scalar.cmpi .sgt v175 c0_i32_57
  let v188 : BitVec 32 := Scalar.extui v187
  let c0_i32_58 : BitVec 32 := 0#32
  let v189 : BitVec 1 := Scalar.cmpi .slt v175 c0_i32_58
  let v190 : BitVec 32 := Scalar.extui v189
  let v191 : BitVec 32 := Scalar.subi v188 v190
  let c4_i32 : BitVec 32 := 4#32
  let c0_i32_59 : BitVec 32 := 0#32
  let v192 : BitVec 1 := Scalar.cmpi .sgt c4_i32 c0_i32_59
  let v193 : BitVec 32 := Scalar.extui v192
  let c0_i32_60 : BitVec 32 := 0#32
  let v194 : BitVec 1 := Scalar.cmpi .slt c4_i32 c0_i32_60
  let v195 : BitVec 32 := Scalar.extui v194
  let v196 : BitVec 32 := Scalar.subi v193 v195
  let v197 : BitVec 1 := Scalar.cmpi .ne v191 v196
  let v198 : BitVec 32 := Scalar.remsi v175 c4_i32
  let c0_i32_61 : BitVec 32 := 0#32
  let v199 : BitVec 1 := Scalar.cmpi .ne v198 c0_i32_61
  let v200 : BitVec 1 := Scalar.andi v197 v199
  let v186 : BitVec 32 := Scalar.divsi v175 c4_i32
  let c1_i32_62 : BitVec 32 := 1#32
  let v201 : BitVec 32 := Scalar.subi v186 c1_i32_62
  let v202 : BitVec 32 := Scalar.select v200 v201 v186
  let c0_i32_63 : BitVec 32 := 0#32
  let v203 : BitVec 32 := Scalar.subi v202 c0_i32_63
  let c1_i32_64 : BitVec 32 := 1#32
  let c1_i32_65 : BitVec 32 := 1#32
  let v204 : BitVec 32 := Scalar.subi c1_i32_64 c1_i32_65
  let v205 : BitVec 32 := Scalar.addi v203 v204
  let c1_i32_66 : BitVec 32 := 1#32
  let v206 : BitVec 32 := Scalar.divsi v205 c1_i32_66
  let v207 : BitVec 32 := Scalar.subi v206 c0_i32_69
  let c1_i32_70 : BitVec 32 := 1#32
  let v209 : BitVec 32 := Scalar.divsi v207 c1_i32_70
  let v210 : BitVec 32 := Scalar.muli v209 c1_i32_70
  let v211 : BitVec 32 := Scalar.addi c0_i32_69 v210
  let c1_i32_71 : BitVec 32 := 1#32
  ⟨c0_i32_69, v211, c1_i32_71⟩
def k0_mult15 (i : grid0.Coords) (k0_t3 : Fin (k0_t3_loop i).trips) : BitVec 32 :=
  let c0_i32_54 : BitVec 32 := 0#32
  let c16_i32_50 : BitVec 32 := 16#32
  let arg1 : BitVec 32 := BitVec.ofNat 32 (i 1).val
  let c1_i32_37 : BitVec 32 := 1#32
  let v153 : BitVec 32 := Scalar.addi arg1 c1_i32_37
  let c1_i32_38 : BitVec 32 := 1#32
  let v154 : BitVec 32 := Scalar.addi v153 c1_i32_38
  let c16_i32 : BitVec 32 := 16#32
  let v155 : BitVec 32 := Scalar.minsi v154 c16_i32
  let c1_i32 : BitVec 32 := 1#32
  let v151 : BitVec 32 := Scalar.subi arg1 c1_i32
  let c0_i32_36 : BitVec 32 := 0#32
  let v152 : BitVec 32 := Scalar.maxsi v151 c0_i32_36
  let v174 : BitVec 32 := Scalar.subi v155 v152
  let v175 : BitVec 32 := Scalar.subi c16_i32_50 v174
  let c1_i32_51 : BitVec 32 := 1#32
  let v176 : BitVec 32 := Scalar.andi v175 c1_i32_51
  let v180 : BitVec 32 := Scalar.addi c0_i32_54 v176
  let c2_i32 : BitVec 32 := 2#32
  let v181 : BitVec 32 := Scalar.andi v175 c2_i32
  let v185 : BitVec 32 := Scalar.addi v180 v181
  let c0_i32_68 : BitVec 32 := 0#32
  let c0_i32_69 : BitVec 32 := 0#32
  let c1_i32_71 : BitVec 32 := 1#32
  let arg25 : BitVec 32 := Scf.iv c0_i32_69 c1_i32_71 k0_t3
  let c1_i32_67 : BitVec 32 := 1#32
  let v282 : BitVec 32 := Scalar.muli arg25 c1_i32_67
  let v283 : BitVec 32 := Scalar.addi c0_i32_68 v282
  let c4_i32_124 : BitVec 32 := 4#32
  let v284 : BitVec 32 := Scalar.muli v283 c4_i32_124
  let v285 : BitVec 32 := Scalar.addi v185 v284
  let c0_i32_125 : BitVec 32 := 0#32
  let v286 : BitVec 32 := Scalar.addi v285 c0_i32_125
  let v287 : BitVec 1 := Scalar.cmpi .slt v286 v152
  let c0_i32_126 : BitVec 32 := 0#32
  let v288 : BitVec 32 := Scalar.addi v285 c0_i32_126
  let c0_i32_127 : BitVec 32 := 0#32
  let v289 : BitVec 32 := Scalar.addi v285 c0_i32_127
  let v290 : BitVec 32 := Scalar.subi v155 v152
  let v291 : BitVec 32 := Scalar.addi v289 v290
  let v292 : BitVec 32 := Scalar.select v287 v288 v291
  let c1024_i32_128 : BitVec 32 := 1024#32
  let v294 : BitVec 32 := Scalar.muli v292 c1024_i32_128
  v294
def k0_mult16 (v296 : BitVec 32) : BitVec 32 :=
  let c1024_i32_130 : BitVec 32 := 1024#32
  let v297 : BitVec 32 := Scalar.muli v296 c1024_i32_130
  v297

def k0_off81 (v296 : BitVec 32) : Fin 2 → Nat :=
  let c0_134 : Index := 0#32
  let c1024_i32_130 : BitVec 32 := 1024#32
  let v297 : BitVec 32 := Scalar.muli v296 c1024_i32_130
  let v298 : BitVec 32 := v297
  let v301 : Index := Scalar.indexCast v298
  ![0, v301.toNat]

def k0_chk6 (v296 : BitVec 32) : Prop :=
  (1024 ∣ (k0_mult16 v296).toNat) ∧
  (∀ a, (k0_off81 v296) a + S256x1024.size a ≤ S256x16384.size a)
theorem k0_mult16_dvd : ∀ (v296 : BitVec 32) (k0_hw6 : k0_chk6 v296), 1024 ∣ (k0_mult16 v296).toNat := fun v296 k0_hw6 => k0_hw6.1
theorem k0_off81_inb : ∀ (v296 : BitVec 32) (k0_hw6 : k0_chk6 v296), ∀ a, (k0_off81 v296) a + S256x1024.size a ≤ S256x16384.size a := fun v296 k0_hw6 => k0_hw6.2

def k0_off82 (i : grid0.Coords) (k0_t3 : Fin (k0_t3_loop i).trips) (c0_i32_125 : BitVec 32) (c0_i32_126 : BitVec 32) (c0_i32_127 : BitVec 32) : Fin 2 → Nat :=
  let c0_i32_54 : BitVec 32 := 0#32
  let c16_i32_50 : BitVec 32 := 16#32
  let arg1 : BitVec 32 := BitVec.ofNat 32 (i 1).val
  let c1_i32_37 : BitVec 32 := 1#32
  let v153 : BitVec 32 := Scalar.addi arg1 c1_i32_37
  let c1_i32_38 : BitVec 32 := 1#32
  let v154 : BitVec 32 := Scalar.addi v153 c1_i32_38
  let c16_i32 : BitVec 32 := 16#32
  let v155 : BitVec 32 := Scalar.minsi v154 c16_i32
  let c1_i32 : BitVec 32 := 1#32
  let v151 : BitVec 32 := Scalar.subi arg1 c1_i32
  let c0_i32_36 : BitVec 32 := 0#32
  let v152 : BitVec 32 := Scalar.maxsi v151 c0_i32_36
  let v174 : BitVec 32 := Scalar.subi v155 v152
  let v175 : BitVec 32 := Scalar.subi c16_i32_50 v174
  let c1_i32_51 : BitVec 32 := 1#32
  let v176 : BitVec 32 := Scalar.andi v175 c1_i32_51
  let v180 : BitVec 32 := Scalar.addi c0_i32_54 v176
  let c2_i32 : BitVec 32 := 2#32
  let v181 : BitVec 32 := Scalar.andi v175 c2_i32
  let v185 : BitVec 32 := Scalar.addi v180 v181
  let c0_i32_68 : BitVec 32 := 0#32
  let c0_i32_69 : BitVec 32 := 0#32
  let c1_i32_71 : BitVec 32 := 1#32
  let arg25 : BitVec 32 := Scf.iv c0_i32_69 c1_i32_71 k0_t3
  let c1_i32_67 : BitVec 32 := 1#32
  let v282 : BitVec 32 := Scalar.muli arg25 c1_i32_67
  let v283 : BitVec 32 := Scalar.addi c0_i32_68 v282
  let c4_i32_124 : BitVec 32 := 4#32
  let v284 : BitVec 32 := Scalar.muli v283 c4_i32_124
  let v285 : BitVec 32 := Scalar.addi v185 v284
  let v286 : BitVec 32 := Scalar.addi v285 c0_i32_125
  let v287 : BitVec 1 := Scalar.cmpi .slt v286 v152
  let v288 : BitVec 32 := Scalar.addi v285 c0_i32_126
  let v289 : BitVec 32 := Scalar.addi v285 c0_i32_127
  let v290 : BitVec 32 := Scalar.subi v155 v152
  let v291 : BitVec 32 := Scalar.addi v289 v290
  let v292 : BitVec 32 := Scalar.select v287 v288 v291
  let c1024_i32_128 : BitVec 32 := 1024#32
  let v294 : BitVec 32 := Scalar.muli v292 c1024_i32_128
  let v295 : BitVec 32 := v294
  let v311 : Index := Scalar.indexCast v295
  let c0_142 : Index := 0#32
  ![v311.toNat, 0]
def k0_off82_at (r : Fin 4) : BitVec 32 × BitVec 32 × BitVec 32 :=
  if r.val < 2 then
    if r.val < 1 then
      (0#32, 0#32, 0#32)
    else
      (1#32, 1#32, 1#32)
  else
    if r.val < 3 then
      (2#32, 2#32, 2#32)
    else
      (3#32, 3#32, 3#32)
def k0_off83 (i : grid0.Coords) (k0_t3 : Fin (k0_t3_loop i).trips) (c0_i32_125 : BitVec 32) (c0_i32_126 : BitVec 32) (c0_i32_127 : BitVec 32) : Fin 2 → Nat :=
  let c0_162 : Index := 0#32
  let c0_i32_54 : BitVec 32 := 0#32
  let c16_i32_50 : BitVec 32 := 16#32
  let arg1 : BitVec 32 := BitVec.ofNat 32 (i 1).val
  let c1_i32_37 : BitVec 32 := 1#32
  let v153 : BitVec 32 := Scalar.addi arg1 c1_i32_37
  let c1_i32_38 : BitVec 32 := 1#32
  let v154 : BitVec 32 := Scalar.addi v153 c1_i32_38
  let c16_i32 : BitVec 32 := 16#32
  let v155 : BitVec 32 := Scalar.minsi v154 c16_i32
  let c1_i32 : BitVec 32 := 1#32
  let v151 : BitVec 32 := Scalar.subi arg1 c1_i32
  let c0_i32_36 : BitVec 32 := 0#32
  let v152 : BitVec 32 := Scalar.maxsi v151 c0_i32_36
  let v174 : BitVec 32 := Scalar.subi v155 v152
  let v175 : BitVec 32 := Scalar.subi c16_i32_50 v174
  let c1_i32_51 : BitVec 32 := 1#32
  let v176 : BitVec 32 := Scalar.andi v175 c1_i32_51
  let v180 : BitVec 32 := Scalar.addi c0_i32_54 v176
  let c2_i32 : BitVec 32 := 2#32
  let v181 : BitVec 32 := Scalar.andi v175 c2_i32
  let v185 : BitVec 32 := Scalar.addi v180 v181
  let c0_i32_68 : BitVec 32 := 0#32
  let c0_i32_69 : BitVec 32 := 0#32
  let c1_i32_71 : BitVec 32 := 1#32
  let arg25 : BitVec 32 := Scf.iv c0_i32_69 c1_i32_71 k0_t3
  let c1_i32_67 : BitVec 32 := 1#32
  let v282 : BitVec 32 := Scalar.muli arg25 c1_i32_67
  let v283 : BitVec 32 := Scalar.addi c0_i32_68 v282
  let c4_i32_124 : BitVec 32 := 4#32
  let v284 : BitVec 32 := Scalar.muli v283 c4_i32_124
  let v285 : BitVec 32 := Scalar.addi v185 v284
  let v286 : BitVec 32 := Scalar.addi v285 c0_i32_125
  let v287 : BitVec 1 := Scalar.cmpi .slt v286 v152
  let v288 : BitVec 32 := Scalar.addi v285 c0_i32_126
  let v289 : BitVec 32 := Scalar.addi v285 c0_i32_127
  let v290 : BitVec 32 := Scalar.subi v155 v152
  let v291 : BitVec 32 := Scalar.addi v289 v290
  let v292 : BitVec 32 := Scalar.select v287 v288 v291
  let c1024_i32_128 : BitVec 32 := 1024#32
  let v294 : BitVec 32 := Scalar.muli v292 c1024_i32_128
  let v295 : BitVec 32 := v294
  let v338 : Index := Scalar.indexCast v295
  ![0, v338.toNat]
def k0_off83_at (r : Fin 4) : BitVec 32 × BitVec 32 × BitVec 32 :=
  if r.val < 2 then
    if r.val < 1 then
      (0#32, 0#32, 0#32)
    else
      (1#32, 1#32, 1#32)
  else
    if r.val < 3 then
      (2#32, 2#32, 2#32)
    else
      (3#32, 3#32, 3#32)
def k0_mult17 (i : grid0.Coords) (k0_t3 : Fin (k0_t3_loop i).trips) : BitVec 32 :=
  let c0_i32_54 : BitVec 32 := 0#32
  let c16_i32_50 : BitVec 32 := 16#32
  let arg1 : BitVec 32 := BitVec.ofNat 32 (i 1).val
  let c1_i32_37 : BitVec 32 := 1#32
  let v153 : BitVec 32 := Scalar.addi arg1 c1_i32_37
  let c1_i32_38 : BitVec 32 := 1#32
  let v154 : BitVec 32 := Scalar.addi v153 c1_i32_38
  let c16_i32 : BitVec 32 := 16#32
  let v155 : BitVec 32 := Scalar.minsi v154 c16_i32
  let c1_i32 : BitVec 32 := 1#32
  let v151 : BitVec 32 := Scalar.subi arg1 c1_i32
  let c0_i32_36 : BitVec 32 := 0#32
  let v152 : BitVec 32 := Scalar.maxsi v151 c0_i32_36
  let v174 : BitVec 32 := Scalar.subi v155 v152
  let v175 : BitVec 32 := Scalar.subi c16_i32_50 v174
  let c1_i32_51 : BitVec 32 := 1#32
  let v176 : BitVec 32 := Scalar.andi v175 c1_i32_51
  let v180 : BitVec 32 := Scalar.addi c0_i32_54 v176
  let c2_i32 : BitVec 32 := 2#32
  let v181 : BitVec 32 := Scalar.andi v175 c2_i32
  let v185 : BitVec 32 := Scalar.addi v180 v181
  let c0_i32_68 : BitVec 32 := 0#32
  let c0_i32_69 : BitVec 32 := 0#32
  let c1_i32_71 : BitVec 32 := 1#32
  let arg25 : BitVec 32 := Scf.iv c0_i32_69 c1_i32_71 k0_t3
  let c1_i32_67 : BitVec 32 := 1#32
  let v282 : BitVec 32 := Scalar.muli arg25 c1_i32_67
  let v283 : BitVec 32 := Scalar.addi c0_i32_68 v282
  let c4_i32_124 : BitVec 32 := 4#32
  let v284 : BitVec 32 := Scalar.muli v283 c4_i32_124
  let v285 : BitVec 32 := Scalar.addi v185 v284
  let c1_i32_354 : BitVec 32 := 1#32
  let v596 : BitVec 32 := Scalar.addi v285 c1_i32_354
  let v597 : BitVec 1 := Scalar.cmpi .slt v596 v152
  let c1_i32_355 : BitVec 32 := 1#32
  let v598 : BitVec 32 := Scalar.addi v285 c1_i32_355
  let c1_i32_356 : BitVec 32 := 1#32
  let v599 : BitVec 32 := Scalar.addi v285 c1_i32_356
  let v600 : BitVec 32 := Scalar.subi v155 v152
  let v601 : BitVec 32 := Scalar.addi v599 v600
  let v602 : BitVec 32 := Scalar.select v597 v598 v601
  let c1024_i32_357 : BitVec 32 := 1024#32
  let v604 : BitVec 32 := Scalar.muli v602 c1024_i32_357
  v604
def k0_mult18 (i : grid0.Coords) (k0_t3 : Fin (k0_t3_loop i).trips) : BitVec 32 :=
  let c0_i32_54 : BitVec 32 := 0#32
  let c16_i32_50 : BitVec 32 := 16#32
  let arg1 : BitVec 32 := BitVec.ofNat 32 (i 1).val
  let c1_i32_37 : BitVec 32 := 1#32
  let v153 : BitVec 32 := Scalar.addi arg1 c1_i32_37
  let c1_i32_38 : BitVec 32 := 1#32
  let v154 : BitVec 32 := Scalar.addi v153 c1_i32_38
  let c16_i32 : BitVec 32 := 16#32
  let v155 : BitVec 32 := Scalar.minsi v154 c16_i32
  let c1_i32 : BitVec 32 := 1#32
  let v151 : BitVec 32 := Scalar.subi arg1 c1_i32
  let c0_i32_36 : BitVec 32 := 0#32
  let v152 : BitVec 32 := Scalar.maxsi v151 c0_i32_36
  let v174 : BitVec 32 := Scalar.subi v155 v152
  let v175 : BitVec 32 := Scalar.subi c16_i32_50 v174
  let c1_i32_51 : BitVec 32 := 1#32
  let v176 : BitVec 32 := Scalar.andi v175 c1_i32_51
  let v180 : BitVec 32 := Scalar.addi c0_i32_54 v176
  let c2_i32 : BitVec 32 := 2#32
  let v181 : BitVec 32 := Scalar.andi v175 c2_i32
  let v185 : BitVec 32 := Scalar.addi v180 v181
  let c0_i32_68 : BitVec 32 := 0#32
  let c0_i32_69 : BitVec 32 := 0#32
  let c1_i32_71 : BitVec 32 := 1#32
  let arg25 : BitVec 32 := Scf.iv c0_i32_69 c1_i32_71 k0_t3
  let c1_i32_67 : BitVec 32 := 1#32
  let v282 : BitVec 32 := Scalar.muli arg25 c1_i32_67
  let v283 : BitVec 32 := Scalar.addi c0_i32_68 v282
  let c4_i32_124 : BitVec 32 := 4#32
  let v284 : BitVec 32 := Scalar.muli v283 c4_i32_124
  let v285 : BitVec 32 := Scalar.addi v185 v284
  let c0_i32_125 : BitVec 32 := 0#32
  let v286 : BitVec 32 := Scalar.addi v285 c0_i32_125
  let v287 : BitVec 1 := Scalar.cmpi .slt v286 v152
  let c0_i32_126 : BitVec 32 := 0#32
  let v288 : BitVec 32 := Scalar.addi v285 c0_i32_126
  let c0_i32_127 : BitVec 32 := 0#32
  let v289 : BitVec 32 := Scalar.addi v285 c0_i32_127
  let v290 : BitVec 32 := Scalar.subi v155 v152
  let v291 : BitVec 32 := Scalar.addi v289 v290
  let v292 : BitVec 32 := Scalar.select v287 v288 v291
  let c1024_i32_358 : BitVec 32 := 1024#32
  let v606 : BitVec 32 := Scalar.muli v292 c1024_i32_358
  v606
def k0_mult19 (i : grid0.Coords) (k0_t3 : Fin (k0_t3_loop i).trips) : BitVec 32 :=
  let c0_i32_54 : BitVec 32 := 0#32
  let c16_i32_50 : BitVec 32 := 16#32
  let arg1 : BitVec 32 := BitVec.ofNat 32 (i 1).val
  let c1_i32_37 : BitVec 32 := 1#32
  let v153 : BitVec 32 := Scalar.addi arg1 c1_i32_37
  let c1_i32_38 : BitVec 32 := 1#32
  let v154 : BitVec 32 := Scalar.addi v153 c1_i32_38
  let c16_i32 : BitVec 32 := 16#32
  let v155 : BitVec 32 := Scalar.minsi v154 c16_i32
  let c1_i32 : BitVec 32 := 1#32
  let v151 : BitVec 32 := Scalar.subi arg1 c1_i32
  let c0_i32_36 : BitVec 32 := 0#32
  let v152 : BitVec 32 := Scalar.maxsi v151 c0_i32_36
  let v174 : BitVec 32 := Scalar.subi v155 v152
  let v175 : BitVec 32 := Scalar.subi c16_i32_50 v174
  let c1_i32_51 : BitVec 32 := 1#32
  let v176 : BitVec 32 := Scalar.andi v175 c1_i32_51
  let v180 : BitVec 32 := Scalar.addi c0_i32_54 v176
  let c2_i32 : BitVec 32 := 2#32
  let v181 : BitVec 32 := Scalar.andi v175 c2_i32
  let v185 : BitVec 32 := Scalar.addi v180 v181
  let c0_i32_68 : BitVec 32 := 0#32
  let c0_i32_69 : BitVec 32 := 0#32
  let c1_i32_71 : BitVec 32 := 1#32
  let arg25 : BitVec 32 := Scf.iv c0_i32_69 c1_i32_71 k0_t3
  let c1_i32_67 : BitVec 32 := 1#32
  let v282 : BitVec 32 := Scalar.muli arg25 c1_i32_67
  let v283 : BitVec 32 := Scalar.addi c0_i32_68 v282
  let c4_i32_124 : BitVec 32 := 4#32
  let v284 : BitVec 32 := Scalar.muli v283 c4_i32_124
  let v285 : BitVec 32 := Scalar.addi v185 v284
  let c2_i32_584 : BitVec 32 := 2#32
  let v905 : BitVec 32 := Scalar.addi v285 c2_i32_584
  let v906 : BitVec 1 := Scalar.cmpi .slt v905 v152
  let c2_i32_585 : BitVec 32 := 2#32
  let v907 : BitVec 32 := Scalar.addi v285 c2_i32_585
  let c2_i32_586 : BitVec 32 := 2#32
  let v908 : BitVec 32 := Scalar.addi v285 c2_i32_586
  let v909 : BitVec 32 := Scalar.subi v155 v152
  let v910 : BitVec 32 := Scalar.addi v908 v909
  let v911 : BitVec 32 := Scalar.select v906 v907 v910
  let c1024_i32_587 : BitVec 32 := 1024#32
  let v913 : BitVec 32 := Scalar.muli v911 c1024_i32_587
  v913
def k0_mult20 (i : grid0.Coords) (k0_t3 : Fin (k0_t3_loop i).trips) : BitVec 32 :=
  let c0_i32_54 : BitVec 32 := 0#32
  let c16_i32_50 : BitVec 32 := 16#32
  let arg1 : BitVec 32 := BitVec.ofNat 32 (i 1).val
  let c1_i32_37 : BitVec 32 := 1#32
  let v153 : BitVec 32 := Scalar.addi arg1 c1_i32_37
  let c1_i32_38 : BitVec 32 := 1#32
  let v154 : BitVec 32 := Scalar.addi v153 c1_i32_38
  let c16_i32 : BitVec 32 := 16#32
  let v155 : BitVec 32 := Scalar.minsi v154 c16_i32
  let c1_i32 : BitVec 32 := 1#32
  let v151 : BitVec 32 := Scalar.subi arg1 c1_i32
  let c0_i32_36 : BitVec 32 := 0#32
  let v152 : BitVec 32 := Scalar.maxsi v151 c0_i32_36
  let v174 : BitVec 32 := Scalar.subi v155 v152
  let v175 : BitVec 32 := Scalar.subi c16_i32_50 v174
  let c1_i32_51 : BitVec 32 := 1#32
  let v176 : BitVec 32 := Scalar.andi v175 c1_i32_51
  let v180 : BitVec 32 := Scalar.addi c0_i32_54 v176
  let c2_i32 : BitVec 32 := 2#32
  let v181 : BitVec 32 := Scalar.andi v175 c2_i32
  let v185 : BitVec 32 := Scalar.addi v180 v181
  let c0_i32_68 : BitVec 32 := 0#32
  let c0_i32_69 : BitVec 32 := 0#32
  let c1_i32_71 : BitVec 32 := 1#32
  let arg25 : BitVec 32 := Scf.iv c0_i32_69 c1_i32_71 k0_t3
  let c1_i32_67 : BitVec 32 := 1#32
  let v282 : BitVec 32 := Scalar.muli arg25 c1_i32_67
  let v283 : BitVec 32 := Scalar.addi c0_i32_68 v282
  let c4_i32_124 : BitVec 32 := 4#32
  let v284 : BitVec 32 := Scalar.muli v283 c4_i32_124
  let v285 : BitVec 32 := Scalar.addi v185 v284
  let c1_i32_354 : BitVec 32 := 1#32
  let v596 : BitVec 32 := Scalar.addi v285 c1_i32_354
  let v597 : BitVec 1 := Scalar.cmpi .slt v596 v152
  let c1_i32_355 : BitVec 32 := 1#32
  let v598 : BitVec 32 := Scalar.addi v285 c1_i32_355
  let c1_i32_356 : BitVec 32 := 1#32
  let v599 : BitVec 32 := Scalar.addi v285 c1_i32_356
  let v600 : BitVec 32 := Scalar.subi v155 v152
  let v601 : BitVec 32 := Scalar.addi v599 v600
  let v602 : BitVec 32 := Scalar.select v597 v598 v601
  let c1024_i32_588 : BitVec 32 := 1024#32
  let v915 : BitVec 32 := Scalar.muli v602 c1024_i32_588
  v915
def k0_mult21 (i : grid0.Coords) (k0_t3 : Fin (k0_t3_loop i).trips) : BitVec 32 :=
  let c0_i32_54 : BitVec 32 := 0#32
  let c16_i32_50 : BitVec 32 := 16#32
  let arg1 : BitVec 32 := BitVec.ofNat 32 (i 1).val
  let c1_i32_37 : BitVec 32 := 1#32
  let v153 : BitVec 32 := Scalar.addi arg1 c1_i32_37
  let c1_i32_38 : BitVec 32 := 1#32
  let v154 : BitVec 32 := Scalar.addi v153 c1_i32_38
  let c16_i32 : BitVec 32 := 16#32
  let v155 : BitVec 32 := Scalar.minsi v154 c16_i32
  let c1_i32 : BitVec 32 := 1#32
  let v151 : BitVec 32 := Scalar.subi arg1 c1_i32
  let c0_i32_36 : BitVec 32 := 0#32
  let v152 : BitVec 32 := Scalar.maxsi v151 c0_i32_36
  let v174 : BitVec 32 := Scalar.subi v155 v152
  let v175 : BitVec 32 := Scalar.subi c16_i32_50 v174
  let c1_i32_51 : BitVec 32 := 1#32
  let v176 : BitVec 32 := Scalar.andi v175 c1_i32_51
  let v180 : BitVec 32 := Scalar.addi c0_i32_54 v176
  let c2_i32 : BitVec 32 := 2#32
  let v181 : BitVec 32 := Scalar.andi v175 c2_i32
  let v185 : BitVec 32 := Scalar.addi v180 v181
  let c0_i32_68 : BitVec 32 := 0#32
  let c0_i32_69 : BitVec 32 := 0#32
  let c1_i32_71 : BitVec 32 := 1#32
  let arg25 : BitVec 32 := Scf.iv c0_i32_69 c1_i32_71 k0_t3
  let c1_i32_67 : BitVec 32 := 1#32
  let v282 : BitVec 32 := Scalar.muli arg25 c1_i32_67
  let v283 : BitVec 32 := Scalar.addi c0_i32_68 v282
  let c4_i32_124 : BitVec 32 := 4#32
  let v284 : BitVec 32 := Scalar.muli v283 c4_i32_124
  let v285 : BitVec 32 := Scalar.addi v185 v284
  let c3_i32 : BitVec 32 := 3#32
  let v1214 : BitVec 32 := Scalar.addi v285 c3_i32
  let v1215 : BitVec 1 := Scalar.cmpi .slt v1214 v152
  let c3_i32_814 : BitVec 32 := 3#32
  let v1216 : BitVec 32 := Scalar.addi v285 c3_i32_814
  let c3_i32_815 : BitVec 32 := 3#32
  let v1217 : BitVec 32 := Scalar.addi v285 c3_i32_815
  let v1218 : BitVec 32 := Scalar.subi v155 v152
  let v1219 : BitVec 32 := Scalar.addi v1217 v1218
  let v1220 : BitVec 32 := Scalar.select v1215 v1216 v1219
  let c1024_i32_816 : BitVec 32 := 1024#32
  let v1222 : BitVec 32 := Scalar.muli v1220 c1024_i32_816
  v1222
def k0_mult22 (i : grid0.Coords) (k0_t3 : Fin (k0_t3_loop i).trips) : BitVec 32 :=
  let c0_i32_54 : BitVec 32 := 0#32
  let c16_i32_50 : BitVec 32 := 16#32
  let arg1 : BitVec 32 := BitVec.ofNat 32 (i 1).val
  let c1_i32_37 : BitVec 32 := 1#32
  let v153 : BitVec 32 := Scalar.addi arg1 c1_i32_37
  let c1_i32_38 : BitVec 32 := 1#32
  let v154 : BitVec 32 := Scalar.addi v153 c1_i32_38
  let c16_i32 : BitVec 32 := 16#32
  let v155 : BitVec 32 := Scalar.minsi v154 c16_i32
  let c1_i32 : BitVec 32 := 1#32
  let v151 : BitVec 32 := Scalar.subi arg1 c1_i32
  let c0_i32_36 : BitVec 32 := 0#32
  let v152 : BitVec 32 := Scalar.maxsi v151 c0_i32_36
  let v174 : BitVec 32 := Scalar.subi v155 v152
  let v175 : BitVec 32 := Scalar.subi c16_i32_50 v174
  let c1_i32_51 : BitVec 32 := 1#32
  let v176 : BitVec 32 := Scalar.andi v175 c1_i32_51
  let v180 : BitVec 32 := Scalar.addi c0_i32_54 v176
  let c2_i32 : BitVec 32 := 2#32
  let v181 : BitVec 32 := Scalar.andi v175 c2_i32
  let v185 : BitVec 32 := Scalar.addi v180 v181
  let c0_i32_68 : BitVec 32 := 0#32
  let c0_i32_69 : BitVec 32 := 0#32
  let c1_i32_71 : BitVec 32 := 1#32
  let arg25 : BitVec 32 := Scf.iv c0_i32_69 c1_i32_71 k0_t3
  let c1_i32_67 : BitVec 32 := 1#32
  let v282 : BitVec 32 := Scalar.muli arg25 c1_i32_67
  let v283 : BitVec 32 := Scalar.addi c0_i32_68 v282
  let c4_i32_124 : BitVec 32 := 4#32
  let v284 : BitVec 32 := Scalar.muli v283 c4_i32_124
  let v285 : BitVec 32 := Scalar.addi v185 v284
  let c2_i32_584 : BitVec 32 := 2#32
  let v905 : BitVec 32 := Scalar.addi v285 c2_i32_584
  let v906 : BitVec 1 := Scalar.cmpi .slt v905 v152
  let c2_i32_585 : BitVec 32 := 2#32
  let v907 : BitVec 32 := Scalar.addi v285 c2_i32_585
  let c2_i32_586 : BitVec 32 := 2#32
  let v908 : BitVec 32 := Scalar.addi v285 c2_i32_586
  let v909 : BitVec 32 := Scalar.subi v155 v152
  let v910 : BitVec 32 := Scalar.addi v908 v909
  let v911 : BitVec 32 := Scalar.select v906 v907 v910
  let c1024_i32_817 : BitVec 32 := 1024#32
  let v1224 : BitVec 32 := Scalar.muli v911 c1024_i32_817
  v1224
@[reducible] def k0_t4_loop (i : grid0.Coords) : Scf.Loop 32 :=
  let c0_i32_69 : BitVec 32 := 0#32
  let c16_i32_50 : BitVec 32 := 16#32
  let arg1 : BitVec 32 := BitVec.ofNat 32 (i 1).val
  let c1_i32_37 : BitVec 32 := 1#32
  let v153 : BitVec 32 := Scalar.addi arg1 c1_i32_37
  let c1_i32_38 : BitVec 32 := 1#32
  let v154 : BitVec 32 := Scalar.addi v153 c1_i32_38
  let c16_i32 : BitVec 32 := 16#32
  let v155 : BitVec 32 := Scalar.minsi v154 c16_i32
  let c1_i32 : BitVec 32 := 1#32
  let v151 : BitVec 32 := Scalar.subi arg1 c1_i32
  let c0_i32_36 : BitVec 32 := 0#32
  let v152 : BitVec 32 := Scalar.maxsi v151 c0_i32_36
  let v174 : BitVec 32 := Scalar.subi v155 v152
  let v175 : BitVec 32 := Scalar.subi c16_i32_50 v174
  let c0_i32_57 : BitVec 32 := 0#32
  let v187 : BitVec 1 := Scalar.cmpi .sgt v175 c0_i32_57
  let v188 : BitVec 32 := Scalar.extui v187
  let c0_i32_58 : BitVec 32 := 0#32
  let v189 : BitVec 1 := Scalar.cmpi .slt v175 c0_i32_58
  let v190 : BitVec 32 := Scalar.extui v189
  let v191 : BitVec 32 := Scalar.subi v188 v190
  let c4_i32 : BitVec 32 := 4#32
  let c0_i32_59 : BitVec 32 := 0#32
  let v192 : BitVec 1 := Scalar.cmpi .sgt c4_i32 c0_i32_59
  let v193 : BitVec 32 := Scalar.extui v192
  let c0_i32_60 : BitVec 32 := 0#32
  let v194 : BitVec 1 := Scalar.cmpi .slt c4_i32 c0_i32_60
  let v195 : BitVec 32 := Scalar.extui v194
  let v196 : BitVec 32 := Scalar.subi v193 v195
  let v197 : BitVec 1 := Scalar.cmpi .ne v191 v196
  let v198 : BitVec 32 := Scalar.remsi v175 c4_i32
  let c0_i32_61 : BitVec 32 := 0#32
  let v199 : BitVec 1 := Scalar.cmpi .ne v198 c0_i32_61
  let v200 : BitVec 1 := Scalar.andi v197 v199
  let v186 : BitVec 32 := Scalar.divsi v175 c4_i32
  let c1_i32_62 : BitVec 32 := 1#32
  let v201 : BitVec 32 := Scalar.subi v186 c1_i32_62
  let v202 : BitVec 32 := Scalar.select v200 v201 v186
  let c0_i32_63 : BitVec 32 := 0#32
  let v203 : BitVec 32 := Scalar.subi v202 c0_i32_63
  let c1_i32_64 : BitVec 32 := 1#32
  let c1_i32_65 : BitVec 32 := 1#32
  let v204 : BitVec 32 := Scalar.subi c1_i32_64 c1_i32_65
  let v205 : BitVec 32 := Scalar.addi v203 v204
  let c1_i32_66 : BitVec 32 := 1#32
  let v206 : BitVec 32 := Scalar.divsi v205 c1_i32_66
  let v207 : BitVec 32 := Scalar.subi v206 c0_i32_69
  let c1_i32_70 : BitVec 32 := 1#32
  let v209 : BitVec 32 := Scalar.divsi v207 c1_i32_70
  let v210 : BitVec 32 := Scalar.muli v209 c1_i32_70
  let v211 : BitVec 32 := Scalar.addi c0_i32_69 v210
  let v208 : BitVec 32 := Scalar.addi c0_i32_69 v207
  let c1_i32_72 : BitVec 32 := 1#32
  ⟨v211, v208, c1_i32_72⟩
def k0_mult23 (i : grid0.Coords) (k0_t4 : Fin (k0_t4_loop i).trips) : BitVec 32 :=
  let c0_i32_54 : BitVec 32 := 0#32
  let c16_i32_50 : BitVec 32 := 16#32
  let arg1 : BitVec 32 := BitVec.ofNat 32 (i 1).val
  let c1_i32_37 : BitVec 32 := 1#32
  let v153 : BitVec 32 := Scalar.addi arg1 c1_i32_37
  let c1_i32_38 : BitVec 32 := 1#32
  let v154 : BitVec 32 := Scalar.addi v153 c1_i32_38
  let c16_i32 : BitVec 32 := 16#32
  let v155 : BitVec 32 := Scalar.minsi v154 c16_i32
  let c1_i32 : BitVec 32 := 1#32
  let v151 : BitVec 32 := Scalar.subi arg1 c1_i32
  let c0_i32_36 : BitVec 32 := 0#32
  let v152 : BitVec 32 := Scalar.maxsi v151 c0_i32_36
  let v174 : BitVec 32 := Scalar.subi v155 v152
  let v175 : BitVec 32 := Scalar.subi c16_i32_50 v174
  let c1_i32_51 : BitVec 32 := 1#32
  let v176 : BitVec 32 := Scalar.andi v175 c1_i32_51
  let v180 : BitVec 32 := Scalar.addi c0_i32_54 v176
  let c2_i32 : BitVec 32 := 2#32
  let v181 : BitVec 32 := Scalar.andi v175 c2_i32
  let v185 : BitVec 32 := Scalar.addi v180 v181
  let c0_i32_68 : BitVec 32 := 0#32
  let c0_i32_69 : BitVec 32 := 0#32
  let c0_i32_57 : BitVec 32 := 0#32
  let v187 : BitVec 1 := Scalar.cmpi .sgt v175 c0_i32_57
  let v188 : BitVec 32 := Scalar.extui v187
  let c0_i32_58 : BitVec 32 := 0#32
  let v189 : BitVec 1 := Scalar.cmpi .slt v175 c0_i32_58
  let v190 : BitVec 32 := Scalar.extui v189
  let v191 : BitVec 32 := Scalar.subi v188 v190
  let c4_i32 : BitVec 32 := 4#32
  let c0_i32_59 : BitVec 32 := 0#32
  let v192 : BitVec 1 := Scalar.cmpi .sgt c4_i32 c0_i32_59
  let v193 : BitVec 32 := Scalar.extui v192
  let c0_i32_60 : BitVec 32 := 0#32
  let v194 : BitVec 1 := Scalar.cmpi .slt c4_i32 c0_i32_60
  let v195 : BitVec 32 := Scalar.extui v194
  let v196 : BitVec 32 := Scalar.subi v193 v195
  let v197 : BitVec 1 := Scalar.cmpi .ne v191 v196
  let v198 : BitVec 32 := Scalar.remsi v175 c4_i32
  let c0_i32_61 : BitVec 32 := 0#32
  let v199 : BitVec 1 := Scalar.cmpi .ne v198 c0_i32_61
  let v200 : BitVec 1 := Scalar.andi v197 v199
  let v186 : BitVec 32 := Scalar.divsi v175 c4_i32
  let c1_i32_62 : BitVec 32 := 1#32
  let v201 : BitVec 32 := Scalar.subi v186 c1_i32_62
  let v202 : BitVec 32 := Scalar.select v200 v201 v186
  let c0_i32_63 : BitVec 32 := 0#32
  let v203 : BitVec 32 := Scalar.subi v202 c0_i32_63
  let c1_i32_64 : BitVec 32 := 1#32
  let c1_i32_65 : BitVec 32 := 1#32
  let v204 : BitVec 32 := Scalar.subi c1_i32_64 c1_i32_65
  let v205 : BitVec 32 := Scalar.addi v203 v204
  let c1_i32_66 : BitVec 32 := 1#32
  let v206 : BitVec 32 := Scalar.divsi v205 c1_i32_66
  let v207 : BitVec 32 := Scalar.subi v206 c0_i32_69
  let c1_i32_70 : BitVec 32 := 1#32
  let v209 : BitVec 32 := Scalar.divsi v207 c1_i32_70
  let v210 : BitVec 32 := Scalar.muli v209 c1_i32_70
  let v211 : BitVec 32 := Scalar.addi c0_i32_69 v210
  let c1_i32_72 : BitVec 32 := 1#32
  let arg25 : BitVec 32 := Scf.iv v211 c1_i32_72 k0_t4
  let c1_i32_67 : BitVec 32 := 1#32
  let v282 : BitVec 32 := Scalar.muli arg25 c1_i32_67
  let v283 : BitVec 32 := Scalar.addi c0_i32_68 v282
  let c4_i32_124 : BitVec 32 := 4#32
  let v284 : BitVec 32 := Scalar.muli v283 c4_i32_124
  let v285 : BitVec 32 := Scalar.addi v185 v284
  let c0_i32_125 : BitVec 32 := 0#32
  let v286 : BitVec 32 := Scalar.addi v285 c0_i32_125
  let v287 : BitVec 1 := Scalar.cmpi .slt v286 v152
  let c0_i32_126 : BitVec 32 := 0#32
  let v288 : BitVec 32 := Scalar.addi v285 c0_i32_126
  let c0_i32_127 : BitVec 32 := 0#32
  let v289 : BitVec 32 := Scalar.addi v285 c0_i32_127
  let v290 : BitVec 32 := Scalar.subi v155 v152
  let v291 : BitVec 32 := Scalar.addi v289 v290
  let v292 : BitVec 32 := Scalar.select v287 v288 v291
  let c1024_i32_128 : BitVec 32 := 1024#32
  let v294 : BitVec 32 := Scalar.muli v292 c1024_i32_128
  v294
def k0_mult24 (v296 : BitVec 32) : BitVec 32 :=
  let c1024_i32_130 : BitVec 32 := 1024#32
  let v297 : BitVec 32 := Scalar.muli v296 c1024_i32_130
  v297

def k0_off84 (v296 : BitVec 32) : Fin 2 → Nat :=
  let c0_134 : Index := 0#32
  let c1024_i32_130 : BitVec 32 := 1024#32
  let v297 : BitVec 32 := Scalar.muli v296 c1024_i32_130
  let v298 : BitVec 32 := v297
  let v301 : Index := Scalar.indexCast v298
  ![0, v301.toNat]

def k0_chk7 (i : grid0.Coords) (k0_t4 : Fin (k0_t4_loop i).trips) (v296 : BitVec 32) : Prop :=
  (1024 ∣ (k0_mult24 v296).toNat) ∧
  (∀ a, (k0_off84 v296) a + S256x1024.size a ≤ S256x16384.size a)
theorem k0_mult24_dvd : ∀ (i : grid0.Coords) (k0_t4 : Fin (k0_t4_loop i).trips) (v296 : BitVec 32) (k0_hw7 : k0_chk7 i k0_t4 v296), 1024 ∣ (k0_mult24 v296).toNat := fun i k0_t4 v296 k0_hw7 => k0_hw7.1
theorem k0_off84_inb : ∀ (i : grid0.Coords) (k0_t4 : Fin (k0_t4_loop i).trips) (v296 : BitVec 32) (k0_hw7 : k0_chk7 i k0_t4 v296), ∀ a, (k0_off84 v296) a + S256x1024.size a ≤ S256x16384.size a := fun i k0_t4 v296 k0_hw7 => k0_hw7.2

def k0_off85 (i : grid0.Coords) (k0_t4 : Fin (k0_t4_loop i).trips) (c0_i32_125 : BitVec 32) (c0_i32_126 : BitVec 32) (c0_i32_127 : BitVec 32) : Fin 2 → Nat :=
  let c0_i32_54 : BitVec 32 := 0#32
  let c16_i32_50 : BitVec 32 := 16#32
  let arg1 : BitVec 32 := BitVec.ofNat 32 (i 1).val
  let c1_i32_37 : BitVec 32 := 1#32
  let v153 : BitVec 32 := Scalar.addi arg1 c1_i32_37
  let c1_i32_38 : BitVec 32 := 1#32
  let v154 : BitVec 32 := Scalar.addi v153 c1_i32_38
  let c16_i32 : BitVec 32 := 16#32
  let v155 : BitVec 32 := Scalar.minsi v154 c16_i32
  let c1_i32 : BitVec 32 := 1#32
  let v151 : BitVec 32 := Scalar.subi arg1 c1_i32
  let c0_i32_36 : BitVec 32 := 0#32
  let v152 : BitVec 32 := Scalar.maxsi v151 c0_i32_36
  let v174 : BitVec 32 := Scalar.subi v155 v152
  let v175 : BitVec 32 := Scalar.subi c16_i32_50 v174
  let c1_i32_51 : BitVec 32 := 1#32
  let v176 : BitVec 32 := Scalar.andi v175 c1_i32_51
  let v180 : BitVec 32 := Scalar.addi c0_i32_54 v176
  let c2_i32 : BitVec 32 := 2#32
  let v181 : BitVec 32 := Scalar.andi v175 c2_i32
  let v185 : BitVec 32 := Scalar.addi v180 v181
  let c0_i32_68 : BitVec 32 := 0#32
  let c0_i32_69 : BitVec 32 := 0#32
  let c0_i32_57 : BitVec 32 := 0#32
  let v187 : BitVec 1 := Scalar.cmpi .sgt v175 c0_i32_57
  let v188 : BitVec 32 := Scalar.extui v187
  let c0_i32_58 : BitVec 32 := 0#32
  let v189 : BitVec 1 := Scalar.cmpi .slt v175 c0_i32_58
  let v190 : BitVec 32 := Scalar.extui v189
  let v191 : BitVec 32 := Scalar.subi v188 v190
  let c4_i32 : BitVec 32 := 4#32
  let c0_i32_59 : BitVec 32 := 0#32
  let v192 : BitVec 1 := Scalar.cmpi .sgt c4_i32 c0_i32_59
  let v193 : BitVec 32 := Scalar.extui v192
  let c0_i32_60 : BitVec 32 := 0#32
  let v194 : BitVec 1 := Scalar.cmpi .slt c4_i32 c0_i32_60
  let v195 : BitVec 32 := Scalar.extui v194
  let v196 : BitVec 32 := Scalar.subi v193 v195
  let v197 : BitVec 1 := Scalar.cmpi .ne v191 v196
  let v198 : BitVec 32 := Scalar.remsi v175 c4_i32
  let c0_i32_61 : BitVec 32 := 0#32
  let v199 : BitVec 1 := Scalar.cmpi .ne v198 c0_i32_61
  let v200 : BitVec 1 := Scalar.andi v197 v199
  let v186 : BitVec 32 := Scalar.divsi v175 c4_i32
  let c1_i32_62 : BitVec 32 := 1#32
  let v201 : BitVec 32 := Scalar.subi v186 c1_i32_62
  let v202 : BitVec 32 := Scalar.select v200 v201 v186
  let c0_i32_63 : BitVec 32 := 0#32
  let v203 : BitVec 32 := Scalar.subi v202 c0_i32_63
  let c1_i32_64 : BitVec 32 := 1#32
  let c1_i32_65 : BitVec 32 := 1#32
  let v204 : BitVec 32 := Scalar.subi c1_i32_64 c1_i32_65
  let v205 : BitVec 32 := Scalar.addi v203 v204
  let c1_i32_66 : BitVec 32 := 1#32
  let v206 : BitVec 32 := Scalar.divsi v205 c1_i32_66
  let v207 : BitVec 32 := Scalar.subi v206 c0_i32_69
  let c1_i32_70 : BitVec 32 := 1#32
  let v209 : BitVec 32 := Scalar.divsi v207 c1_i32_70
  let v210 : BitVec 32 := Scalar.muli v209 c1_i32_70
  let v211 : BitVec 32 := Scalar.addi c0_i32_69 v210
  let c1_i32_72 : BitVec 32 := 1#32
  let arg25 : BitVec 32 := Scf.iv v211 c1_i32_72 k0_t4
  let c1_i32_67 : BitVec 32 := 1#32
  let v282 : BitVec 32 := Scalar.muli arg25 c1_i32_67
  let v283 : BitVec 32 := Scalar.addi c0_i32_68 v282
  let c4_i32_124 : BitVec 32 := 4#32
  let v284 : BitVec 32 := Scalar.muli v283 c4_i32_124
  let v285 : BitVec 32 := Scalar.addi v185 v284
  let v286 : BitVec 32 := Scalar.addi v285 c0_i32_125
  let v287 : BitVec 1 := Scalar.cmpi .slt v286 v152
  let v288 : BitVec 32 := Scalar.addi v285 c0_i32_126
  let v289 : BitVec 32 := Scalar.addi v285 c0_i32_127
  let v290 : BitVec 32 := Scalar.subi v155 v152
  let v291 : BitVec 32 := Scalar.addi v289 v290
  let v292 : BitVec 32 := Scalar.select v287 v288 v291
  let c1024_i32_128 : BitVec 32 := 1024#32
  let v294 : BitVec 32 := Scalar.muli v292 c1024_i32_128
  let v295 : BitVec 32 := v294
  let v311 : Index := Scalar.indexCast v295
  let c0_142 : Index := 0#32
  ![v311.toNat, 0]
def k0_off85_at (r : Fin 4) : BitVec 32 × BitVec 32 × BitVec 32 :=
  if r.val < 2 then
    if r.val < 1 then
      (0#32, 0#32, 0#32)
    else
      (1#32, 1#32, 1#32)
  else
    if r.val < 3 then
      (2#32, 2#32, 2#32)
    else
      (3#32, 3#32, 3#32)
def k0_off86 (i : grid0.Coords) (k0_t4 : Fin (k0_t4_loop i).trips) (c0_i32_125 : BitVec 32) (c0_i32_126 : BitVec 32) (c0_i32_127 : BitVec 32) : Fin 2 → Nat :=
  let c0_162 : Index := 0#32
  let c0_i32_54 : BitVec 32 := 0#32
  let c16_i32_50 : BitVec 32 := 16#32
  let arg1 : BitVec 32 := BitVec.ofNat 32 (i 1).val
  let c1_i32_37 : BitVec 32 := 1#32
  let v153 : BitVec 32 := Scalar.addi arg1 c1_i32_37
  let c1_i32_38 : BitVec 32 := 1#32
  let v154 : BitVec 32 := Scalar.addi v153 c1_i32_38
  let c16_i32 : BitVec 32 := 16#32
  let v155 : BitVec 32 := Scalar.minsi v154 c16_i32
  let c1_i32 : BitVec 32 := 1#32
  let v151 : BitVec 32 := Scalar.subi arg1 c1_i32
  let c0_i32_36 : BitVec 32 := 0#32
  let v152 : BitVec 32 := Scalar.maxsi v151 c0_i32_36
  let v174 : BitVec 32 := Scalar.subi v155 v152
  let v175 : BitVec 32 := Scalar.subi c16_i32_50 v174
  let c1_i32_51 : BitVec 32 := 1#32
  let v176 : BitVec 32 := Scalar.andi v175 c1_i32_51
  let v180 : BitVec 32 := Scalar.addi c0_i32_54 v176
  let c2_i32 : BitVec 32 := 2#32
  let v181 : BitVec 32 := Scalar.andi v175 c2_i32
  let v185 : BitVec 32 := Scalar.addi v180 v181
  let c0_i32_68 : BitVec 32 := 0#32
  let c0_i32_69 : BitVec 32 := 0#32
  let c0_i32_57 : BitVec 32 := 0#32
  let v187 : BitVec 1 := Scalar.cmpi .sgt v175 c0_i32_57
  let v188 : BitVec 32 := Scalar.extui v187
  let c0_i32_58 : BitVec 32 := 0#32
  let v189 : BitVec 1 := Scalar.cmpi .slt v175 c0_i32_58
  let v190 : BitVec 32 := Scalar.extui v189
  let v191 : BitVec 32 := Scalar.subi v188 v190
  let c4_i32 : BitVec 32 := 4#32
  let c0_i32_59 : BitVec 32 := 0#32
  let v192 : BitVec 1 := Scalar.cmpi .sgt c4_i32 c0_i32_59
  let v193 : BitVec 32 := Scalar.extui v192
  let c0_i32_60 : BitVec 32 := 0#32
  let v194 : BitVec 1 := Scalar.cmpi .slt c4_i32 c0_i32_60
  let v195 : BitVec 32 := Scalar.extui v194
  let v196 : BitVec 32 := Scalar.subi v193 v195
  let v197 : BitVec 1 := Scalar.cmpi .ne v191 v196
  let v198 : BitVec 32 := Scalar.remsi v175 c4_i32
  let c0_i32_61 : BitVec 32 := 0#32
  let v199 : BitVec 1 := Scalar.cmpi .ne v198 c0_i32_61
  let v200 : BitVec 1 := Scalar.andi v197 v199
  let v186 : BitVec 32 := Scalar.divsi v175 c4_i32
  let c1_i32_62 : BitVec 32 := 1#32
  let v201 : BitVec 32 := Scalar.subi v186 c1_i32_62
  let v202 : BitVec 32 := Scalar.select v200 v201 v186
  let c0_i32_63 : BitVec 32 := 0#32
  let v203 : BitVec 32 := Scalar.subi v202 c0_i32_63
  let c1_i32_64 : BitVec 32 := 1#32
  let c1_i32_65 : BitVec 32 := 1#32
  let v204 : BitVec 32 := Scalar.subi c1_i32_64 c1_i32_65
  let v205 : BitVec 32 := Scalar.addi v203 v204
  let c1_i32_66 : BitVec 32 := 1#32
  let v206 : BitVec 32 := Scalar.divsi v205 c1_i32_66
  let v207 : BitVec 32 := Scalar.subi v206 c0_i32_69
  let c1_i32_70 : BitVec 32 := 1#32
  let v209 : BitVec 32 := Scalar.divsi v207 c1_i32_70
  let v210 : BitVec 32 := Scalar.muli v209 c1_i32_70
  let v211 : BitVec 32 := Scalar.addi c0_i32_69 v210
  let c1_i32_72 : BitVec 32 := 1#32
  let arg25 : BitVec 32 := Scf.iv v211 c1_i32_72 k0_t4
  let c1_i32_67 : BitVec 32 := 1#32
  let v282 : BitVec 32 := Scalar.muli arg25 c1_i32_67
  let v283 : BitVec 32 := Scalar.addi c0_i32_68 v282
  let c4_i32_124 : BitVec 32 := 4#32
  let v284 : BitVec 32 := Scalar.muli v283 c4_i32_124
  let v285 : BitVec 32 := Scalar.addi v185 v284
  let v286 : BitVec 32 := Scalar.addi v285 c0_i32_125
  let v287 : BitVec 1 := Scalar.cmpi .slt v286 v152
  let v288 : BitVec 32 := Scalar.addi v285 c0_i32_126
  let v289 : BitVec 32 := Scalar.addi v285 c0_i32_127
  let v290 : BitVec 32 := Scalar.subi v155 v152
  let v291 : BitVec 32 := Scalar.addi v289 v290
  let v292 : BitVec 32 := Scalar.select v287 v288 v291
  let c1024_i32_128 : BitVec 32 := 1024#32
  let v294 : BitVec 32 := Scalar.muli v292 c1024_i32_128
  let v295 : BitVec 32 := v294
  let v338 : Index := Scalar.indexCast v295
  ![0, v338.toNat]
def k0_off86_at (r : Fin 4) : BitVec 32 × BitVec 32 × BitVec 32 :=
  if r.val < 2 then
    if r.val < 1 then
      (0#32, 0#32, 0#32)
    else
      (1#32, 1#32, 1#32)
  else
    if r.val < 3 then
      (2#32, 2#32, 2#32)
    else
      (3#32, 3#32, 3#32)
def k0_mult25 (i : grid0.Coords) (k0_t4 : Fin (k0_t4_loop i).trips) : BitVec 32 :=
  let c0_i32_54 : BitVec 32 := 0#32
  let c16_i32_50 : BitVec 32 := 16#32
  let arg1 : BitVec 32 := BitVec.ofNat 32 (i 1).val
  let c1_i32_37 : BitVec 32 := 1#32
  let v153 : BitVec 32 := Scalar.addi arg1 c1_i32_37
  let c1_i32_38 : BitVec 32 := 1#32
  let v154 : BitVec 32 := Scalar.addi v153 c1_i32_38
  let c16_i32 : BitVec 32 := 16#32
  let v155 : BitVec 32 := Scalar.minsi v154 c16_i32
  let c1_i32 : BitVec 32 := 1#32
  let v151 : BitVec 32 := Scalar.subi arg1 c1_i32
  let c0_i32_36 : BitVec 32 := 0#32
  let v152 : BitVec 32 := Scalar.maxsi v151 c0_i32_36
  let v174 : BitVec 32 := Scalar.subi v155 v152
  let v175 : BitVec 32 := Scalar.subi c16_i32_50 v174
  let c1_i32_51 : BitVec 32 := 1#32
  let v176 : BitVec 32 := Scalar.andi v175 c1_i32_51
  let v180 : BitVec 32 := Scalar.addi c0_i32_54 v176
  let c2_i32 : BitVec 32 := 2#32
  let v181 : BitVec 32 := Scalar.andi v175 c2_i32
  let v185 : BitVec 32 := Scalar.addi v180 v181
  let c0_i32_68 : BitVec 32 := 0#32
  let c0_i32_69 : BitVec 32 := 0#32
  let c0_i32_57 : BitVec 32 := 0#32
  let v187 : BitVec 1 := Scalar.cmpi .sgt v175 c0_i32_57
  let v188 : BitVec 32 := Scalar.extui v187
  let c0_i32_58 : BitVec 32 := 0#32
  let v189 : BitVec 1 := Scalar.cmpi .slt v175 c0_i32_58
  let v190 : BitVec 32 := Scalar.extui v189
  let v191 : BitVec 32 := Scalar.subi v188 v190
  let c4_i32 : BitVec 32 := 4#32
  let c0_i32_59 : BitVec 32 := 0#32
  let v192 : BitVec 1 := Scalar.cmpi .sgt c4_i32 c0_i32_59
  let v193 : BitVec 32 := Scalar.extui v192
  let c0_i32_60 : BitVec 32 := 0#32
  let v194 : BitVec 1 := Scalar.cmpi .slt c4_i32 c0_i32_60
  let v195 : BitVec 32 := Scalar.extui v194
  let v196 : BitVec 32 := Scalar.subi v193 v195
  let v197 : BitVec 1 := Scalar.cmpi .ne v191 v196
  let v198 : BitVec 32 := Scalar.remsi v175 c4_i32
  let c0_i32_61 : BitVec 32 := 0#32
  let v199 : BitVec 1 := Scalar.cmpi .ne v198 c0_i32_61
  let v200 : BitVec 1 := Scalar.andi v197 v199
  let v186 : BitVec 32 := Scalar.divsi v175 c4_i32
  let c1_i32_62 : BitVec 32 := 1#32
  let v201 : BitVec 32 := Scalar.subi v186 c1_i32_62
  let v202 : BitVec 32 := Scalar.select v200 v201 v186
  let c0_i32_63 : BitVec 32 := 0#32
  let v203 : BitVec 32 := Scalar.subi v202 c0_i32_63
  let c1_i32_64 : BitVec 32 := 1#32
  let c1_i32_65 : BitVec 32 := 1#32
  let v204 : BitVec 32 := Scalar.subi c1_i32_64 c1_i32_65
  let v205 : BitVec 32 := Scalar.addi v203 v204
  let c1_i32_66 : BitVec 32 := 1#32
  let v206 : BitVec 32 := Scalar.divsi v205 c1_i32_66
  let v207 : BitVec 32 := Scalar.subi v206 c0_i32_69
  let c1_i32_70 : BitVec 32 := 1#32
  let v209 : BitVec 32 := Scalar.divsi v207 c1_i32_70
  let v210 : BitVec 32 := Scalar.muli v209 c1_i32_70
  let v211 : BitVec 32 := Scalar.addi c0_i32_69 v210
  let c1_i32_72 : BitVec 32 := 1#32
  let arg25 : BitVec 32 := Scf.iv v211 c1_i32_72 k0_t4
  let c1_i32_67 : BitVec 32 := 1#32
  let v282 : BitVec 32 := Scalar.muli arg25 c1_i32_67
  let v283 : BitVec 32 := Scalar.addi c0_i32_68 v282
  let c4_i32_124 : BitVec 32 := 4#32
  let v284 : BitVec 32 := Scalar.muli v283 c4_i32_124
  let v285 : BitVec 32 := Scalar.addi v185 v284
  let c1_i32_354 : BitVec 32 := 1#32
  let v596 : BitVec 32 := Scalar.addi v285 c1_i32_354
  let v597 : BitVec 1 := Scalar.cmpi .slt v596 v152
  let c1_i32_355 : BitVec 32 := 1#32
  let v598 : BitVec 32 := Scalar.addi v285 c1_i32_355
  let c1_i32_356 : BitVec 32 := 1#32
  let v599 : BitVec 32 := Scalar.addi v285 c1_i32_356
  let v600 : BitVec 32 := Scalar.subi v155 v152
  let v601 : BitVec 32 := Scalar.addi v599 v600
  let v602 : BitVec 32 := Scalar.select v597 v598 v601
  let c1024_i32_357 : BitVec 32 := 1024#32
  let v604 : BitVec 32 := Scalar.muli v602 c1024_i32_357
  v604
def k0_mult26 (i : grid0.Coords) (k0_t4 : Fin (k0_t4_loop i).trips) : BitVec 32 :=
  let c0_i32_54 : BitVec 32 := 0#32
  let c16_i32_50 : BitVec 32 := 16#32
  let arg1 : BitVec 32 := BitVec.ofNat 32 (i 1).val
  let c1_i32_37 : BitVec 32 := 1#32
  let v153 : BitVec 32 := Scalar.addi arg1 c1_i32_37
  let c1_i32_38 : BitVec 32 := 1#32
  let v154 : BitVec 32 := Scalar.addi v153 c1_i32_38
  let c16_i32 : BitVec 32 := 16#32
  let v155 : BitVec 32 := Scalar.minsi v154 c16_i32
  let c1_i32 : BitVec 32 := 1#32
  let v151 : BitVec 32 := Scalar.subi arg1 c1_i32
  let c0_i32_36 : BitVec 32 := 0#32
  let v152 : BitVec 32 := Scalar.maxsi v151 c0_i32_36
  let v174 : BitVec 32 := Scalar.subi v155 v152
  let v175 : BitVec 32 := Scalar.subi c16_i32_50 v174
  let c1_i32_51 : BitVec 32 := 1#32
  let v176 : BitVec 32 := Scalar.andi v175 c1_i32_51
  let v180 : BitVec 32 := Scalar.addi c0_i32_54 v176
  let c2_i32 : BitVec 32 := 2#32
  let v181 : BitVec 32 := Scalar.andi v175 c2_i32
  let v185 : BitVec 32 := Scalar.addi v180 v181
  let c0_i32_68 : BitVec 32 := 0#32
  let c0_i32_69 : BitVec 32 := 0#32
  let c0_i32_57 : BitVec 32 := 0#32
  let v187 : BitVec 1 := Scalar.cmpi .sgt v175 c0_i32_57
  let v188 : BitVec 32 := Scalar.extui v187
  let c0_i32_58 : BitVec 32 := 0#32
  let v189 : BitVec 1 := Scalar.cmpi .slt v175 c0_i32_58
  let v190 : BitVec 32 := Scalar.extui v189
  let v191 : BitVec 32 := Scalar.subi v188 v190
  let c4_i32 : BitVec 32 := 4#32
  let c0_i32_59 : BitVec 32 := 0#32
  let v192 : BitVec 1 := Scalar.cmpi .sgt c4_i32 c0_i32_59
  let v193 : BitVec 32 := Scalar.extui v192
  let c0_i32_60 : BitVec 32 := 0#32
  let v194 : BitVec 1 := Scalar.cmpi .slt c4_i32 c0_i32_60
  let v195 : BitVec 32 := Scalar.extui v194
  let v196 : BitVec 32 := Scalar.subi v193 v195
  let v197 : BitVec 1 := Scalar.cmpi .ne v191 v196
  let v198 : BitVec 32 := Scalar.remsi v175 c4_i32
  let c0_i32_61 : BitVec 32 := 0#32
  let v199 : BitVec 1 := Scalar.cmpi .ne v198 c0_i32_61
  let v200 : BitVec 1 := Scalar.andi v197 v199
  let v186 : BitVec 32 := Scalar.divsi v175 c4_i32
  let c1_i32_62 : BitVec 32 := 1#32
  let v201 : BitVec 32 := Scalar.subi v186 c1_i32_62
  let v202 : BitVec 32 := Scalar.select v200 v201 v186
  let c0_i32_63 : BitVec 32 := 0#32
  let v203 : BitVec 32 := Scalar.subi v202 c0_i32_63
  let c1_i32_64 : BitVec 32 := 1#32
  let c1_i32_65 : BitVec 32 := 1#32
  let v204 : BitVec 32 := Scalar.subi c1_i32_64 c1_i32_65
  let v205 : BitVec 32 := Scalar.addi v203 v204
  let c1_i32_66 : BitVec 32 := 1#32
  let v206 : BitVec 32 := Scalar.divsi v205 c1_i32_66
  let v207 : BitVec 32 := Scalar.subi v206 c0_i32_69
  let c1_i32_70 : BitVec 32 := 1#32
  let v209 : BitVec 32 := Scalar.divsi v207 c1_i32_70
  let v210 : BitVec 32 := Scalar.muli v209 c1_i32_70
  let v211 : BitVec 32 := Scalar.addi c0_i32_69 v210
  let c1_i32_72 : BitVec 32 := 1#32
  let arg25 : BitVec 32 := Scf.iv v211 c1_i32_72 k0_t4
  let c1_i32_67 : BitVec 32 := 1#32
  let v282 : BitVec 32 := Scalar.muli arg25 c1_i32_67
  let v283 : BitVec 32 := Scalar.addi c0_i32_68 v282
  let c4_i32_124 : BitVec 32 := 4#32
  let v284 : BitVec 32 := Scalar.muli v283 c4_i32_124
  let v285 : BitVec 32 := Scalar.addi v185 v284
  let c0_i32_125 : BitVec 32 := 0#32
  let v286 : BitVec 32 := Scalar.addi v285 c0_i32_125
  let v287 : BitVec 1 := Scalar.cmpi .slt v286 v152
  let c0_i32_126 : BitVec 32 := 0#32
  let v288 : BitVec 32 := Scalar.addi v285 c0_i32_126
  let c0_i32_127 : BitVec 32 := 0#32
  let v289 : BitVec 32 := Scalar.addi v285 c0_i32_127
  let v290 : BitVec 32 := Scalar.subi v155 v152
  let v291 : BitVec 32 := Scalar.addi v289 v290
  let v292 : BitVec 32 := Scalar.select v287 v288 v291
  let c1024_i32_358 : BitVec 32 := 1024#32
  let v606 : BitVec 32 := Scalar.muli v292 c1024_i32_358
  v606
def k0_mult27 (i : grid0.Coords) (k0_t4 : Fin (k0_t4_loop i).trips) : BitVec 32 :=
  let c0_i32_54 : BitVec 32 := 0#32
  let c16_i32_50 : BitVec 32 := 16#32
  let arg1 : BitVec 32 := BitVec.ofNat 32 (i 1).val
  let c1_i32_37 : BitVec 32 := 1#32
  let v153 : BitVec 32 := Scalar.addi arg1 c1_i32_37
  let c1_i32_38 : BitVec 32 := 1#32
  let v154 : BitVec 32 := Scalar.addi v153 c1_i32_38
  let c16_i32 : BitVec 32 := 16#32
  let v155 : BitVec 32 := Scalar.minsi v154 c16_i32
  let c1_i32 : BitVec 32 := 1#32
  let v151 : BitVec 32 := Scalar.subi arg1 c1_i32
  let c0_i32_36 : BitVec 32 := 0#32
  let v152 : BitVec 32 := Scalar.maxsi v151 c0_i32_36
  let v174 : BitVec 32 := Scalar.subi v155 v152
  let v175 : BitVec 32 := Scalar.subi c16_i32_50 v174
  let c1_i32_51 : BitVec 32 := 1#32
  let v176 : BitVec 32 := Scalar.andi v175 c1_i32_51
  let v180 : BitVec 32 := Scalar.addi c0_i32_54 v176
  let c2_i32 : BitVec 32 := 2#32
  let v181 : BitVec 32 := Scalar.andi v175 c2_i32
  let v185 : BitVec 32 := Scalar.addi v180 v181
  let c0_i32_68 : BitVec 32 := 0#32
  let c0_i32_69 : BitVec 32 := 0#32
  let c0_i32_57 : BitVec 32 := 0#32
  let v187 : BitVec 1 := Scalar.cmpi .sgt v175 c0_i32_57
  let v188 : BitVec 32 := Scalar.extui v187
  let c0_i32_58 : BitVec 32 := 0#32
  let v189 : BitVec 1 := Scalar.cmpi .slt v175 c0_i32_58
  let v190 : BitVec 32 := Scalar.extui v189
  let v191 : BitVec 32 := Scalar.subi v188 v190
  let c4_i32 : BitVec 32 := 4#32
  let c0_i32_59 : BitVec 32 := 0#32
  let v192 : BitVec 1 := Scalar.cmpi .sgt c4_i32 c0_i32_59
  let v193 : BitVec 32 := Scalar.extui v192
  let c0_i32_60 : BitVec 32 := 0#32
  let v194 : BitVec 1 := Scalar.cmpi .slt c4_i32 c0_i32_60
  let v195 : BitVec 32 := Scalar.extui v194
  let v196 : BitVec 32 := Scalar.subi v193 v195
  let v197 : BitVec 1 := Scalar.cmpi .ne v191 v196
  let v198 : BitVec 32 := Scalar.remsi v175 c4_i32
  let c0_i32_61 : BitVec 32 := 0#32
  let v199 : BitVec 1 := Scalar.cmpi .ne v198 c0_i32_61
  let v200 : BitVec 1 := Scalar.andi v197 v199
  let v186 : BitVec 32 := Scalar.divsi v175 c4_i32
  let c1_i32_62 : BitVec 32 := 1#32
  let v201 : BitVec 32 := Scalar.subi v186 c1_i32_62
  let v202 : BitVec 32 := Scalar.select v200 v201 v186
  let c0_i32_63 : BitVec 32 := 0#32
  let v203 : BitVec 32 := Scalar.subi v202 c0_i32_63
  let c1_i32_64 : BitVec 32 := 1#32
  let c1_i32_65 : BitVec 32 := 1#32
  let v204 : BitVec 32 := Scalar.subi c1_i32_64 c1_i32_65
  let v205 : BitVec 32 := Scalar.addi v203 v204
  let c1_i32_66 : BitVec 32 := 1#32
  let v206 : BitVec 32 := Scalar.divsi v205 c1_i32_66
  let v207 : BitVec 32 := Scalar.subi v206 c0_i32_69
  let c1_i32_70 : BitVec 32 := 1#32
  let v209 : BitVec 32 := Scalar.divsi v207 c1_i32_70
  let v210 : BitVec 32 := Scalar.muli v209 c1_i32_70
  let v211 : BitVec 32 := Scalar.addi c0_i32_69 v210
  let c1_i32_72 : BitVec 32 := 1#32
  let arg25 : BitVec 32 := Scf.iv v211 c1_i32_72 k0_t4
  let c1_i32_67 : BitVec 32 := 1#32
  let v282 : BitVec 32 := Scalar.muli arg25 c1_i32_67
  let v283 : BitVec 32 := Scalar.addi c0_i32_68 v282
  let c4_i32_124 : BitVec 32 := 4#32
  let v284 : BitVec 32 := Scalar.muli v283 c4_i32_124
  let v285 : BitVec 32 := Scalar.addi v185 v284
  let c2_i32_584 : BitVec 32 := 2#32
  let v905 : BitVec 32 := Scalar.addi v285 c2_i32_584
  let v906 : BitVec 1 := Scalar.cmpi .slt v905 v152
  let c2_i32_585 : BitVec 32 := 2#32
  let v907 : BitVec 32 := Scalar.addi v285 c2_i32_585
  let c2_i32_586 : BitVec 32 := 2#32
  let v908 : BitVec 32 := Scalar.addi v285 c2_i32_586
  let v909 : BitVec 32 := Scalar.subi v155 v152
  let v910 : BitVec 32 := Scalar.addi v908 v909
  let v911 : BitVec 32 := Scalar.select v906 v907 v910
  let c1024_i32_587 : BitVec 32 := 1024#32
  let v913 : BitVec 32 := Scalar.muli v911 c1024_i32_587
  v913
def k0_mult28 (i : grid0.Coords) (k0_t4 : Fin (k0_t4_loop i).trips) : BitVec 32 :=
  let c0_i32_54 : BitVec 32 := 0#32
  let c16_i32_50 : BitVec 32 := 16#32
  let arg1 : BitVec 32 := BitVec.ofNat 32 (i 1).val
  let c1_i32_37 : BitVec 32 := 1#32
  let v153 : BitVec 32 := Scalar.addi arg1 c1_i32_37
  let c1_i32_38 : BitVec 32 := 1#32
  let v154 : BitVec 32 := Scalar.addi v153 c1_i32_38
  let c16_i32 : BitVec 32 := 16#32
  let v155 : BitVec 32 := Scalar.minsi v154 c16_i32
  let c1_i32 : BitVec 32 := 1#32
  let v151 : BitVec 32 := Scalar.subi arg1 c1_i32
  let c0_i32_36 : BitVec 32 := 0#32
  let v152 : BitVec 32 := Scalar.maxsi v151 c0_i32_36
  let v174 : BitVec 32 := Scalar.subi v155 v152
  let v175 : BitVec 32 := Scalar.subi c16_i32_50 v174
  let c1_i32_51 : BitVec 32 := 1#32
  let v176 : BitVec 32 := Scalar.andi v175 c1_i32_51
  let v180 : BitVec 32 := Scalar.addi c0_i32_54 v176
  let c2_i32 : BitVec 32 := 2#32
  let v181 : BitVec 32 := Scalar.andi v175 c2_i32
  let v185 : BitVec 32 := Scalar.addi v180 v181
  let c0_i32_68 : BitVec 32 := 0#32
  let c0_i32_69 : BitVec 32 := 0#32
  let c0_i32_57 : BitVec 32 := 0#32
  let v187 : BitVec 1 := Scalar.cmpi .sgt v175 c0_i32_57
  let v188 : BitVec 32 := Scalar.extui v187
  let c0_i32_58 : BitVec 32 := 0#32
  let v189 : BitVec 1 := Scalar.cmpi .slt v175 c0_i32_58
  let v190 : BitVec 32 := Scalar.extui v189
  let v191 : BitVec 32 := Scalar.subi v188 v190
  let c4_i32 : BitVec 32 := 4#32
  let c0_i32_59 : BitVec 32 := 0#32
  let v192 : BitVec 1 := Scalar.cmpi .sgt c4_i32 c0_i32_59
  let v193 : BitVec 32 := Scalar.extui v192
  let c0_i32_60 : BitVec 32 := 0#32
  let v194 : BitVec 1 := Scalar.cmpi .slt c4_i32 c0_i32_60
  let v195 : BitVec 32 := Scalar.extui v194
  let v196 : BitVec 32 := Scalar.subi v193 v195
  let v197 : BitVec 1 := Scalar.cmpi .ne v191 v196
  let v198 : BitVec 32 := Scalar.remsi v175 c4_i32
  let c0_i32_61 : BitVec 32 := 0#32
  let v199 : BitVec 1 := Scalar.cmpi .ne v198 c0_i32_61
  let v200 : BitVec 1 := Scalar.andi v197 v199
  let v186 : BitVec 32 := Scalar.divsi v175 c4_i32
  let c1_i32_62 : BitVec 32 := 1#32
  let v201 : BitVec 32 := Scalar.subi v186 c1_i32_62
  let v202 : BitVec 32 := Scalar.select v200 v201 v186
  let c0_i32_63 : BitVec 32 := 0#32
  let v203 : BitVec 32 := Scalar.subi v202 c0_i32_63
  let c1_i32_64 : BitVec 32 := 1#32
  let c1_i32_65 : BitVec 32 := 1#32
  let v204 : BitVec 32 := Scalar.subi c1_i32_64 c1_i32_65
  let v205 : BitVec 32 := Scalar.addi v203 v204
  let c1_i32_66 : BitVec 32 := 1#32
  let v206 : BitVec 32 := Scalar.divsi v205 c1_i32_66
  let v207 : BitVec 32 := Scalar.subi v206 c0_i32_69
  let c1_i32_70 : BitVec 32 := 1#32
  let v209 : BitVec 32 := Scalar.divsi v207 c1_i32_70
  let v210 : BitVec 32 := Scalar.muli v209 c1_i32_70
  let v211 : BitVec 32 := Scalar.addi c0_i32_69 v210
  let c1_i32_72 : BitVec 32 := 1#32
  let arg25 : BitVec 32 := Scf.iv v211 c1_i32_72 k0_t4
  let c1_i32_67 : BitVec 32 := 1#32
  let v282 : BitVec 32 := Scalar.muli arg25 c1_i32_67
  let v283 : BitVec 32 := Scalar.addi c0_i32_68 v282
  let c4_i32_124 : BitVec 32 := 4#32
  let v284 : BitVec 32 := Scalar.muli v283 c4_i32_124
  let v285 : BitVec 32 := Scalar.addi v185 v284
  let c1_i32_354 : BitVec 32 := 1#32
  let v596 : BitVec 32 := Scalar.addi v285 c1_i32_354
  let v597 : BitVec 1 := Scalar.cmpi .slt v596 v152
  let c1_i32_355 : BitVec 32 := 1#32
  let v598 : BitVec 32 := Scalar.addi v285 c1_i32_355
  let c1_i32_356 : BitVec 32 := 1#32
  let v599 : BitVec 32 := Scalar.addi v285 c1_i32_356
  let v600 : BitVec 32 := Scalar.subi v155 v152
  let v601 : BitVec 32 := Scalar.addi v599 v600
  let v602 : BitVec 32 := Scalar.select v597 v598 v601
  let c1024_i32_588 : BitVec 32 := 1024#32
  let v915 : BitVec 32 := Scalar.muli v602 c1024_i32_588
  v915
def k0_mult29 (i : grid0.Coords) (k0_t4 : Fin (k0_t4_loop i).trips) : BitVec 32 :=
  let c0_i32_54 : BitVec 32 := 0#32
  let c16_i32_50 : BitVec 32 := 16#32
  let arg1 : BitVec 32 := BitVec.ofNat 32 (i 1).val
  let c1_i32_37 : BitVec 32 := 1#32
  let v153 : BitVec 32 := Scalar.addi arg1 c1_i32_37
  let c1_i32_38 : BitVec 32 := 1#32
  let v154 : BitVec 32 := Scalar.addi v153 c1_i32_38
  let c16_i32 : BitVec 32 := 16#32
  let v155 : BitVec 32 := Scalar.minsi v154 c16_i32
  let c1_i32 : BitVec 32 := 1#32
  let v151 : BitVec 32 := Scalar.subi arg1 c1_i32
  let c0_i32_36 : BitVec 32 := 0#32
  let v152 : BitVec 32 := Scalar.maxsi v151 c0_i32_36
  let v174 : BitVec 32 := Scalar.subi v155 v152
  let v175 : BitVec 32 := Scalar.subi c16_i32_50 v174
  let c1_i32_51 : BitVec 32 := 1#32
  let v176 : BitVec 32 := Scalar.andi v175 c1_i32_51
  let v180 : BitVec 32 := Scalar.addi c0_i32_54 v176
  let c2_i32 : BitVec 32 := 2#32
  let v181 : BitVec 32 := Scalar.andi v175 c2_i32
  let v185 : BitVec 32 := Scalar.addi v180 v181
  let c0_i32_68 : BitVec 32 := 0#32
  let c0_i32_69 : BitVec 32 := 0#32
  let c0_i32_57 : BitVec 32 := 0#32
  let v187 : BitVec 1 := Scalar.cmpi .sgt v175 c0_i32_57
  let v188 : BitVec 32 := Scalar.extui v187
  let c0_i32_58 : BitVec 32 := 0#32
  let v189 : BitVec 1 := Scalar.cmpi .slt v175 c0_i32_58
  let v190 : BitVec 32 := Scalar.extui v189
  let v191 : BitVec 32 := Scalar.subi v188 v190
  let c4_i32 : BitVec 32 := 4#32
  let c0_i32_59 : BitVec 32 := 0#32
  let v192 : BitVec 1 := Scalar.cmpi .sgt c4_i32 c0_i32_59
  let v193 : BitVec 32 := Scalar.extui v192
  let c0_i32_60 : BitVec 32 := 0#32
  let v194 : BitVec 1 := Scalar.cmpi .slt c4_i32 c0_i32_60
  let v195 : BitVec 32 := Scalar.extui v194
  let v196 : BitVec 32 := Scalar.subi v193 v195
  let v197 : BitVec 1 := Scalar.cmpi .ne v191 v196
  let v198 : BitVec 32 := Scalar.remsi v175 c4_i32
  let c0_i32_61 : BitVec 32 := 0#32
  let v199 : BitVec 1 := Scalar.cmpi .ne v198 c0_i32_61
  let v200 : BitVec 1 := Scalar.andi v197 v199
  let v186 : BitVec 32 := Scalar.divsi v175 c4_i32
  let c1_i32_62 : BitVec 32 := 1#32
  let v201 : BitVec 32 := Scalar.subi v186 c1_i32_62
  let v202 : BitVec 32 := Scalar.select v200 v201 v186
  let c0_i32_63 : BitVec 32 := 0#32
  let v203 : BitVec 32 := Scalar.subi v202 c0_i32_63
  let c1_i32_64 : BitVec 32 := 1#32
  let c1_i32_65 : BitVec 32 := 1#32
  let v204 : BitVec 32 := Scalar.subi c1_i32_64 c1_i32_65
  let v205 : BitVec 32 := Scalar.addi v203 v204
  let c1_i32_66 : BitVec 32 := 1#32
  let v206 : BitVec 32 := Scalar.divsi v205 c1_i32_66
  let v207 : BitVec 32 := Scalar.subi v206 c0_i32_69
  let c1_i32_70 : BitVec 32 := 1#32
  let v209 : BitVec 32 := Scalar.divsi v207 c1_i32_70
  let v210 : BitVec 32 := Scalar.muli v209 c1_i32_70
  let v211 : BitVec 32 := Scalar.addi c0_i32_69 v210
  let c1_i32_72 : BitVec 32 := 1#32
  let arg25 : BitVec 32 := Scf.iv v211 c1_i32_72 k0_t4
  let c1_i32_67 : BitVec 32 := 1#32
  let v282 : BitVec 32 := Scalar.muli arg25 c1_i32_67
  let v283 : BitVec 32 := Scalar.addi c0_i32_68 v282
  let c4_i32_124 : BitVec 32 := 4#32
  let v284 : BitVec 32 := Scalar.muli v283 c4_i32_124
  let v285 : BitVec 32 := Scalar.addi v185 v284
  let c3_i32 : BitVec 32 := 3#32
  let v1214 : BitVec 32 := Scalar.addi v285 c3_i32
  let v1215 : BitVec 1 := Scalar.cmpi .slt v1214 v152
  let c3_i32_814 : BitVec 32 := 3#32
  let v1216 : BitVec 32 := Scalar.addi v285 c3_i32_814
  let c3_i32_815 : BitVec 32 := 3#32
  let v1217 : BitVec 32 := Scalar.addi v285 c3_i32_815
  let v1218 : BitVec 32 := Scalar.subi v155 v152
  let v1219 : BitVec 32 := Scalar.addi v1217 v1218
  let v1220 : BitVec 32 := Scalar.select v1215 v1216 v1219
  let c1024_i32_816 : BitVec 32 := 1024#32
  let v1222 : BitVec 32 := Scalar.muli v1220 c1024_i32_816
  v1222
def k0_mult30 (i : grid0.Coords) (k0_t4 : Fin (k0_t4_loop i).trips) : BitVec 32 :=
  let c0_i32_54 : BitVec 32 := 0#32
  let c16_i32_50 : BitVec 32 := 16#32
  let arg1 : BitVec 32 := BitVec.ofNat 32 (i 1).val
  let c1_i32_37 : BitVec 32 := 1#32
  let v153 : BitVec 32 := Scalar.addi arg1 c1_i32_37
  let c1_i32_38 : BitVec 32 := 1#32
  let v154 : BitVec 32 := Scalar.addi v153 c1_i32_38
  let c16_i32 : BitVec 32 := 16#32
  let v155 : BitVec 32 := Scalar.minsi v154 c16_i32
  let c1_i32 : BitVec 32 := 1#32
  let v151 : BitVec 32 := Scalar.subi arg1 c1_i32
  let c0_i32_36 : BitVec 32 := 0#32
  let v152 : BitVec 32 := Scalar.maxsi v151 c0_i32_36
  let v174 : BitVec 32 := Scalar.subi v155 v152
  let v175 : BitVec 32 := Scalar.subi c16_i32_50 v174
  let c1_i32_51 : BitVec 32 := 1#32
  let v176 : BitVec 32 := Scalar.andi v175 c1_i32_51
  let v180 : BitVec 32 := Scalar.addi c0_i32_54 v176
  let c2_i32 : BitVec 32 := 2#32
  let v181 : BitVec 32 := Scalar.andi v175 c2_i32
  let v185 : BitVec 32 := Scalar.addi v180 v181
  let c0_i32_68 : BitVec 32 := 0#32
  let c0_i32_69 : BitVec 32 := 0#32
  let c0_i32_57 : BitVec 32 := 0#32
  let v187 : BitVec 1 := Scalar.cmpi .sgt v175 c0_i32_57
  let v188 : BitVec 32 := Scalar.extui v187
  let c0_i32_58 : BitVec 32 := 0#32
  let v189 : BitVec 1 := Scalar.cmpi .slt v175 c0_i32_58
  let v190 : BitVec 32 := Scalar.extui v189
  let v191 : BitVec 32 := Scalar.subi v188 v190
  let c4_i32 : BitVec 32 := 4#32
  let c0_i32_59 : BitVec 32 := 0#32
  let v192 : BitVec 1 := Scalar.cmpi .sgt c4_i32 c0_i32_59
  let v193 : BitVec 32 := Scalar.extui v192
  let c0_i32_60 : BitVec 32 := 0#32
  let v194 : BitVec 1 := Scalar.cmpi .slt c4_i32 c0_i32_60
  let v195 : BitVec 32 := Scalar.extui v194
  let v196 : BitVec 32 := Scalar.subi v193 v195
  let v197 : BitVec 1 := Scalar.cmpi .ne v191 v196
  let v198 : BitVec 32 := Scalar.remsi v175 c4_i32
  let c0_i32_61 : BitVec 32 := 0#32
  let v199 : BitVec 1 := Scalar.cmpi .ne v198 c0_i32_61
  let v200 : BitVec 1 := Scalar.andi v197 v199
  let v186 : BitVec 32 := Scalar.divsi v175 c4_i32
  let c1_i32_62 : BitVec 32 := 1#32
  let v201 : BitVec 32 := Scalar.subi v186 c1_i32_62
  let v202 : BitVec 32 := Scalar.select v200 v201 v186
  let c0_i32_63 : BitVec 32 := 0#32
  let v203 : BitVec 32 := Scalar.subi v202 c0_i32_63
  let c1_i32_64 : BitVec 32 := 1#32
  let c1_i32_65 : BitVec 32 := 1#32
  let v204 : BitVec 32 := Scalar.subi c1_i32_64 c1_i32_65
  let v205 : BitVec 32 := Scalar.addi v203 v204
  let c1_i32_66 : BitVec 32 := 1#32
  let v206 : BitVec 32 := Scalar.divsi v205 c1_i32_66
  let v207 : BitVec 32 := Scalar.subi v206 c0_i32_69
  let c1_i32_70 : BitVec 32 := 1#32
  let v209 : BitVec 32 := Scalar.divsi v207 c1_i32_70
  let v210 : BitVec 32 := Scalar.muli v209 c1_i32_70
  let v211 : BitVec 32 := Scalar.addi c0_i32_69 v210
  let c1_i32_72 : BitVec 32 := 1#32
  let arg25 : BitVec 32 := Scf.iv v211 c1_i32_72 k0_t4
  let c1_i32_67 : BitVec 32 := 1#32
  let v282 : BitVec 32 := Scalar.muli arg25 c1_i32_67
  let v283 : BitVec 32 := Scalar.addi c0_i32_68 v282
  let c4_i32_124 : BitVec 32 := 4#32
  let v284 : BitVec 32 := Scalar.muli v283 c4_i32_124
  let v285 : BitVec 32 := Scalar.addi v185 v284
  let c2_i32_584 : BitVec 32 := 2#32
  let v905 : BitVec 32 := Scalar.addi v285 c2_i32_584
  let v906 : BitVec 1 := Scalar.cmpi .slt v905 v152
  let c2_i32_585 : BitVec 32 := 2#32
  let v907 : BitVec 32 := Scalar.addi v285 c2_i32_585
  let c2_i32_586 : BitVec 32 := 2#32
  let v908 : BitVec 32 := Scalar.addi v285 c2_i32_586
  let v909 : BitVec 32 := Scalar.subi v155 v152
  let v910 : BitVec 32 := Scalar.addi v908 v909
  let v911 : BitVec 32 := Scalar.select v906 v907 v910
  let c1024_i32_817 : BitVec 32 := 1024#32
  let v1224 : BitVec 32 := Scalar.muli v911 c1024_i32_817
  v1224
def k0_mult31 (v212 : BitVec 32) : BitVec 32 :=
  let c1024_i32 : BitVec 32 := 1024#32
  let v213 : BitVec 32 := Scalar.muli v212 c1024_i32
  v213

def k0_off87 (v212 : BitVec 32) : Fin 2 → Nat :=
  let c0_76 : Index := 0#32
  let c1024_i32 : BitVec 32 := 1024#32
  let v213 : BitVec 32 := Scalar.muli v212 c1024_i32
  let v214 : BitVec 32 := v213
  let v217 : Index := Scalar.indexCast v214
  ![0, v217.toNat]

def k0_chk8 (v212 : BitVec 32) : Prop :=
  (1024 ∣ (k0_mult31 v212).toNat) ∧
  (∀ a, (k0_off87 v212) a + S256x1024.size a ≤ S256x16384.size a)
theorem k0_mult31_dvd : ∀ (v212 : BitVec 32) (k0_hw8 : k0_chk8 v212), 1024 ∣ (k0_mult31 v212).toNat := fun v212 k0_hw8 => k0_hw8.1
theorem k0_off87_inb : ∀ (v212 : BitVec 32) (k0_hw8 : k0_chk8 v212), ∀ a, (k0_off87 v212) a + S256x1024.size a ≤ S256x16384.size a := fun v212 k0_hw8 => k0_hw8.2

@[reducible] def k0_t5_loop : Scf.Loop 32 :=
  let c0_i32_136 : BitVec 32 := 0#32
  let c16_i32_137 : BitVec 32 := 16#32
  let v294 : BitVec 32 := Scalar.addi c0_i32_136 c16_i32_137
  let c1_i32_138 : BitVec 32 := 1#32
  ⟨c0_i32_136, v294, c1_i32_138⟩
def k0_mult32 (k0_t5 : Fin k0_t5_loop.trips) : BitVec 32 :=
  let c0_i32_141 : BitVec 32 := 0#32
  let c0_i32_136 : BitVec 32 := 0#32
  let c1_i32_138 : BitVec 32 := 1#32
  let arg25 : BitVec 32 := Scf.iv c0_i32_136 c1_i32_138 k0_t5
  let c1_i32_140 : BitVec 32 := 1#32
  let v295 : BitVec 32 := Scalar.muli arg25 c1_i32_140
  let v296 : BitVec 32 := Scalar.addi c0_i32_141 v295
  let c1024_i32_142 : BitVec 32 := 1024#32
  let v297 : BitVec 32 := Scalar.muli v296 c1024_i32_142
  v297
def k0_off88 (k0_t5 : Fin k0_t5_loop.trips) : Fin 2 → Nat :=
  let c0_i32_141 : BitVec 32 := 0#32
  let c0_i32_136 : BitVec 32 := 0#32
  let c1_i32_138 : BitVec 32 := 1#32
  let arg25 : BitVec 32 := Scf.iv c0_i32_136 c1_i32_138 k0_t5
  let c1_i32_140 : BitVec 32 := 1#32
  let v295 : BitVec 32 := Scalar.muli arg25 c1_i32_140
  let v296 : BitVec 32 := Scalar.addi c0_i32_141 v295
  let c1024_i32_142 : BitVec 32 := 1024#32
  let v297 : BitVec 32 := Scalar.muli v296 c1024_i32_142
  let v298 : BitVec 32 := v297
  let v307 : Index := Scalar.indexCast v298
  let c0_148 : Index := 0#32
  ![v307.toNat, 0]
def k0_off89 (i : grid0.Coords) (k0_t5 : Fin k0_t5_loop.trips) : Fin 3 → Nat :=
  let c2_i32_146 : BitVec 32 := 2#32
  let c0_i32_145 : BitVec 32 := 0#32
  let c0_i32_141 : BitVec 32 := 0#32
  let c0_i32_136 : BitVec 32 := 0#32
  let c1_i32_138 : BitVec 32 := 1#32
  let arg25 : BitVec 32 := Scf.iv c0_i32_136 c1_i32_138 k0_t5
  let c1_i32_140 : BitVec 32 := 1#32
  let v295 : BitVec 32 := Scalar.muli arg25 c1_i32_140
  let v296 : BitVec 32 := Scalar.addi c0_i32_141 v295
  let arg1 : BitVec 32 := BitVec.ofNat 32 (i 1).val
  let v299 : BitVec 32 := Scalar.subi v296 arg1
  let c1_i32_144 : BitVec 32 := 1#32
  let v302 : BitVec 32 := Scalar.addi v299 c1_i32_144
  let v303 : BitVec 32 := Scalar.maxsi c0_i32_145 v302
  let v304 : BitVec 32 := Scalar.minsi c2_i32_146 v303
  let v313 : Index := Scalar.indexCast v304
  let c0_152 : Index := 0#32
  let c0_153 : Index := 0#32
  ![v313.toNat, 0, 0]
def k0_off90 (k0_t5 : Fin k0_t5_loop.trips) : Fin 2 → Nat :=
  let c0_168 : Index := 0#32
  let c0_i32_141 : BitVec 32 := 0#32
  let c0_i32_136 : BitVec 32 := 0#32
  let c1_i32_138 : BitVec 32 := 1#32
  let arg25 : BitVec 32 := Scf.iv c0_i32_136 c1_i32_138 k0_t5
  let c1_i32_140 : BitVec 32 := 1#32
  let v295 : BitVec 32 := Scalar.muli arg25 c1_i32_140
  let v296 : BitVec 32 := Scalar.addi c0_i32_141 v295
  let c1024_i32_142 : BitVec 32 := 1024#32
  let v297 : BitVec 32 := Scalar.muli v296 c1024_i32_142
  let v298 : BitVec 32 := v297
  let v341 : Index := Scalar.indexCast v298
  ![0, v341.toNat]
def k0_off91 (i : grid0.Coords) (k0_t5 : Fin k0_t5_loop.trips) : Fin 3 → Nat :=
  let c2_i32_146 : BitVec 32 := 2#32
  let c0_i32_145 : BitVec 32 := 0#32
  let c0_i32_141 : BitVec 32 := 0#32
  let c0_i32_136 : BitVec 32 := 0#32
  let c1_i32_138 : BitVec 32 := 1#32
  let arg25 : BitVec 32 := Scf.iv c0_i32_136 c1_i32_138 k0_t5
  let c1_i32_140 : BitVec 32 := 1#32
  let v295 : BitVec 32 := Scalar.muli arg25 c1_i32_140
  let v296 : BitVec 32 := Scalar.addi c0_i32_141 v295
  let arg1 : BitVec 32 := BitVec.ofNat 32 (i 1).val
  let v299 : BitVec 32 := Scalar.subi v296 arg1
  let c1_i32_144 : BitVec 32 := 1#32
  let v302 : BitVec 32 := Scalar.addi v299 c1_i32_144
  let v303 : BitVec 32 := Scalar.maxsi c0_i32_145 v302
  let v304 : BitVec 32 := Scalar.minsi c2_i32_146 v303
  let v407 : Index := Scalar.indexCast v304
  let c0_207 : Index := 0#32
  let c256_208 : Index := 256#32
  ![v407.toNat, 0, 256]
def k0_off92 (i : grid0.Coords) (k0_t5 : Fin k0_t5_loop.trips) : Fin 3 → Nat :=
  let c2_i32_146 : BitVec 32 := 2#32
  let c0_i32_145 : BitVec 32 := 0#32
  let c0_i32_141 : BitVec 32 := 0#32
  let c0_i32_136 : BitVec 32 := 0#32
  let c1_i32_138 : BitVec 32 := 1#32
  let arg25 : BitVec 32 := Scf.iv c0_i32_136 c1_i32_138 k0_t5
  let c1_i32_140 : BitVec 32 := 1#32
  let v295 : BitVec 32 := Scalar.muli arg25 c1_i32_140
  let v296 : BitVec 32 := Scalar.addi c0_i32_141 v295
  let arg1 : BitVec 32 := BitVec.ofNat 32 (i 1).val
  let v299 : BitVec 32 := Scalar.subi v296 arg1
  let c1_i32_144 : BitVec 32 := 1#32
  let v302 : BitVec 32 := Scalar.addi v299 c1_i32_144
  let v303 : BitVec 32 := Scalar.maxsi c0_i32_145 v302
  let v304 : BitVec 32 := Scalar.minsi c2_i32_146 v303
  let v501 : Index := Scalar.indexCast v304
  let c0_262 : Index := 0#32
  let c512_263 : Index := 512#32
  ![v501.toNat, 0, 512]
def k0_off93 (i : grid0.Coords) (k0_t5 : Fin k0_t5_loop.trips) : Fin 3 → Nat :=
  let c2_i32_146 : BitVec 32 := 2#32
  let c0_i32_145 : BitVec 32 := 0#32
  let c0_i32_141 : BitVec 32 := 0#32
  let c0_i32_136 : BitVec 32 := 0#32
  let c1_i32_138 : BitVec 32 := 1#32
  let arg25 : BitVec 32 := Scf.iv c0_i32_136 c1_i32_138 k0_t5
  let c1_i32_140 : BitVec 32 := 1#32
  let v295 : BitVec 32 := Scalar.muli arg25 c1_i32_140
  let v296 : BitVec 32 := Scalar.addi c0_i32_141 v295
  let arg1 : BitVec 32 := BitVec.ofNat 32 (i 1).val
  let v299 : BitVec 32 := Scalar.subi v296 arg1
  let c1_i32_144 : BitVec 32 := 1#32
  let v302 : BitVec 32 := Scalar.addi v299 c1_i32_144
  let v303 : BitVec 32 := Scalar.maxsi c0_i32_145 v302
  let v304 : BitVec 32 := Scalar.minsi c2_i32_146 v303
  let v595 : Index := Scalar.indexCast v304
  let c0_318 : Index := 0#32
  let c768_319 : Index := 768#32
  ![v595.toNat, 0, 768]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi c0_i32 v0
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi c0_i32 v0
  let c1_i32 : BitVec 32 := 1#32
  let v2 : BitVec 32 := Scalar.addi v1 c1_i32
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  ![v1.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_14 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

abbrev stage0_0 : Fin 1 → Memref sig .tc .smem S32x12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S16384x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S16384x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S256x16384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .smem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S32x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x11264 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S176x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S32x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S32x11264 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S176x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Proof.FfnUp.lean ====
/- The gated half of the feed-forward layer: the rows kept for a whole row block are the normalised rows with the
   neighbouring blocks' edges, and each written block, read at an index, is the reference's term there. -/
module

public import proofs.«01_k».proof.Defs
public import proofs.«01_k».proof.Proof.Gen.KernelIdeal.Value
public import proofs.«01_k».proof.Proof.Gen.ReferenceIdeal.Run
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Tactic.CleanTypes

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)

/-- Where each window's block lies at a point. -/
theorem idx : ∀ t : Fin cfg0.N, win0_0.index t = ![t.val / 11, 0] ∧ win0_1.index t = ![t.val / 11 * 128 - 1, 0]
    ∧ win0_2.index t = ![min (t.val / 11 * 128 + 128) 1023, 0] ∧ win0_3.index t = ![0, t.val % 11]
    ∧ win0_4.index t = ![0, 11 + t.val % 11] ∧ win0_5.index t = ![0, t.val % 11] ∧ win0_6.index t = ![0, t.val % 11]
    ∧ win0_7.index t = ![t.val / 11, t.val % 11] := by decide +kernel

/-- The row-block coordinate of a point. -/
theorem coord0 : ∀ t : Fin cfg0.N, ((grid0.coords t) 0).val = t.val / 11 := by decide +kernel

variable (m : (ℓ : Loc nD τ sig) → Buf (Elt Idealize.ShloMosaic.Ideal) ℓ) (c : Dev nD)

/-- A block's element, as an extended real. -/
abbrev rd {s : Shape} (v : s.Idx → EReal) (i : s.Idx) : EReal := v i

/-- Row `r` of the rows kept for row block `i`: row `2048 i + r - 16` of the input, zero outside the sequence. -/
def row (i r : ℕ) (d : Fin 2048) : EReal :=
  if h : 16 ≤ i * 2048 + r ∧ i * 2048 + r - 16 < 16384 then
    rd (s := S1x16384x2048) (m ((c : Thread nD τ).loc main_arg0)) (ix3 0 ⟨i * 2048 + r - 16, h.2⟩ d) else 0

/-- A row inside the sequence. -/
theorem row_eq (i r n : ℕ) (hn : n < 16384) (d : Fin 2048) (h : i * 2048 + r = n + 16) :
    row m c i r d = rd (s := S1x16384x2048) (m ((c : Thread nD τ).loc main_arg0)) (ix3 0 ⟨n, hn⟩ d) := by
  obtain rfl : n = i * 2048 + r - 16 := by omega
  rw [row, dif_pos ⟨by omega, by omega⟩]

/-- A choice by the row block's number. -/
theorem pick (t : Fin cfg0.N) (n : ℕ) (hn : n < 8) (a b : EReal) :
    Scalar.select (Scalar.cmpi CmpIPredicate.eq (BitVec.ofNat 32 (t.val / 11)) (BitVec.ofNat 32 n)) a b = if t.val / 11 = n then a else b := by
  have ht : t.val < 88 := lt_of_lt_of_eq t.isLt N_0
  have hk : t.val / 11 < 8 := by omega
  generalize t.val / 11 = k at hk
  interval_cases k <;> interval_cases n <;> rfl

/-- The row block's own rows. -/
theorem main_eq (t : Fin cfg0.N) (a : Fin 2048) (d : Fin 2048) (h : t.val / 11 * 2048 + a.val < 16384) :
    iblk m c 0 t (ix2 a d) = m ((c : Thread nD τ).loc main_arg0) (ix3 0 ⟨t.val / 11 * 2048 + a.val, h⟩ d) := by
  blk_ext! [iblk, V, idx t]

/-- The rows before it, where there are some. -/
theorem before_eq (t : Fin cfg0.N) (a : Fin 16) (d : Fin 2048) (h0 : ¬t.val / 11 = 0) (h : t.val / 11 * 2048 + a.val - 16 < 16384) :
    iblk m c 1 t (ix2 a d) = m ((c : Thread nD τ).loc main_arg0) (ix3 0 ⟨t.val / 11 * 2048 + a.val - 16, h⟩ d) := by
  blk_ext! [iblk, V, idx t]

/-- The rows after it, where there are some. -/
theorem after_eq (t : Fin cfg0.N) (a : Fin 16) (d : Fin 2048) (h0 : ¬t.val / 11 = 7) (h : t.val / 11 * 2048 + 2048 + a.val < 16384) :
    iblk m c 2 t (ix2 a d) = m ((c : Thread nD τ).loc main_arg0) (ix3 0 ⟨t.val / 11 * 2048 + 2048 + a.val, h⟩ d) := by
  blk_ext! [iblk, V, idx t]

/-- What a row block's first point keeps. -/
theorem kept_canon (t : Fin cfg0.N) (r : Fin 2080) (d : Fin 2048) :
    (View.canon [⟨Rect.unit ![2064, 0] ![16, 2048] inb_S2080x2048_S16x2048_2064_0, k0_pay4 (grid0.coords t) (iblk m c 2 t)⟩,
        ⟨Rect.unit ![16, 0] ![2048, 2048] inb_S2080x2048_S2048x2048_16_0, k0_pay3 (iblk m c 0 t)⟩,
        ⟨Rect.unit ![0, 0] ![16, 2048] inb_S2080x2048_S16x2048_0_0, k0_pay2 (grid0.coords t) (iblk m c 1 t)⟩] : Vec Idealize.ShloMosaic.Ideal S2080x2048 .bf16)
      (ix2 r d) = row m c (t.val / 11) r.val d := by
  have ht : t.val < 88 := lt_of_lt_of_eq t.isLt N_0
  have hcover : ∃ p ∈ ([⟨Rect.unit ![2064, 0] ![16, 2048] inb_S2080x2048_S16x2048_2064_0, k0_pay4 (grid0.coords t) (iblk m c 2 t)⟩,
        ⟨Rect.unit ![16, 0] ![2048, 2048] inb_S2080x2048_S2048x2048_16_0, k0_pay3 (iblk m c 0 t)⟩,
        ⟨Rect.unit ![0, 0] ![16, 2048] inb_S2080x2048_S16x2048_0_0, k0_pay2 (grid0.coords t) (iblk m c 1 t)⟩] : List (View.Piece (Elt Idealize.ShloMosaic.Ideal) S2080x2048 .bf16)),
    (ix2 r d : S2080x2048.Idx) ∈ p.1.set := by
    simp only [List.mem_cons, List.not_mem_nil, or_false, exists_eq_or_imp, exists_eq_left, Rect.mem_set_unit, Fin.forall_fin_two]
    simp
    omega
  canon_tiles x h using hcover
  all_goals
    idx_vars x
    pointwise [Gen.k0_pay2, Gen.k0_pay3, Gen.k0_pay4]
    clear hcover
    change r.val = _ at h0
    change d.val = x1.val at h1
    change x0.val < _ at x0_lt
    have e : d = x1 := Fin.ext h1
    subst e
  · change r.val = 2064 + x0.val at h0
    rw [coord0, pick t 7 (by omega)]
    by_cases h7 : t.val / 11 = 7
    · rw [if_pos h7, row, dif_neg (by omega)]
    · rw [if_neg h7, row_eq m c _ r.val (t.val / 11 * 2048 + 2048 + x0.val) (by omega) d (by omega)]
      exact after_eq m c t x0 d h7 (by omega)
  · change r.val = 16 + x0.val at h0
    rw [row_eq m c _ r.val (t.val / 11 * 2048 + x0.val) (by omega) d (by omega)]
    exact main_eq m c t x0 d (by omega)
  · change r.val = x0.val at h0
    rw [coord0, pick t 0 (by omega)]
    by_cases h7 : t.val / 11 = 0
    · rw [if_pos h7, row, dif_neg (by omega)]
    · rw [if_neg h7, row_eq m c _ r.val (t.val / 11 * 2048 + x0.val - 16) (by omega) d (by omega)]
      exact before_eq m c t x0 d h7 (by omega)

/-- A row block's first point keeps it. -/
theorem kept_first (t : Fin cfg0.N) (h0 : t.val % 11 = 0) (r : Fin 2080) (d : Fin 2048) :
    rd (s := S2080x2048) (outsAt0 m c t.val t.isLt).2 (ix2 r d) = row m c (t.val / 11) r.val d := by
  rw [outsAt0_A m c t h0]
  frame_out
  exact kept_canon m c t r d

/-- The other points keep it. -/
theorem kept_next (t : Fin cfg0.N) (h0 : ¬t.val % 11 = 0) (hb : t.val - 1 < cfg0.N) (r : Fin 2080) (d : Fin 2048) :
    rd (s := S2080x2048) (outsAt0 m c t.val t.isLt).2 (ix2 r d) = rd (s := S2080x2048) (outsAt0 m c (t.val - 1) hb).2 (ix2 r d) := by
  rw [outsAt0_B m c t h0]
  rfl

/-- The gated projection's convolution at row `r` and column `q`, over rows `X`, weights `W`, taps `C` and bias `B`. -/
def conv (X : ℕ → Fin 2048 → EReal) (W : Fin 2048 → EReal) (C : Fin 3 → EReal) (B : EReal) (r : ℕ) : EReal :=
  (∑ k, X (r - 1) k * W k) * C 0 + (∑ k, X r k * W k) * C 1 + (∑ k, X (r + 1) k * W k) * C 2 + B

/-- The gate times the up-projection. -/
def gated (X : ℕ → Fin 2048 → EReal) (W U : Fin 2048 → EReal) (C : Fin 3 → EReal) (B : EReal) (r : ℕ) : EReal :=
  conv X W C B r * Ideal.div 1 (1 + Ideal.exp (-conv X W C B r)) * ∑ k, X r k * U k

/-- The first half of a block's rows. -/
theorem upper (X : ℕ → Fin 2048 → EReal) (L : Vec Idealize.ShloMosaic.Ideal S1056x2048 .bf16) (M : Vec Idealize.ShloMosaic.Ideal S1024x2048 .bf16)
    (W U : Vec Idealize.ShloMosaic.Ideal S2048x512 .bf16) (C0 C1 C2 B : Vec Idealize.ShloMosaic.Ideal S1x512 .f32)
    (hL : ∀ a k, L (ix2 a k) = X a.val k) (hM : ∀ a k, M (ix2 a k) = X (16 + a.val) k) (r : Fin 1024) (q : Fin 512) :
    k0_pay8 (k0_pay5 M U) (k0_pay6 L W C0 C1 C2 B) (k0_pay7 L W C0 C1 C2 B) (ix2 r q)
      = gated X (fun k => W (ix2 k q)) (fun k => U (ix2 k q)) ![C0 (ix2 0 q), C1 (ix2 0 q), C2 (ix2 0 q)] (B (ix2 0 q)) (16 + r.val) := by
  pointwise [Gen.k0_pay5, Gen.k0_pay6, Gen.k0_pay7, Gen.k0_pay8]
  simp only [hL, hM]
  rw [show (16 + r.val + 1056 - 1) % 1056 = 16 + r.val - 1 from by omega, show (16 + r.val + 1056 - 1055) % 1056 = 16 + r.val + 1 from by omega,
    mul_comm (C0 (ix2 0 q)), mul_comm (C1 (ix2 0 q)), mul_comm (C2 (ix2 0 q)), zero_sub]
  rfl

/-- The second half. -/
theorem lower (X : ℕ → Fin 2048 → EReal) (L : Vec Idealize.ShloMosaic.Ideal S1056x2048 .bf16) (M : Vec Idealize.ShloMosaic.Ideal S1024x2048 .bf16)
    (W U : Vec Idealize.ShloMosaic.Ideal S2048x512 .bf16) (C0 C1 C2 B : Vec Idealize.ShloMosaic.Ideal S1x512 .f32)
    (hL : ∀ a k, L (ix2 a k) = X a.val k) (hM : ∀ a k, M (ix2 a k) = X (16 + a.val) k) (r : Fin 1024) (q : Fin 512) :
    k0_pay1 (k0_pay9 M U) (k0_pay10 L W C0 C1 C2 B) (ix2 r q)
      = gated X (fun k => W (ix2 k q)) (fun k => U (ix2 k q)) ![C0 (ix2 0 q), C1 (ix2 0 q), C2 (ix2 0 q)] (B (ix2 0 q)) (16 + r.val) := by
  pointwise [Gen.k0_pay1, Gen.k0_pay9, Gen.k0_pay10]
  simp only [hL, hM]
  rw [show (16 + r.val + 1056 - 1) % 1056 = 16 + r.val - 1 from by omega, show (16 + r.val + 1056 - 1055) % 1056 = 16 + r.val + 1 from by omega,
    mul_comm (C0 (ix2 0 q)), mul_comm (C1 (ix2 0 q)), mul_comm (C2 (ix2 0 q)), zero_sub]
  rfl

/-- The rows kept at any point. -/
theorem kept (t : Fin cfg0.N) (r : Fin 2080) (d : Fin 2048) :
    rd (s := S2080x2048) (outsAt0 m c t.val t.isLt).2 (ix2 r d) = row m c (t.val / 11) r.val d := by
  have e := Pipeline.eq_of_write_hold_apply (fun n h (i : Fin 2080 × Fin 2048) => rd (s := S2080x2048) (outsAt0 m c n h).2 (ix2 i.1 i.2)) 11
    (fun t i => row m c (t.val / 11) i.1.val i.2) (fun t h0 i => kept_first m c t h0 i.1 i.2) (fun t h0 i => kept_next m c t h0 _ i.1 i.2) t (r, d)
  rw [e]
  show row m c (11 * (t.val / 11) / 11) _ _ = _
  rw [Nat.mul_div_cancel_left _ (by omega)]

/-- A written block, at an index. -/
def blk (t : Fin cfg0.N) (r : ℕ) (q : Fin 512) : EReal :=
  gated (row m c (t.val / 11)) (fun k => rd (s := S2048x512) (iblk m c 3 t) (ix2 k q)) (fun k => rd (s := S2048x512) (iblk m c 4 t) (ix2 k q))
    ![rd (s := S3x512) (iblk m c 5 t) (ix2 0 q), rd (s := S3x512) (iblk m c 5 t) (ix2 1 q), rd (s := S3x512) (iblk m c 5 t) (ix2 2 q)]
    (rd (s := S1x512) (iblk m c 6 t) (ix2 0 q)) (16 + r)

/-- The rows kept at the point before one that only reads them. -/
theorem kept_prev (t : Fin cfg0.N) (h0 : ¬t.val % 11 = 0) (hb : t.val - 1 < cfg0.N) (r : Fin 2080) (d : Fin 2048) :
    rd (s := S2080x2048) (outsAt0 m c (t.val - 1) hb).2 (ix2 r d) = row m c (t.val / 11) r.val d := by
  rw [← kept_next m c t h0 hb, kept]

/-- Rows counted from a later one. -/
theorem gated_shift (X : ℕ → Fin 2048 → EReal) (W U : Fin 2048 → EReal) (C : Fin 3 → EReal) (B : EReal) (s r : ℕ) (h : 1 ≤ r) :
    gated (fun n => X (s + n)) W U C B r = gated X W U C B (s + r) := by
  simp only [gated, conv, show s + (r - 1) = s + r - 1 from by omega, ← Nat.add_assoc]

/-- What the points write. -/
theorem out_next (t : Fin cfg0.N) (hne : ¬t.val % 11 = 0) (r : Fin 2048) (q : Fin 512) :
    rd (s := S2048x512) (outsAt0 m c t.val t.isLt).1 (ix2 r q) = blk m c t r.val q := by
  rw [outsAt0_B m c t hne]
  frame_out
  unfold rd
  canon_tiles x h
  all_goals
    idx_vars x
    change r.val = _ at h0
    obtain rfl : q = x1 := Fin.ext h1
  · refine (lower (fun n => row m c (t.val / 11) (1024 + n)) _ _ _ _ _ _ _ _ ?_ ?_ x0 q).trans ?_
    · intro a k; rw [read_unread_whole]; pointwise; exact kept_prev m c t hne _ _ _
    · intro a k; rw [read_unread_whole]; pointwise; rw [show 1024 + (16 + a.val) = 1040 + a.val from by omega]; exact kept_prev m c t hne _ _ _
    · rw [gated_shift _ _ _ _ _ _ _ (by omega), show r.val = 1024 + x0.val from h0]
      pointwise [blk]
      rw [show 1024 + (16 + x0.val) = 16 + (1024 + x0.val) from by omega]
  · refine (upper (row m c (t.val / 11)) _ _ _ _ _ _ _ _ ?_ ?_ x0 q).trans ?_
    · intro a k; rw [read_unread_whole]; pointwise; exact kept_prev m c t hne _ _ _
    · intro a k; rw [read_unread_whole]; pointwise; exact kept_prev m c t hne _ _ _
    · rw [show r.val = x0.val from h0]
      pointwise [blk]

theorem out_first (t : Fin cfg0.N) (hne : t.val % 11 = 0) (r : Fin 2048) (q : Fin 512) :
    rd (s := S2048x512) (outsAt0 m c t.val t.isLt).1 (ix2 r q) = blk m c t r.val q := by
  rw [outsAt0_A m c t hne]
  frame_out
  unfold rd
  canon_tiles x h
  all_goals
    idx_vars x
    change r.val = _ at h0
    obtain rfl : q = x1 := Fin.ext h1
  · refine (lower (fun n => row m c (t.val / 11) (1024 + n)) _ _ _ _ _ _ _ _ ?_ ?_ x0 q).trans ?_
    · intro a k; rw [View.readCov_eq_canon']; pointwise; exact kept_canon m c t _ _
    · intro a k; rw [View.readCov_eq_canon']; pointwise; rw [show 1024 + (16 + a.val) = 1040 + a.val from by omega]; exact kept_canon m c t _ _
    · rw [gated_shift _ _ _ _ _ _ _ (by omega), show r.val = 1024 + x0.val from h0]
      pointwise [blk]
      rw [show 1024 + (16 + x0.val) = 16 + (1024 + x0.val) from by omega]
  · refine (upper (row m c (t.val / 11)) _ _ _ _ _ _ _ _ ?_ ?_ x0 q).trans ?_
    · intro a k; rw [View.readCov_eq_canon']; pointwise; exact kept_canon m c t _ _
    · intro a k; rw [View.readCov_eq_canon']; pointwise; exact kept_canon m c t _ _
    · rw [show r.val = x0.val from h0]
      pointwise [blk]

/-- The gate's weights. -/
theorem gate_eq (t : Fin cfg0.N) (k : Fin 2048) (q : Fin 512) (h : t.val % 11 * 512 + q.val < 5632) :
    iblk m c 3 t (ix2 k q) = m ((c : Thread nD τ).loc main_arg1) (ix3 0 k ⟨t.val % 11 * 512 + q.val, by omega⟩) := by
  blk_ext! [iblk, V, idx t]

/-- The up-projection's weights. -/
theorem up_eq (t : Fin cfg0.N) (k : Fin 2048) (q : Fin 512) (h : t.val % 11 * 512 + q.val < 5632) :
    iblk m c 4 t (ix2 k q) = m ((c : Thread nD τ).loc main_arg1) (ix3 0 k ⟨5632 + (t.val % 11 * 512 + q.val), by omega⟩) := by
  blk_ext! [iblk, V, idx t]

/-- The convolution's taps. -/
theorem tap_eq (t : Fin cfg0.N) (j : Fin 3) (q : Fin 512) (h : t.val % 11 * 512 + q.val < 5632) :
    iblk m c 5 t (ix2 j q) = m ((c : Thread nD τ).loc main_arg2) (ix3 0 j ⟨t.val % 11 * 512 + q.val, h⟩) := by
  blk_ext! [iblk, V, idx t]

/-- The convolution's bias. -/
theorem bias_eq (t : Fin cfg0.N) (q : Fin 512) (h : t.val % 11 * 512 + q.val < 5632) :
    iblk m c 6 t (ix2 0 q) = m ((c : Thread nD τ).loc main_arg3) (ix2 0 ⟨t.val % 11 * 512 + q.val, h⟩) := by
  blk_ext! [iblk, V, idx t]

/-- The product with the row before, zero before the first. -/
theorem sum_before (i r : ℕ) (h : i * 2048 + r < 16384) (W : Fin 2048 → EReal) :
    (∑ k, row m c i (16 + r - 1) k * W k) = if h' : i * 2048 + r < 1 then 0
      else ∑ k, rd (s := S1x16384x2048) (m ((c : Thread nD τ).loc main_arg0)) (ix3 0 ⟨i * 2048 + r - 1, by omega⟩ k) * W k := by
  split
  · simp only [row, dif_neg (show ¬(16 ≤ i * 2048 + (16 + r - 1) ∧ i * 2048 + (16 + r - 1) - 16 < 16384) by omega), zero_mul,
      Finset.sum_const_zero]
  · simp only [row_eq m c i (16 + r - 1) (i * 2048 + r - 1) (by omega) _ (by omega)]

/-- The product with the row itself. -/
theorem sum_here (i r : ℕ) (h : i * 2048 + r < 16384) (W : Fin 2048 → EReal) :
    (∑ k, row m c i (16 + r) k * W k)
      = ∑ k, rd (s := S1x16384x2048) (m ((c : Thread nD τ).loc main_arg0)) (ix3 0 ⟨i * 2048 + r, h⟩ k) * W k := by
  simp only [row_eq m c i (16 + r) (i * 2048 + r) h _ (by omega)]

/-- The product with the row after, zero after the last. -/
theorem sum_after (i r : ℕ) (h : i * 2048 + r < 16384) (W : Fin 2048 → EReal) :
    (∑ k, row m c i (16 + r + 1) k * W k) = if h' : i * 2048 + r < 16383 then
        ∑ k, rd (s := S1x16384x2048) (m ((c : Thread nD τ).loc main_arg0)) (ix3 0 ⟨1 + (i * 2048 + r), by omega⟩ k) * W k else 0 := by
  split
  · simp only [row_eq m c i (16 + r + 1) (1 + (i * 2048 + r)) (by omega) _ (by omega)]
  · simp only [row, dif_neg (show ¬(16 ≤ i * 2048 + (16 + r + 1) ∧ i * 2048 + (16 + r + 1) - 16 < 16384) by omega), zero_mul,
      Finset.sum_const_zero]

/-- The layer's result is the reference's. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => (dats m 0 c).arrAt 7 cfg0.N, Value.run_blocks m g, ?_⟩
  refine (θ_run Cert.ReferenceIdeal.defs _ _).mono (fun r h c => ?_) (Cert.ReferenceIdeal.Value.run m' g')
  obtain ⟨h0, hr⟩ := h c
  obtain ⟨a0, a1, a2, a3⟩ := hargs c
  unfold Cert.ReferenceIdeal.Value.res_main_v40 at h0
  rw [a0, a1, a2, a3] at h0
  refine ⟨h0.trans ?_, hr⟩
  clear h0 hr a0 a1 a2 a3 h r hargs
  symm
  refine (dats m 0 c).arrAt_eq_of_covers 7 _ (by decide +kernel) fun t hf y => ?_
  have ht : t.val < 88 := lt_of_lt_of_eq t.isLt N_0
  blk_simp
  rw [after0_7]
  clean_types
  idx_vars y
  have he : ((View.whole main_v5).slice (win0_7.rect t)).emb (ix2 y0 y1)
      = ix2 (⟨t.val / 11 * 2048 + y0.val, by omega⟩ : Fin 16384) (⟨t.val % 11 * 512 + y1.val, by omega⟩ : Fin 5632) := by
    blk_ext [idx t]
  rw [he]
  refine Eq.trans (b := blk m c t y0.val y1) ?_ ?_
  · by_cases h0 : t.val % 11 = 0
    · exact out_first m c t h0 y0 y1
    · exact out_next m c t h0 y0 y1
  pointwise
  have hq : t.val % 11 * 512 + y1.val < 5632 := by omega
  have hr : t.val / 11 * 2048 + y0.val < 16384 := by omega
  rw [blk, gated, conv, sum_before m c _ _ hr, sum_here m c _ _ hr, sum_here m c _ _ hr, sum_after m c _ _ hr]
  simp only [rd, gate_eq m c t _ y1 hq, up_eq m c t _ y1 hq, tap_eq m c t _ y1 hq, bias_eq m c t y1 hq]
  rfl

end Cert.KernelIdeal.Val
end
-- ==== Proof.FfnDown.lean ====
/- The second matrix product of the gated layer: four grid points add their quarter of the contraction to the residual,
   the fourth normalises the row. The block it leaves is the reference's term. -/
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.Tactic.CleanTypes

@[expose] public section

set_option maxRecDepth 16384

noncomputable section

namespace Cert.Kernel2Ideal.Val

open Cert.Kernel2Ideal Cert.Kernel2Ideal.Gen Idealize.ShloMosaic Idealize.ShloMosaic.TcCoe Idealize.SL.Sem
open Idealize.ShloMosaic.Pipeline (Dat)

/-- Where each window's block lies at a point. -/
theorem idx : ∀ t : Fin cfg0.N, win0_0.index t = ![t.val / 4, t.val % 4] ∧ win0_1.index t = ![t.val % 4, 0]
    ∧ win0_2.index t = ![t.val / 4, 0] ∧ win0_3.index t = ![0, 0] ∧ win0_4.index t = ![t.val / 4, 0] := by decide +kernel

variable (m : (ℓ : Loc nD τ sig) → Buf (Elt Ideal) ℓ) (c : Dev nD)

/-- An element of an array, as an extended real. -/
abbrev rd {s : Shape} (v : s.Idx → EReal) (i : s.Idx) : EReal := v i

/-- The `k`-th product of the contraction at row `r` and column `q`. -/
def prod (r : ℕ) (q : Fin 2048) (k : ℕ) : EReal :=
  if h : r < 16384 ∧ k < 5632 then
    rd (s := S1x16384x5632) (m ((c : Thread nD τ).loc main_arg0)) (ix3 0 ⟨r, h.1⟩ ⟨k, h.2⟩)
      * rd (s := S1x5632x2048) (m ((c : Thread nD τ).loc main_arg1)) (ix3 0 ⟨k, h.2⟩ q)
  else 0

/-- The activation's block. -/
theorem act_eq (t : Fin cfg0.N) (a : Fin 1024) (x : Fin 1408) (h : t.val / 4 * 1024 + a.val < 16384)
    (h' : t.val % 4 * 1408 + x.val < 5632) :
    iblk m c 0 t (ix2 a x) = m ((c : Thread nD τ).loc main_arg0) (ix3 0 ⟨t.val / 4 * 1024 + a.val, h⟩ ⟨t.val % 4 * 1408 + x.val, h'⟩) := by
  blk_ext! [iblk, V, idx t]

/-- The weights' block. -/
theorem weight_eq (t : Fin cfg0.N) (x : Fin 1408) (q : Fin 2048) (h' : t.val % 4 * 1408 + x.val < 5632) :
    iblk m c 1 t (ix2 x q) = m ((c : Thread nD τ).loc main_arg1) (ix3 0 ⟨t.val % 4 * 1408 + x.val, h'⟩ q) := by
  blk_ext! [iblk, V, idx t]

/-- One point's product is its quarter of the contraction. -/
theorem dot_eq (t : Fin cfg0.N) (a : Fin 1024) (q : Fin 2048) :
    (∑ x : Fin 1408, rd (s := S1024x1408) (iblk m c 0 t) (ix2 a x) * rd (s := S1408x2048) (iblk m c 1 t) (ix2 x q))
      = ∑ x ∈ Finset.range 1408, prod m c (t.val / 4 * 1024 + a.val) q (t.val % 4 * 1408 + x) := by
  have ht : t.val < 64 := lt_of_lt_of_eq t.isLt N_0
  rw [Finset.sum_range]
  refine Finset.sum_congr rfl fun x _ => ?_
  rw [prod, dif_pos ⟨by omega, by omega⟩, rd, rd, act_eq m c t a x (by omega) (by omega), weight_eq m c t x q (by omega)]

/-- The residual's block. -/
theorem res_eq (t : Fin cfg0.N) (a : Fin 1024) (q : Fin 2048) (h : t.val / 4 * 1024 + a.val < 16384) :
    iblk m c 2 t (ix2 a q) = m ((c : Thread nD τ).loc main_arg2) (ix3 0 ⟨t.val / 4 * 1024 + a.val, h⟩ q) := by
  blk_ext! [iblk, V, idx t]

theorem gain_eq (t : Fin cfg0.N) (q : Fin 2048) :
    iblk m c 3 t (ix2 0 q) = m ((c : Thread nD τ).loc main_arg3) (ix1 q) := by
  blk_ext! [iblk, V, idx t]

/-- The row sum after the first `n` products. -/
def part (t : Fin cfg0.N) (a : Fin 1024) (q : Fin 2048) (n : ℕ) : EReal :=
  rd (s := S1024x2048) (iblk m c 2 t) (ix2 a q) + ∑ k ∈ Finset.range n, prod m c (t.val / 4 * 1024 + a.val) q k

theorem part_step (t : Fin cfg0.N) (a : Fin 1024) (q : Fin 2048) :
    part m c t a q (t.val % 4 * 1408) + ∑ x : Fin 1408, rd (s := S1024x1408) (iblk m c 0 t) (ix2 a x) * rd (s := S1408x2048) (iblk m c 1 t) (ix2 x q)
      = part m c t a q ((t.val % 4 + 1) * 1408) := by
  rw [dot_eq, part, part, add_mul, one_mul, Finset.sum_range_add, add_assoc]

theorem part_zero (t : Fin cfg0.N) (a : Fin 1024) (q : Fin 2048) : part m c t a q 0 = iblk m c 2 t (ix2 a q) := by
  rw [part, Finset.sum_range_zero, add_zero]

/-- The points of one row block read one block of the residual. -/
theorem part_pred (t t' : Fin cfg0.N) (h : t'.val / 4 = t.val / 4) (a : Fin 1024) (q : Fin 2048) (n : ℕ) :
    part m c t' a q n = part m c t a q n := by
  have ht : t.val < 64 := lt_of_lt_of_eq t.isLt N_0
  have ht' : t'.val < 64 := lt_of_lt_of_eq t'.isLt N_0
  rw [part, part, rd, rd, res_eq m c t a q (by omega), res_eq m c t' a q (by omega)]
  simp only [h]

/-- A row block's first point leaves the residual and the first slice's products. -/
theorem outs_first (t : Fin cfg0.N) (h0 : t.val % 4 = 0) (a : Fin 1024) (q : Fin 2048) :
    outsAt0 m c t.val t.isLt (ix2 a q) = part m c t a q ((t.val % 4 + 1) * 1408) := by
  rw [← part_step m c t a q, show part m c t a q (t.val % 4 * 1408) = iblk m c 2 t (ix2 a q) from by rw [h0, zero_mul, part_zero],
    outsAt0_A m c t h0 (by omega)]
  frame_out
  pointwise [Gen.k0_pay1, Gen.k0_pay2]

/-- A later point adds its slice's products. -/
theorem outs_next (t : Fin cfg0.N) (h0 : ¬t.val % 4 = 0) (h3 : ¬t.val % 4 = 3) (hb : t.val - 1 < cfg0.N) (a : Fin 1024)
    (q : Fin 2048) (ih : outsAt0 m c (t.val - 1) hb (ix2 a q) = part m c t a q (t.val % 4 * 1408)) :
    outsAt0 m c t.val t.isLt (ix2 a q) = part m c t a q ((t.val % 4 + 1) * 1408) := by
  rw [outsAt0_B m c t h0 h3, ← part_step m c t a q, ← ih]
  frame_out
  pointwise [Gen.k0_pay2]

/-- What the points before a row block's last leave. -/
theorem outs_eq : ∀ (n : ℕ) (hn : n < cfg0.N) (_ : ¬n % 4 = 3) (a : Fin 1024) (q : Fin 2048),
    outsAt0 m c n hn (ix2 a q) = part m c ⟨n, hn⟩ a q ((n % 4 + 1) * 1408) := by
  intro n
  induction n with
  | zero => exact fun hn _ a q => outs_first m c ⟨0, hn⟩ rfl a q
  | succ n ih =>
    intro hn h3 a q
    by_cases h0 : (n + 1) % 4 = 0
    · exact outs_first m c ⟨n + 1, hn⟩ h0 a q
    · have e2 := ih (by omega) (by omega) a q
      rw [part_pred m c ⟨n + 1, hn⟩ _ (by show n / 4 = (n + 1) / 4; omega), show n % 4 + 1 = (n + 1) % 4 from by omega] at e2
      exact outs_next m c ⟨n + 1, hn⟩ h0 h3 (by show n < _; omega) a q e2

/-- The whole contraction. -/
theorem part_full (t : Fin cfg0.N) (a : Fin 1024) (q : Fin 2048) (h : t.val / 4 * 1024 + a.val < 16384) :
    part m c t a q 5632 = rd (s := S1x16384x2048) (m ((c : Thread nD τ).loc main_arg2)) (ix3 0 ⟨t.val / 4 * 1024 + a.val, h⟩ q)
      + ∑ k : Fin 5632, (rd (s := S1x16384x5632) (m ((c : Thread nD τ).loc main_arg0)) (ix3 0 ⟨t.val / 4 * 1024 + a.val, h⟩ k)
          * rd (s := S1x5632x2048) (m ((c : Thread nD τ).loc main_arg1)) (ix3 0 k q)) := by
  rw [part, rd, res_eq m c t a q h, Finset.sum_range]
  refine congrArg _ (Finset.sum_congr rfl fun k _ => ?_)
  rw [prod, dif_pos ⟨h, k.isLt⟩]

/-- What a row block's last point reads back and adds to. -/
theorem last_eq (t : Fin cfg0.N) (h3 : t.val % 4 = 3) (hb : t.val - 1 < cfg0.N) (a : Fin 1024) (q : Fin 2048) :
    rd (s := S1024x2048) (outsAt0 m c (t.val - 1) hb) (ix2 a q)
        + ∑ x : Fin 1408, rd (s := S1024x1408) (iblk m c 0 t) (ix2 a x) * rd (s := S1408x2048) (iblk m c 1 t) (ix2 x q) = part m c t a q 5632 := by
  rw [rd, outs_eq m c _ hb (by omega), part_pred m c t _ (by show (t.val - 1) / 4 = t.val / 4; omega),
    show (t.val - 1) % 4 + 1 = t.val % 4 from by omega, part_step, h3]

/-- The layer's result is the reference's. -/
theorem algebraic : Cert.algebraic_Kernel2Ideal_Reference2Ideal (hKernel2Ideal := Cert.Kernel2Ideal.Gen.facts)
    (hReference2Ideal := Cert.Reference2Ideal.Gen.facts) := by
  intro m g m' g' _ hargs
  refine ⟨fun c => (dats m 0 c).arrAt 4 cfg0.N, ?_, ?_⟩
  · refine (θ_run Cert.Kernel2Ideal.defs _ _).mono (fun r h c => ?_) (Value.run m g)
    have e := h c
    rw [← Value.final4] at e
    exact e
  refine (θ_run Cert.Reference2Ideal.defs _ _).mono (fun r h c => ?_) (Cert.Reference2Ideal.Value.run m' g')
  obtain ⟨h0, hr⟩ := h c
  obtain ⟨a0, a1, a2, a3⟩ := hargs c
  rw [a0, a1, a2, a3] at h0
  refine ⟨h0.trans ?_, hr⟩
  clear h0 hr a0 a1 a2 a3 h r hargs
  symm
  refine (dats m 0 c).arrAt_eq_of_covers 4 _ (by decide +kernel) fun t hf y => ?_
  have ht : t.val < 64 := lt_of_lt_of_eq t.isLt N_0
  have h3 : t.val % 4 = 3 := (flush0_4 t).mp hf
  blk_simp
  rw [after0_4, outsAt0_C m c t (by omega) h3]
  frame_out
  clean_types
  idx_vars y
  have he : ((View.whole main_v6).slice (win0_4.rect t)).emb (ix2 y0 y1) = ix2 (⟨t.val / 4 * 1024 + y0.val, by omega⟩ : Fin 16384) y1 := by
    blk_ext [idx t]
  rw [he]
  pointwise [Gen.k0_pay2, Gen.k0_pay3]
  simp only [last_eq m c t h3]
  simp only [part_full m c t y0 _ (by omega : t.val / 4 * 1024 + y0.val < 16384), rd]
  exact congrArg _ (gain_eq m c t y1)

end Cert.Kernel2Ideal.Val
end
-- ==== Proof.OutProj.lean ====
/- The output projection: each row block of the residual sum and of its normalised copy, read at an index, is the
   reference's term there. -/
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Tactic.CleanTypes

@[expose] public section

set_option maxRecDepth 16384

noncomputable section

namespace Cert.Kernel3Ideal.Val

open Cert.Kernel3Ideal Cert.Kernel3Ideal.Gen Idealize.ShloMosaic Idealize.ShloMosaic.TcCoe Idealize.SL.Sem
open Idealize.ShloMosaic.Pipeline (Dat)

/-- Where each window's block lies at a point. -/
theorem idx : ∀ t : Fin cfg0.N, win0_0.index t = ![t.val, 0] ∧ win0_1.index t = ![t.val, 0] ∧ win0_2.index t = ![0, 0]
    ∧ win0_3.index t = ![1, 0] ∧ win0_4.index t = ![t.val, 0] ∧ win0_5.index t = ![0, 0] ∧ win0_6.index t = ![t.val, 0]
    ∧ win0_7.index t = ![t.val, 0] := by decide +kernel

/-- Both results of the output projection are the reference's. -/
theorem algebraic : Cert.algebraic_Kernel3Ideal_Reference3Ideal (hKernel3Ideal := Cert.Kernel3Ideal.Gen.facts)
    (hReference3Ideal := Cert.Reference3Ideal.Gen.facts) := by
  intro m g m' g' _ hargs
  refine ⟨fun c => (dats m 0 c).arrAt 6 cfg0.N, fun c => (dats m 0 c).arrAt 7 cfg0.N, Value.run_blocks m g, ?_⟩
  refine (θ_run Cert.Reference3Ideal.defs _ _).mono (fun r h c => ?_) (Cert.Reference3Ideal.Value.run m' g')
  obtain ⟨h0, h1, hr⟩ := h c
  obtain ⟨a0, a1, a2, a3, a4⟩ := hargs c
  rw [a0, a1, a2, a3] at h0
  rw [a0, a1, a2, a3, a4] at h1
  refine ⟨h0.trans ?_, h1.trans ?_, hr⟩ <;> clear h0 h1 hr a0 a1 a2 a3 a4 h r hargs
  · symm
    refine (dats m 0 c).arrAt_eq_of_covers 6 _ (by decide +kernel) fun t hf y => ?_
    blk_simp
    rw [after0_6]
    frame_out
    clean_types
    idx_vars y
    pointwise [Gen.k0_pay1]
    blk_point [iblk, V, idx t]
  · symm
    refine (dats m 0 c).arrAt_eq_of_covers 7 _ (by decide +kernel) fun t hf y => ?_
    blk_simp
    rw [after0_7]
    frame_out
    clean_types
    idx_vars y
    pointwise [Gen.k0_pay1, Gen.k0_pay2]
    blk_point [iblk, V, idx t]

end Cert.Kernel3Ideal.Val
end
-- ==== Proof.InProj.Base.lean ====
/- The input projection's body as a program over a state: the contents of its buffers, one function per buffer. -/
module

public import proofs.«01_k».proof.Defs
public import proofs.«01_k».proof.Proof.Gen.Kernel4Ideal.Frame
public import proofs.«01_k».proof.Proof.Gen.Kernel4Ideal.Points
public import Idealize.ShloMosaic.Lib.Pipeline.ValueKit

@[expose] public section

set_option maxRecDepth 16384

noncomputable section

namespace Cert.Kernel4Ideal.InProj

open Cert.Kernel4Ideal Cert.Kernel4Ideal.Gen Idealize.ShloMosaic Idealize.ShloMosaic.TcCoe Idealize.SL.Sem
open Idealize.SL Idealize.SL.RA Idealize.SL.BI Idealize.SL.ProofMode
open Idealize.SL.BI.BIBase Idealize.SL.BI.Laws
open scoped Idealize.SL.BI

variable {F : FTy → Type} [FloatOps F]

local notation "𝕄" => MT nD τ sig Unit (Elt F) ℕ (UR sig nD τ) ℕ

/-- The body's buffers: inputs, outputs, scratch. -/
inductive Nm
  | x | g | w | cs | o | qt | vt | c4 | c16 | h | stage
deriving DecidableEq

instance : Fintype Nm where
  elems := {.x, .g, .w, .cs, .o, .qt, .vt, .c4, .c16, .h, .stage}
  complete n := by cases n <;> decide

/-- A buffer's shape. -/
abbrev Nm.sh : Nm → Shape
  | .x => S512x2048 | .g => S1x2048 | .w => S2048x1024 | .cs => S1x1024 | .o => S512x1024 | .qt => S1024x512
  | .vt => S1024x512 | .c4 => S4x128x1024 | .c16 => S16x32x1024 | .h => S512x2048 | .stage => S2x8x512x128

/-- A buffer's elements. -/
abbrev Nm.el : Nm → EltTy
  | .x | .g | .cs | .stage => .f32
  | _ => .bf16

/-- The memrefs a point is called with. -/
abbrev Refs := (n : Nm) → Memref sig .tc .vmem n.sh n.el

/-- What the buffers hold. -/
abbrev St (F : FTy → Type) := (n : Nm) → n.sh.Idx → Elt F n.el

/-- A core owns the buffers at a state. -/
def Own (c : Dev nD) (R : Refs) (σ : St F) : sProp 𝕄 :=
  bigSep Finset.univ fun n : Nm => owns (c : Thread nD τ) (R n) fullShare (σ n)

/-- A family of buffers split at one. -/
theorem split_at (Φ : Nm → sProp 𝕄) (n : Nm) : bigSep Finset.univ Φ = iprop(Φ n ∗ bigSep (Finset.univ.erase n) Φ) :=
  bigSep_erase (Finset.mem_univ n)

/-- One buffer taken out, and put back at other contents. -/
theorem own_open (c : Dev nD) (R : Refs) (σ : St F) (n : Nm) :
    Own c R σ ⊢ iprop(owns (c : Thread nD τ) (R n) fullShare (σ n)
      ∗ (∀ X, owns (c : Thread nD τ) (R n) fullShare X -∗ Own c R (Function.update σ n X))) := by
  unfold Own
  rw [split_at (fun n : Nm => owns (c : Thread nD τ) (R n) fullShare (σ n)) n]
  iintro ⟨H, HR⟩
  isplitl [H]; · iexact H
  iintro %X H
  rw [split_at (fun m : Nm => owns (c : Thread nD τ) (R m) fullShare (Function.update σ n X m)) n]
  rw [Function.update_self]
  isplitl [H]; · iexact H
  rw [bigSep_congr (s := Finset.univ.erase n) (Φ := fun m : Nm => owns (c : Thread nD τ) (R m) fullShare (Function.update σ n X m))
    (Ψ := fun m : Nm => owns (c : Thread nD τ) (R m) fullShare (σ m)) fun m hm => by
      rw [Function.update_of_ne (Finset.ne_of_mem_erase hm)]]
  iexact HR

/-- A buffer's contents with a rectangle replaced. -/
def put {s : Shape} {A : Type} (r : Rect s) (w : r.shape.Idx → A) (X : s.Idx → A) : s.Idx → A :=
  fun y => if h : ∃ x, r.emb x = y then w h.choose else X y

theorem put_emb {s : Shape} {A : Type} (r : Rect s) (w : r.shape.Idx → A) (X : s.Idx → A) (x : r.shape.Idx) :
    put r w X (r.emb x) = w x := by
  have h : ∃ x', r.emb x' = r.emb x := ⟨x, rfl⟩
  rw [put, dif_pos h, r.emb.injective h.choose_spec]

theorem put_of_not {s : Shape} {A : Type} (r : Rect s) (w : r.shape.Idx → A) (X : s.Idx → A) (y : s.Idx)
    (h : ∀ x, r.emb x ≠ y) : put r w X y = X y := by
  rw [put, dif_neg fun ⟨x, hx⟩ => h x hx]

/-- The program ends from a state in a result and a state that meet a relation. -/
def Run (c : Dev nD) (R : Refs) (σ : St F) {α : Type} (e : Prog (TpuEff nD τ sig (Elt F) Λ₀ .tc) α) (Q : α → St F → Prop) : Prop :=
  Own c R σ ⊢ wp frame (wpE (defs₀ (F := F)) Variants.none (c : Thread nD τ) none) Set.univ e
    (fun r => iprop(∃ σ' : St F, ⌜Q r σ'⌝ ∗ Own c R σ'))

variable {c : Dev nD} {R : Refs} {σ : St F} {α : Type} {Q : α → St F → Prop}

theorem run_ret {a : α} (h : Q a σ) : Run c R σ (.ret a) Q := by
  unfold Run
  rw [wp_ret]
  iintro H
  imodintro
  iexists σ
  isplitr; · ipureintro; exact h
  iexact H

theorem run_bind {β : Type} {p : Prog (TpuEff nD τ sig (Elt F) Λ₀ .tc) β} {k : β → Prog (TpuEff nD τ sig (Elt F) Λ₀ .tc) α}
    {Q' : β → St F → Prop} (h : Run c R σ p Q') (h' : ∀ a σ', Q' a σ' → Run c R σ' (k a) Q) : Run c R σ (p >>= k) Q := by
  unfold Run at *
  rw [wp_bind]
  refine h.trans (wp_mono _ _ _ fun a => ?_)
  iintro ⟨%σ', %hq, H⟩
  iapply (h' a σ' hq)
  iexact H

theorem run_mono {p : Prog (TpuEff nD τ sig (Elt F) Λ₀ .tc) α} {Q' : α → St F → Prop} (h : Run c R σ p Q')
    (h' : ∀ a σ', Q' a σ' → Q a σ') : Run c R σ p Q := by
  unfold Run at *
  refine h.trans (wp_mono _ _ _ fun a => ?_)
  iintro ⟨%σ', %hq, H⟩
  iexists σ'
  isplitr; · ipureintro; exact h' a σ' hq
  iexact H

theorem run_load (n : Nm) {r : LoadRect n.sh} {hl : (R n).view.LoadsAt r}
    {k : (r.shape.Idx → Elt F n.el) → Prog (TpuEff nD τ sig (Elt F) Λ₀ .tc) α}
    (h : Run c R σ (k fun x => σ n (r.idx x)) Q) : Run c R σ (.op (.load (R n) r hl) k) Q := by
  unfold Run at *
  iintro H
  ihave H := (own_open c R σ n) $$ H
  icases H with ⟨H, HR⟩
  unfold owns
  icases H with ⟨%f, %hf, H⟩
  iapply (wp_load Variants.none (c : Thread nD τ) none Set.univ (S := (R n).view.set) (View.setOn_subset_set _ _)) $$ H
  iintro H
  rw [show (R n).view.readAt (Elt F) r f = fun x => σ n (r.idx x) from by rw [← hf]; rfl]
  iapply h
  rw [show Own c R σ = Own c R (Function.update σ n (σ n)) from by rw [Function.update_eq_self]]
  iapply HR
  iexists f
  isplitr; · ipureintro; exact hf
  iexact H

theorem access_subset {sp : Space} {s : Shape} {e : EltTy} (m : Memref sig .tc sp s e) (r : Rect s) :
    (m.access r).setOn Finset.univ ⊆ m.view.set := by
  exact Memref.setOn_access_subset m r Finset.univ

theorem run_store (n : Nm) {r : Rect n.sh} {w : r.shape.Idx → Elt F n.el} {hx : ((R n).access r).Stores Finset.univ}
    {hm : Finset.univ = Finset.univ ∨ ∀ a, r.stride a = 1} {k : PUnit → Prog (TpuEff nD τ sig (Elt F) Λ₀ .tc) α}
    (h : Run c R (Function.update σ n (put r w (σ n))) (k ⟨⟩) Q) : Run c R σ (.op (.store (R n) r w Finset.univ hx hm) k) Q := by
  unfold Run at *
  iintro H
  ihave H := (own_open c R σ n) $$ H
  icases H with ⟨H, HR⟩
  unfold owns
  icases H with ⟨%f, %hf, H⟩
  iapply (wp_store (m := R n) (r := r) (w := w) (hx := hx) (hm := hm) (k := k) (f := f) Variants.none (c : Thread nD τ) none Set.univ
    (S := (R n).view.set) (access_subset (R n) r)) $$ H
  iintro H
  iapply h
  iapply HR
  iexists ((R n).access r).write (Elt F) f w Finset.univ
  isplitr
  · ipureintro
    funext y
    by_cases hy : ∃ x, r.emb x = y
    · obtain ⟨x, rfl⟩ := hy
      rw [put_emb]
      exact View.read_slice_write_emb r f w (Finset.mem_univ x)
    · rw [put_of_not r w _ y fun x hx => hy ⟨x, hx⟩, ← hf]
      refine View.read_slice_write_of_not_mem r f w _ fun hm => hy ?_
      obtain ⟨x, -, hx⟩ := Finset.mem_map.mp hm
      exact ⟨x, hx⟩
  iexact H

/-- A condition that holds. -/
theorem run_pos {p : Prop} {d : Decidable p} {A : p → Prog (TpuEff nD τ sig (Elt F) Λ₀ .tc) α}
    {B : ¬p → Prog (TpuEff nD τ sig (Elt F) Λ₀ .tc) α} (hp : p) (h : Run c R σ (A hp) Q) : Run c R σ (dite p A B) Q := by
  rw [dif_pos hp]; exact h

/-- A condition that fails. -/
theorem run_neg {p : Prop} {d : Decidable p} {A : p → Prog (TpuEff nD τ sig (Elt F) Λ₀ .tc) α}
    {B : ¬p → Prog (TpuEff nD τ sig (Elt F) Λ₀ .tc) α} (hp : ¬p) (h : Run c R σ (B hp) Q) : Run c R σ (dite p A B) Q := by
  rw [dif_neg hp]; exact h

/-- A load whose contents are known by name. -/
theorem run_load' (n : Nm) {r : LoadRect n.sh} {hl : (R n).view.LoadsAt r}
    {k : (r.shape.Idx → Elt F n.el) → Prog (TpuEff nD τ sig (Elt F) Λ₀ .tc) α} (V : r.shape.Idx → Elt F n.el)
    (hv : (fun x => σ n (r.idx x)) = V) (h : Run c R σ (k V) Q) : Run c R σ (.op (.load (R n) r hl) k) Q :=
  run_load n (by rw [hv]; exact h)

/-- A store whose outcome is known by name. -/
theorem run_store' (n : Nm) {r : Rect n.sh} {w : r.shape.Idx → Elt F n.el} {hx : ((R n).access r).Stores Finset.univ}
    {hm : Finset.univ = Finset.univ ∨ ∀ a, r.stride a = 1} {k : PUnit → Prog (TpuEff nD τ sig (Elt F) Λ₀ .tc) α}
    (X : n.sh.Idx → Elt F n.el) (hX : put r w (σ n) = X)
    (h : Run c R (Function.update σ n X) (k ⟨⟩) Q) : Run c R σ (.op (.store (R n) r w Finset.univ hx hm) k) Q :=
  run_store n (by rw [hX]; exact h)

/-- A rank-two buffer read whole. -/
theorem whole_idx {a b : ℕ} {inb} (x : (⟨2, ![a, b]⟩ : Shape).Idx) :
    (Rect.unit (s := ⟨2, ![a, b]⟩) ![0, 0] ![a, b] inb).toLoadRect.idx x = x := by
  funext d
  refine Fin.ext ?_
  rw [LoadRect.idx_apply]
  match d with
  | 0 => show 0 + 1 * _ = _; omega
  | 1 => show 0 + 1 * _ = _; omega

/-- A rank-two buffer written whole. -/
theorem whole_put {A : Type} {a b : ℕ} {inb} (w X : (⟨2, ![a, b]⟩ : Shape).Idx → A) :
    put (Rect.unit (s := ⟨2, ![a, b]⟩) ![0, 0] ![a, b] inb) w X = w := by
  funext y
  have h := put_emb (Rect.unit (s := ⟨2, ![a, b]⟩) ![0, 0] ![a, b] inb) w X y
  rwa [show (Rect.unit (s := ⟨2, ![a, b]⟩) ![0, 0] ![a, b] inb).emb y = y from whole_idx y] at h

end Cert.Kernel4Ideal.InProj
end
-- ==== Proof.InProj.Steps.lean ====
/- The stores that lay a staged block out by column blocks, and those that regroup its rows by residue: each fills one more
   cell of a table of cells. -/
module

public import proofs.«01_k».proof.Proof.InProj.Base

@[expose] public section

set_option maxRecDepth 16384

noncomputable section

namespace Cert.Kernel4Ideal.InProj

open Cert.Kernel4Ideal Cert.Kernel4Ideal.Gen Idealize.ShloMosaic Idealize.ShloMosaic.TcCoe Idealize.SL.Sem

variable {F : FTy → Type} [FloatOps F]

/-- An index of rank two, by its coordinates. -/
def ix2 {a b : ℕ} (i : Fin a) (j : Fin b) : (⟨2, ![a, b]⟩ : Shape).Idx := fun d => match d with
  | 0 => i
  | 1 => j

/-- An index of rank three, by its coordinates. -/
def ix3 {a b c : ℕ} (i : Fin a) (j : Fin b) (k : Fin c) : (⟨3, ![a, b, c]⟩ : Shape).Idx := fun d => match d with
  | 0 => i
  | 1 => j
  | 2 => k

/-- An index of rank four, by its coordinates. -/
def ix4 {a b c e : ℕ} (i : Fin a) (j : Fin b) (k : Fin c) (l : Fin e) : (⟨4, ![a, b, c, e]⟩ : Shape).Idx := fun d => match d with
  | 0 => i
  | 1 => j
  | 2 => k
  | 3 => l

/-- An entry of the staging buffer. -/
abbrev at4 (s cb r l : ℕ) (hs : s < 2) (hc : cb < 8) (hr : r < 512) (hl : l < 128) : S2x8x512x128.Idx :=
  ix4 ⟨s, hs⟩ ⟨cb, hc⟩ ⟨r, hr⟩ ⟨l, hl⟩

/-- A slot's rows regrouped by residue modulo 4. -/
def grp4 (s : Fin 2) (S : S2x8x512x128.Idx → F .f32) : S4x128x1024.Idx → F .bf16 := fun y =>
  FloatOps.truncf .bf16 bitsLt_bf16_f32 (S (at4 s.val ((y 2).val / 128) ((y 0).val + 4 * (y 1).val) ((y 2).val % 128) s.isLt
    (by have : (y 2).val < 1024 := (y 2).isLt; omega)
    (by have : (y 0).val < 4 := (y 0).isLt; have : (y 1).val < 128 := (y 1).isLt; omega) (Nat.mod_lt _ (by omega))))

/-- A slot's rows regrouped by residue modulo 16. -/
def grp16 (s : Fin 2) (S : S2x8x512x128.Idx → F .f32) : S16x32x1024.Idx → F .bf16 := fun y =>
  FloatOps.truncf .bf16 bitsLt_bf16_f32 (S (at4 s.val ((y 2).val / 128) ((y 0).val + 16 * (y 1).val) ((y 2).val % 128) s.isLt
    (by have : (y 2).val < 1024 := (y 2).isLt; omega)
    (by have : (y 0).val < 16 := (y 0).isLt; have : (y 1).val < 32 := (y 1).isLt; omega) (Nat.mod_lt _ (by omega))))

/-- The first `n` cells taken from `G`. -/
def set4 (n : ℕ) (G X : S4x128x1024.Idx → F .bf16) : S4x128x1024.Idx → F .bf16 := fun y =>
  if (y 2).val / 128 * 4 + (y 0).val < n then G y else X y

/-- The first `n` cells taken from `G`. -/
def set16 (n : ℕ) (G X : S16x32x1024.Idx → F .bf16) : S16x32x1024.Idx → F .bf16 := fun y =>
  if (y 2).val / 128 * 16 + (y 0).val < n then G y else X y

theorem set4_zero (G X : S4x128x1024.Idx → F .bf16) : set4 0 G X = X := by
  funext y; rw [set4, if_neg (by omega)]

theorem set16_zero (G X : S16x32x1024.Idx → F .bf16) : set16 0 G X = X := by
  funext y; rw [set16, if_neg (by omega)]

theorem set4_all {n : ℕ} (hn : n = 32) (G X : S4x128x1024.Idx → F .bf16) : set4 n G X = G := by
  funext y
  have h0 : (y 0).val < 4 := (y 0).isLt
  have h2 : (y 2).val < 1024 := (y 2).isLt
  rw [set4, if_pos (by omega)]

theorem set16_all {n : ℕ} (hn : n = 128) (G X : S16x32x1024.Idx → F .bf16) : set16 n G X = G := by
  funext y
  have h0 : (y 0).val < 16 := (y 0).isLt
  have h2 : (y 2).val < 1024 := (y 2).isLt
  rw [set16, if_pos (by omega)]

/-- What one store of the regrouping writes, from what its load read. -/
abbrev pay4 (v : Vec F S1x1x128x128 .f32) : FVec F S1x128x128 .bf16 :=
  shapeCast S1x128x128 (truncf .bf16 (shapeCast S128x128 v shapeCasts_S1x1x128x128_S128x128) bitsLt_bf16_f32)
    shapeCasts_S128x128_S1x128x128

/-- The same for the residues modulo 16. -/
abbrev pay16 (v : Vec F S1x1x32x128 .f32) : FVec F S1x32x128 .bf16 :=
  shapeCast S1x32x128 (truncf .bf16 (shapeCast S32x128 v shapeCasts_S1x1x32x128_S32x128) bitsLt_bf16_f32)
    shapeCasts_S32x128_S1x32x128

theorem pay4_apply (v : Vec F S1x1x128x128 .f32) (x : S1x128x128.Idx) :
    pay4 v x = FloatOps.truncf .bf16 bitsLt_bf16_f32 (v (ix4 0 0 (x 1) (x 2))) := by
  rw [pay4, shapeCast_addUnit_apply]
  refine congrArg (FloatOps.truncf .bf16 bitsLt_bf16_f32) (shapeCast_apply v _ _ _ ?_)
  refine (Shape.rowMajor_val_four _).trans (Eq.trans ?_ (Shape.rowMajor_val_two _).symm)
  show ((0 * 1 + 0) * 128 + (x 1).val) * 128 + (x 2).val = (x 1).val * 128 + (x 2).val
  omega

theorem pay16_apply (v : Vec F S1x1x32x128 .f32) (x : S1x32x128.Idx) :
    pay16 v x = FloatOps.truncf .bf16 bitsLt_bf16_f32 (v (ix4 0 0 (x 1) (x 2))) := by
  rw [pay16, shapeCast_addUnit_apply]
  refine congrArg (FloatOps.truncf .bf16 bitsLt_bf16_f32) (shapeCast_apply v _ _ _ ?_)
  refine (Shape.rowMajor_val_four _).trans (Eq.trans ?_ (Shape.rowMajor_val_two _).symm)
  show ((0 * 1 + 0) * 32 + (x 1).val) * 128 + (x 2).val = (x 1).val * 128 + (x 2).val
  omega

theorem put4 (s : Fin 2) (n : ℕ) (hn : n < 32) (S : S2x8x512x128.Idx → F .f32) (X : S4x128x1024.Idx → F .bf16) {inb} {inb'} :
    put (Rect.unit (s := S4x128x1024) ![n % 4, 0, 128 * (n / 4)] S1x128x128.size inb)
      (pay4 fun x => S ((⟨![s.val, n / 4, n % 4, 0], S1x1x128x128.size, ![1, 1, 4, 1], inb'⟩ : LoadRect S2x8x512x128).idx x))
      (set4 n (grp4 s S) X) = set4 (n + 1) (grp4 s S) X := by
  funext y
  by_cases h : ∃ x, (Rect.unit (s := S4x128x1024) ![n % 4, 0, 128 * (n / 4)] S1x128x128.size inb).emb x = y
  · obtain ⟨x, rfl⟩ := h
    rw [put_emb]
    have x0 : (x 0).val < 1 := (x 0).isLt
    have x1 : (x 1).val < 128 := (x 1).isLt
    have x2 : (x 2).val < 128 := (x 2).isLt
    have e0 : ((Rect.unit (s := S4x128x1024) ![n % 4, 0, 128 * (n / 4)] S1x128x128.size inb).emb x 0).val = n % 4 + 1 * (x 0).val := rfl
    have e1 : ((Rect.unit (s := S4x128x1024) ![n % 4, 0, 128 * (n / 4)] S1x128x128.size inb).emb x 1).val = 0 + 1 * (x 1).val := rfl
    have e2 : ((Rect.unit (s := S4x128x1024) ![n % 4, 0, 128 * (n / 4)] S1x128x128.size inb).emb x 2).val = 128 * (n / 4) + 1 * (x 2).val := rfl
    rw [set4, if_pos (by omega), pay4_apply, grp4]
    refine congrArg (fun i => FloatOps.truncf .bf16 bitsLt_bf16_f32 (S i)) (funext fun d => Fin.ext ?_)
    rw [LoadRect.idx_apply]
    match d with
    | 0 => show s.val + 1 * 0 = s.val; omega
    | 1 => show n / 4 + 1 * 0 = _ / 128; omega
    | 2 => show n % 4 + 4 * (x 1).val = _ + 4 * _; omega
    | 3 => show 0 + 1 * (x 2).val = _ % 128; omega
  · rw [put_of_not _ _ _ _ fun x hx => h ⟨x, hx⟩, set4, set4]
    refine if_congr ?_ rfl rfl
    constructor
    · intro h'; omega
    intro h'
    by_contra hc
    have hy : (y 2).val / 128 * 4 + (y 0).val = n := by omega
    have y0 : (y 0).val < 4 := (y 0).isLt
    have y1 : (y 1).val < 128 := (y 1).isLt
    refine h ⟨ix3 ⟨0, by decide⟩ ⟨(y 1).val, y1⟩ ⟨(y 2).val % 128, Nat.mod_lt _ (by omega)⟩, funext fun d => Fin.ext ?_⟩
    match d with
    | 0 => show n % 4 + 1 * 0 = (y 0).val; omega
    | 1 => show 0 + 1 * (y 1).val = (y 1).val; omega
    | 2 => show 128 * (n / 4) + 1 * ((y 2).val % 128) = (y 2).val; omega

theorem put16 (s : Fin 2) (n : ℕ) (hn : n < 128) (S : S2x8x512x128.Idx → F .f32) (X : S16x32x1024.Idx → F .bf16) {inb} {inb'} :
    put (Rect.unit (s := S16x32x1024) ![n % 16, 0, 128 * (n / 16)] S1x32x128.size inb)
      (pay16 fun x => S ((⟨![s.val, n / 16, n % 16, 0], S1x1x32x128.size, ![1, 1, 16, 1], inb'⟩ : LoadRect S2x8x512x128).idx x))
      (set16 n (grp16 s S) X) = set16 (n + 1) (grp16 s S) X := by
  funext y
  by_cases h : ∃ x, (Rect.unit (s := S16x32x1024) ![n % 16, 0, 128 * (n / 16)] S1x32x128.size inb).emb x = y
  · obtain ⟨x, rfl⟩ := h
    rw [put_emb]
    have x0 : (x 0).val < 1 := (x 0).isLt
    have x1 : (x 1).val < 32 := (x 1).isLt
    have x2 : (x 2).val < 128 := (x 2).isLt
    have e0 : ((Rect.unit (s := S16x32x1024) ![n % 16, 0, 128 * (n / 16)] S1x32x128.size inb).emb x 0).val = n % 16 + 1 * (x 0).val := rfl
    have e1 : ((Rect.unit (s := S16x32x1024) ![n % 16, 0, 128 * (n / 16)] S1x32x128.size inb).emb x 1).val = 0 + 1 * (x 1).val := rfl
    have e2 : ((Rect.unit (s := S16x32x1024) ![n % 16, 0, 128 * (n / 16)] S1x32x128.size inb).emb x 2).val = 128 * (n / 16) + 1 * (x 2).val := rfl
    rw [set16, if_pos (by omega), pay16_apply, grp16]
    refine congrArg (fun i => FloatOps.truncf .bf16 bitsLt_bf16_f32 (S i)) (funext fun d => Fin.ext ?_)
    rw [LoadRect.idx_apply]
    match d with
    | 0 => show s.val + 1 * 0 = s.val; omega
    | 1 => show n / 16 + 1 * 0 = _ / 128; omega
    | 2 => show n % 16 + 16 * (x 1).val = _ + 16 * _; omega
    | 3 => show 0 + 1 * (x 2).val = _ % 128; omega
  · rw [put_of_not _ _ _ _ fun x hx => h ⟨x, hx⟩, set16, set16]
    refine if_congr ?_ rfl rfl
    constructor
    · intro h'; omega
    intro h'
    by_contra hc
    have hy : (y 2).val / 128 * 16 + (y 0).val = n := by omega
    have y0 : (y 0).val < 16 := (y 0).isLt
    have y1 : (y 1).val < 32 := (y 1).isLt
    refine h ⟨ix3 ⟨0, by decide⟩ ⟨(y 1).val, y1⟩ ⟨(y 2).val % 128, Nat.mod_lt _ (by omega)⟩, funext fun d => Fin.ext ?_⟩
    match d with
    | 0 => show n % 16 + 1 * 0 = (y 0).val; omega
    | 1 => show 0 + 1 * (y 1).val = (y 1).val; omega
    | 2 => show 128 * (n / 16) + 1 * ((y 2).val % 128) = (y 2).val; omega

/-- A block laid out by column blocks in one slot, the first `n` column blocks of it. -/
def setS (s : Fin 2) (n : ℕ) (A : S512x1024.Idx → F .f32) (X : S2x8x512x128.Idx → F .f32) : S2x8x512x128.Idx → F .f32 := fun y =>
  if (y 0).val = s.val ∧ (y 1).val < n then
    A (ix2 ⟨(y 2).val, (y 2).isLt⟩ ⟨128 * (y 1).val + (y 3).val, by
      have : (y 1).val < 8 := (y 1).isLt; have : (y 3).val < 128 := (y 3).isLt; omega⟩)
  else X y

theorem setS_zero (s : Fin 2) (A : S512x1024.Idx → F .f32) (X : S2x8x512x128.Idx → F .f32) : setS s 0 A X = X := by
  funext y; rw [setS, if_neg (by omega)]

/-- What one such store writes. -/
abbrev payS (n : ℕ) (A : FVec F S512x1024 .f32) (h : S512x1024.Slices ![0, 128 * n] S512x128) : FVec F S1x1x512x128 .f32 :=
  shapeCast S1x1x512x128 (extractStridedSlice S512x128 ![0, 128 * n] A h) shapeCasts_S512x128_S1x1x512x128

theorem putS (s : Fin 2) (n : ℕ) (hn : n < 8) (A : FVec F S512x1024 .f32) (X : S2x8x512x128.Idx → F .f32) {h} {inb} :
    put (Rect.unit (s := S2x8x512x128) ![s.val, n, 0, 0] S1x1x512x128.size inb) (payS n A h) (setS s n A X) = setS s (n + 1) A X := by
  funext y
  by_cases hy : ∃ x, (Rect.unit (s := S2x8x512x128) ![s.val, n, 0, 0] S1x1x512x128.size inb).emb x = y
  · obtain ⟨x, rfl⟩ := hy
    rw [put_emb]
    have x0 : (x 0).val < 1 := (x 0).isLt
    have x1 : (x 1).val < 1 := (x 1).isLt
    have x2 : (x 2).val < 512 := (x 2).isLt
    have x3 : (x 3).val < 128 := (x 3).isLt
    have e0 : ((Rect.unit (s := S2x8x512x128) ![s.val, n, 0, 0] S1x1x512x128.size inb).emb x 0).val = s.val + 1 * (x 0).val := rfl
    have e1 : ((Rect.unit (s := S2x8x512x128) ![s.val, n, 0, 0] S1x1x512x128.size inb).emb x 1).val = n + 1 * (x 1).val := rfl
    rw [setS, if_pos (by omega), payS]
    refine (shapeCast_apply (s := S512x128) (t := S1x1x512x128) _ _ x (ix2 ⟨(x 2).val, x2⟩ ⟨(x 3).val, x3⟩) ?_).trans ?_
    · refine (Shape.rowMajor_val_two _).trans (Eq.trans ?_ (Shape.rowMajor_val_four _).symm)
      show (x 2).val * 128 + (x 3).val = (((x 0).val * 1 + (x 1).val) * 512 + (x 2).val) * 128 + (x 3).val
      omega
    refine congrArg A (funext fun d => Fin.ext ?_)
    match d with
    | 0 => show 0 + (x 2).val = 0 + 1 * (x 2).val; omega
    | 1 => show 128 * n + (x 3).val = 128 * (n + 1 * (x 1).val) + (0 + 1 * (x 3).val); omega
  · rw [put_of_not _ _ _ _ fun x hx => hy ⟨x, hx⟩, setS, setS]
    refine if_congr ?_ rfl rfl
    constructor
    · intro h'; omega
    intro h'
    by_contra hc
    have h1 : (y 1).val = n := by omega
    refine hy ⟨ix4 ⟨0, by decide⟩ ⟨0, by decide⟩ ⟨(y 2).val, (y 2).isLt⟩ ⟨(y 3).val, (y 3).isLt⟩, funext fun d => Fin.ext ?_⟩
    match d with
    | 0 => show s.val + 1 * 0 = (y 0).val; omega
    | 1 => show n + 1 * 0 = (y 1).val; omega
    | 2 => show 0 + 1 * (y 2).val = (y 2).val; omega
    | 3 => show 0 + 1 * (y 3).val = (y 3).val; omega

variable {c : Dev nD} {R : Refs} {σ : St F} {α : Type} {Q : α → St F → Prop}

/-- The state with the first cells of both regroupings filled. -/
def reg (σ : St F) (s : Fin 2) (n k : ℕ) : St F :=
  Function.update (Function.update σ .c4 (set4 n (grp4 s (σ .stage)) (σ .c4))) .c16 (set16 k (grp16 s (σ .stage)) (σ .c16))

theorem reg_zero (σ : St F) (s : Fin 2) : reg σ s 0 0 = σ := by
  rw [reg, set4_zero, set16_zero, Function.update_eq_self, Function.update_eq_self]

/-- The state with the first column blocks of a slot laid out. -/
def lay (σ : St F) (s : Fin 2) (A : S512x1024.Idx → F .f32) (n : ℕ) : St F := Function.update σ .stage (setS s n A (σ .stage))

theorem lay_zero (σ : St F) (s : Fin 2) (A : S512x1024.Idx → F .f32) : lay σ s A 0 = σ := by
  rw [lay, setS_zero, Function.update_eq_self]

theorem step4 {s : Fin 2} {n k : ℕ} (hn : n < 32) {inb inb' hl hl' hx hm}
    {K : PUnit → Prog (TpuEff nD τ sig (Elt F) Λ₀ .tc) α} (h : Run c R (reg σ s (n + 1) k) (K ⟨⟩) Q) :
    Run c R (reg σ s n k)
      (.op (.load (R .stage) (⟨![s.val, n / 4, n % 4, 0], S1x1x128x128.size, ![1, 1, 4, 1], inb'⟩ : LoadRect S2x8x512x128) hl) fun v =>
        .op (.load (R .c4) (Rect.unit (s := S4x128x1024) ![n % 4, 0, 128 * (n / 4)] S1x128x128.size inb).toLoadRect hl') fun _ =>
          .op (.store (R .c4) (Rect.unit (s := S4x128x1024) ![n % 4, 0, 128 * (n / 4)] S1x128x128.size inb) (pay4 v) Finset.univ hx hm) K) Q := by
  refine run_load .stage (run_load .c4 (run_store' .c4 (set4 (n + 1) (grp4 s (σ .stage)) (σ .c4)) ?_ ?_))
  · exact put4 s n hn (σ .stage) (σ .c4)
  · have e : Function.update (reg σ s n k) .c4 (set4 (n + 1) (grp4 s (σ .stage)) (σ .c4)) = reg σ s (n + 1) k := by
      rw [reg, reg, Function.update_comm (by decide), Function.update_idem]
    rw [e]; exact h

theorem step16 {s : Fin 2} {n k : ℕ} (hn : n < 128) {inb inb' hl hl' hx hm}
    {K : PUnit → Prog (TpuEff nD τ sig (Elt F) Λ₀ .tc) α} (h : Run c R (reg σ s k (n + 1)) (K ⟨⟩) Q) :
    Run c R (reg σ s k n)
      (.op (.load (R .stage) (⟨![s.val, n / 16, n % 16, 0], S1x1x32x128.size, ![1, 1, 16, 1], inb'⟩ : LoadRect S2x8x512x128) hl) fun v =>
        .op (.load (R .c16) (Rect.unit (s := S16x32x1024) ![n % 16, 0, 128 * (n / 16)] S1x32x128.size inb).toLoadRect hl') fun _ =>
          .op (.store (R .c16) (Rect.unit (s := S16x32x1024) ![n % 16, 0, 128 * (n / 16)] S1x32x128.size inb) (pay16 v) Finset.univ hx hm) K) Q := by
  refine run_load .stage (run_load .c16 (run_store' .c16 (set16 (n + 1) (grp16 s (σ .stage)) (σ .c16)) ?_ ?_))
  · rw [show reg σ s k n .c16 = set16 n (grp16 s (σ .stage)) (σ .c16) from Function.update_self ..]
    exact put16 s n hn (σ .stage) (σ .c16)
  · have e : Function.update (reg σ s k n) .c16 (set16 (n + 1) (grp16 s (σ .stage)) (σ .c16)) = reg σ s k (n + 1) := by
      rw [reg, reg, Function.update_idem]
    rw [e]; exact h

theorem stepS {s : Fin 2} {A : FVec F S512x1024 .f32} {n : ℕ} (hn : n < 8) {hs inb hl hx hm}
    {K : PUnit → Prog (TpuEff nD τ sig (Elt F) Λ₀ .tc) α} (h : Run c R (lay σ s A (n + 1)) (K ⟨⟩) Q) :
    Run c R (lay σ s A n)
      (.op (.load (R .stage) (Rect.unit (s := S2x8x512x128) ![s.val, n, 0, 0] S1x1x512x128.size inb).toLoadRect hl) fun _ =>
        .op (.store (R .stage) (Rect.unit (s := S2x8x512x128) ![s.val, n, 0, 0] S1x1x512x128.size inb) (payS n A hs) Finset.univ hx hm) K) Q := by
  refine run_load .stage (run_store' .stage (setS s (n + 1) A (σ .stage)) ?_ ?_)
  · rw [show lay σ s A n .stage = setS s n A (σ .stage) from Function.update_self ..]
    exact putS s n hn A (σ .stage)
  · have e : Function.update (lay σ s A n) .stage (setS s (n + 1) A (σ .stage)) = lay σ s A (n + 1) := by
      rw [lay, lay, Function.update_idem]
    rw [e]; exact h

end Cert.Kernel4Ideal.InProj
end
-- ==== Proof.InProj.Cases.lean ====
/- The body at each of its six steps, run from any state of its buffers. -/
module

public import proofs.«01_k».proof.Proof.InProj.Steps
public import proofs.«01_k».proof.Proof.Gen.Kernel4Ideal.Skeleton

@[expose] public section

set_option maxRecDepth 16384

noncomputable section

namespace Cert.Kernel4Ideal.InProj

open Cert.Kernel4Ideal Cert.Kernel4Ideal.Gen Idealize.ShloMosaic Idealize.ShloMosaic.TcCoe Idealize.SL.Sem

variable {F : FTy → Type} [FloatOps F] {c : Dev nD} {R : Refs} {σ : St F} {α : Type} {Q : α → St F → Prop}

/-- Start of a regrouping. -/
theorem run_reg {e : Prog (TpuEff nD τ sig (Elt F) Λ₀ .tc) α} (s : Fin 2) (h : Run c R (reg σ s 0 0) e Q) : Run c R σ e Q := by
  rwa [reg_zero] at h

/-- Start of laying a block out in a slot. -/
theorem run_lay {e : Prog (TpuEff nD τ sig (Elt F) Λ₀ .tc) α} (s : Fin 2) (A : FVec F S512x1024 .f32)
    (h : Run c R (lay σ s A 0) e Q) : Run c R σ e Q := by
  rwa [lay_zero] at h

/-- A whole buffer of rank two loaded. -/
theorem load_x {k : (S512x2048.Idx → F .f32) → Prog (TpuEff nD τ sig (Elt F) Λ₀ .tc) α} {inb hl}
    (h : Run c R σ (k (σ .x)) Q) :
    Run c R σ (.op (.load (R .x) (Rect.unit (s := S512x2048) ![0, 0] S512x2048.size inb).toLoadRect hl) k) Q :=
  run_load' .x (σ .x) (funext fun x => congrArg (σ .x) (whole_idx x)) h

theorem load_g {k : (S1x2048.Idx → F .f32) → Prog (TpuEff nD τ sig (Elt F) Λ₀ .tc) α} {inb hl}
    (h : Run c R σ (k (σ .g)) Q) :
    Run c R σ (.op (.load (R .g) (Rect.unit (s := S1x2048) ![0, 0] S1x2048.size inb).toLoadRect hl) k) Q :=
  run_load' .g (σ .g) (funext fun x => congrArg (σ .g) (whole_idx x)) h

theorem load_h {k : (S512x2048.Idx → F .bf16) → Prog (TpuEff nD τ sig (Elt F) Λ₀ .tc) α} {inb hl}
    (h : Run c R σ (k (σ .h)) Q) :
    Run c R σ (.op (.load (R .h) (Rect.unit (s := S512x2048) ![0, 0] S512x2048.size inb).toLoadRect hl) k) Q :=
  run_load' .h (σ .h) (funext fun x => congrArg (σ .h) (whole_idx x)) h

theorem load_w {k : (S2048x1024.Idx → F .bf16) → Prog (TpuEff nD τ sig (Elt F) Λ₀ .tc) α} {inb hl}
    (h : Run c R σ (k (σ .w)) Q) :
    Run c R σ (.op (.load (R .w) (Rect.unit (s := S2048x1024) ![0, 0] S2048x1024.size inb).toLoadRect hl) k) Q :=
  run_load' .w (σ .w) (funext fun x => congrArg (σ .w) (whole_idx x)) h

theorem load_cs {k : (S1x1024.Idx → F .f32) → Prog (TpuEff nD τ sig (Elt F) Λ₀ .tc) α} {inb hl}
    (h : Run c R σ (k (σ .cs)) Q) :
    Run c R σ (.op (.load (R .cs) (Rect.unit (s := S1x1024) ![0, 0] S1x1024.size inb).toLoadRect hl) k) Q :=
  run_load' .cs (σ .cs) (funext fun x => congrArg (σ .cs) (whole_idx x)) h

/-- The scaled product of the held rows with a block of weights. -/
abbrev accOf (σ : St F) : FVec F S512x1024 .f32 := k0_pay18 (σ .h) (σ .w) (σ .cs)

/-- A block cast to the results' format. -/
abbrev castOf (A : FVec F S512x1024 .f32) : FVec F S512x1024 .bf16 := truncf .bf16 A bitsLt_bf16_f32

/-- The state once the row block's normalisation is held. -/
abbrev st0 (σ : St F) : St F := Function.update σ .h (k0_pay1 (σ .x) (σ .g))

/-- The state once a block of the first result is written. -/
abbrev stO (σ : St F) : St F := Function.update σ .o (castOf (accOf σ))

theorem run5 {i : grid0.Coords} {hx hg hw hcs ho hqt hvt h4 h16 hh hst} {Q : PUnit → St F → Prop}
    (n1 : ¬Scalar.cmpi .ne (Scalar.extui (Scalar.cmpi .eq (BitVec.ofNat 32 (i 1).val) 0#32) : BitVec 32) 0#32 = 1#1)
    (n2 : ¬k0_cond2 i = 1#1) (n3 : ¬k0_cond3 i = 1#1) (n4 : ¬k0_cond4 i = 1#1) (n5 : ¬k0_cond5 i = 1#1) (n6 : ¬k0_cond6 i = 1#1)
    (p7 : k0_cond7 i = 1#1) (h : Q ⟨⟩ (Function.update σ .vt (k0_pay15 (accOf σ)))) :
    Run c R σ (cc0_in_proj i (R .x) hx (R .g) hg (R .w) hw (R .cs) hcs (R .o) ho (R .qt) hqt (R .vt) hvt (R .c4) h4 (R .c16) h16
      (R .h) hh (R .stage) hst) Q := by
  unfold cc0_in_proj
  refine run_neg n1 ?_
  refine run_neg n2 ?_
  refine run_neg n3 ?_
  refine run_neg n4 ?_
  refine run_neg n5 ?_
  refine run_neg n6 ?_
  refine run_pos p7 ?_
  refine load_h ?_
  refine load_w ?_
  refine load_cs ?_
  refine run_load .vt ?_
  refine run_store' .vt _ (whole_put _ _) ?_
  exact run_ret h

theorem run4 {i : grid0.Coords} {hx hg hw hcs ho hqt hvt h4 h16 hh hst} {Q : PUnit → St F → Prop}
    (n1 : ¬Scalar.cmpi .ne (Scalar.extui (Scalar.cmpi .eq (BitVec.ofNat 32 (i 1).val) 0#32) : BitVec 32) 0#32 = 1#1)
    (n2 : ¬k0_cond2 i = 1#1) (n3 : ¬k0_cond3 i = 1#1) (n4 : ¬k0_cond4 i = 1#1) (n5 : ¬k0_cond5 i = 1#1) (p6 : k0_cond6 i = 1#1)
    (n7 : ¬k0_cond7 i = 1#1) (h : Q ⟨⟩ (stO σ)) :
    Run c R σ (cc0_in_proj i (R .x) hx (R .g) hg (R .w) hw (R .cs) hcs (R .o) ho (R .qt) hqt (R .vt) hvt (R .c4) h4 (R .c16) h16
      (R .h) hh (R .stage) hst) Q := by
  unfold cc0_in_proj
  refine run_neg n1 ?_
  refine run_neg n2 ?_
  refine run_neg n3 ?_
  refine run_neg n4 ?_
  refine run_neg n5 ?_
  refine run_pos p6 ?_
  refine load_h ?_
  refine load_w ?_
  refine load_cs ?_
  refine run_load .o ?_
  refine run_store' .o _ (whole_put _ _) ?_
  refine run_neg n7 ?_
  exact run_ret h

theorem run0 {i : grid0.Coords} {hx hg hw hcs ho hqt hvt h4 h16 hh hst} {Q : PUnit → St F → Prop}
    (p1 : Scalar.cmpi .ne (Scalar.extui (Scalar.cmpi .eq (BitVec.ofNat 32 (i 1).val) 0#32) : BitVec 32) 0#32 = 1#1)
    (p2 : k0_cond2 i = 1#1) (n3 : ¬k0_cond3 i = 1#1) (n4 : ¬k0_cond4 i = 1#1) (n5 : ¬k0_cond5 i = 1#1) (n6 : ¬k0_cond6 i = 1#1)
    (n7 : ¬k0_cond7 i = 1#1) (h : Q ⟨⟩ (lay (stO (st0 σ)) 0 (accOf (st0 σ)) 8)) :
    Run c R σ (cc0_in_proj i (R .x) hx (R .g) hg (R .w) hw (R .cs) hcs (R .o) ho (R .qt) hqt (R .vt) hvt (R .c4) h4 (R .c16) h16
      (R .h) hh (R .stage) hst) Q := by
  unfold cc0_in_proj
  refine run_pos p1 ?_
  refine load_x ?_
  refine load_g ?_
  refine run_load .h ?_
  refine run_store' .h (k0_pay1 (σ .x) (σ .g)) (whole_put _ _) ?_
  refine run_pos p2 ?_
  refine load_h ?_
  refine load_w ?_
  refine load_cs ?_
  refine run_load .o ?_
  refine run_store' .o _ (whole_put _ _) ?_
  refine run_lay 0 (accOf (st0 σ)) ?_
  iterate 8 refine stepS (by decide) ?_
  refine run_neg n3 ?_
  refine run_neg n4 ?_
  refine run_neg n5 ?_
  refine run_neg n6 ?_
  refine run_neg n7 ?_
  exact run_ret h

end Cert.Kernel4Ideal.InProj
end
-- ==== Proof.InProj.Case1.lean ====
/- The body at step 1, run from any state of its buffers. -/
module

public import proofs.«01_k».proof.Proof.InProj.Cases

@[expose] public section

set_option maxRecDepth 16384

noncomputable section

namespace Cert.Kernel4Ideal.InProj

open Cert.Kernel4Ideal Cert.Kernel4Ideal.Gen Idealize.ShloMosaic Idealize.ShloMosaic.TcCoe Idealize.SL.Sem

variable {F : FTy → Type} [FloatOps F] {c : Dev nD} {R : Refs} {σ : St F}

theorem run1 {i : grid0.Coords} {hx hg hw hcs ho hqt hvt h4 h16 hh hst} {Q : PUnit → St F → Prop}
    (n1 : ¬Scalar.cmpi .ne (Scalar.extui (Scalar.cmpi .eq (BitVec.ofNat 32 (i 1).val) 0#32) : BitVec 32) 0#32 = 1#1)
    (n2 : ¬k0_cond2 i = 1#1) (p3 : k0_cond3 i = 1#1) (n4 : ¬k0_cond4 i = 1#1)
    (n5 : ¬k0_cond5 i = 1#1) (n6 : ¬k0_cond6 i = 1#1) (n7 : ¬k0_cond7 i = 1#1) (h : Q ⟨⟩ (lay (reg (stO σ) 0 32 128) 1 (accOf σ) 8)) :
    Run c R σ (cc0_in_proj i (R .x) hx (R .g) hg (R .w) hw (R .cs) hcs (R .o) ho (R .qt) hqt (R .vt) hvt (R .c4) h4 (R .c16) h16
      (R .h) hh (R .stage) hst) Q := by
  unfold cc0_in_proj
  refine run_neg n1 ?_
  refine run_neg n2 ?_
  refine run_pos p3 ?_
  refine load_h ?_
  refine load_w ?_
  refine load_cs ?_
  refine run_load .o ?_
  refine run_store' .o _ (whole_put _ _) ?_
  refine run_reg 0 ?_
  iterate 8
    iterate 4 refine step4 (by decide) ?_
    iterate 16 refine step16 (by decide) ?_
  refine run_lay 1 (accOf σ) ?_
  iterate 8 refine stepS (by decide) ?_
  refine run_neg n4 ?_
  refine run_neg n5 ?_
  refine run_neg n6 ?_
  refine run_neg n7 ?_
  exact run_ret h

end Cert.Kernel4Ideal.InProj
end
-- ==== Proof.InProj.Case2.lean ====
/- The body at step 2, run from any state of its buffers. -/
module

public import proofs.«01_k».proof.Proof.InProj.Cases

@[expose] public section

set_option maxRecDepth 16384

noncomputable section

namespace Cert.Kernel4Ideal.InProj

open Cert.Kernel4Ideal Cert.Kernel4Ideal.Gen Idealize.ShloMosaic Idealize.ShloMosaic.TcCoe Idealize.SL.Sem

variable {F : FTy → Type} [FloatOps F] {c : Dev nD} {R : Refs} {σ : St F}

theorem run2 {i : grid0.Coords} {hx hg hw hcs ho hqt hvt h4 h16 hh hst} {Q : PUnit → St F → Prop}
    (n1 : ¬Scalar.cmpi .ne (Scalar.extui (Scalar.cmpi .eq (BitVec.ofNat 32 (i 1).val) 0#32) : BitVec 32) 0#32 = 1#1)
    (n2 : ¬k0_cond2 i = 1#1) (n3 : ¬k0_cond3 i = 1#1) (p4 : k0_cond4 i = 1#1)
    (n5 : ¬k0_cond5 i = 1#1) (n6 : ¬k0_cond6 i = 1#1) (n7 : ¬k0_cond7 i = 1#1) (h : Q ⟨⟩ (lay (reg (stO σ) 1 32 128) 0 (accOf σ) 8)) :
    Run c R σ (cc0_in_proj i (R .x) hx (R .g) hg (R .w) hw (R .cs) hcs (R .o) ho (R .qt) hqt (R .vt) hvt (R .c4) h4 (R .c16) h16
      (R .h) hh (R .stage) hst) Q := by
  unfold cc0_in_proj
  refine run_neg n1 ?_
  refine run_neg n2 ?_
  refine run_neg n3 ?_
  refine run_pos p4 ?_
  refine load_h ?_
  refine load_w ?_
  refine load_cs ?_
  refine run_load .o ?_
  refine run_store' .o _ (whole_put _ _) ?_
  refine run_reg 1 ?_
  iterate 8
    iterate 4 refine step4 (by decide) ?_
    iterate 16 refine step16 (by decide) ?_
  refine run_lay 0 (accOf σ) ?_
  iterate 8 refine stepS (by decide) ?_
  refine run_neg n5 ?_
  refine run_neg n6 ?_
  refine run_neg n7 ?_
  exact run_ret h

end Cert.Kernel4Ideal.InProj
end
-- ==== Proof.InProj.Case3.lean ====
/- The body at step 3, run from any state of its buffers. -/
module

public import proofs.«01_k».proof.Proof.InProj.Cases

@[expose] public section

set_option maxRecDepth 16384

noncomputable section

namespace Cert.Kernel4Ideal.InProj

open Cert.Kernel4Ideal Cert.Kernel4Ideal.Gen Idealize.ShloMosaic Idealize.ShloMosaic.TcCoe Idealize.SL.Sem

variable {F : FTy → Type} [FloatOps F] {c : Dev nD} {R : Refs} {σ : St F}

theorem run3 {i : grid0.Coords} {hx hg hw hcs ho hqt hvt h4 h16 hh hst} {Q : PUnit → St F → Prop}
    (n1 : ¬Scalar.cmpi .ne (Scalar.extui (Scalar.cmpi .eq (BitVec.ofNat 32 (i 1).val) 0#32) : BitVec 32) 0#32 = 1#1)
    (n2 : ¬k0_cond2 i = 1#1) (n3 : ¬k0_cond3 i = 1#1) (n4 : ¬k0_cond4 i = 1#1)
    (p5 : k0_cond5 i = 1#1) (n6 : ¬k0_cond6 i = 1#1) (n7 : ¬k0_cond7 i = 1#1) (h : Q ⟨⟩ (Function.update (reg σ 0 32 128) .qt (k0_pay15 (accOf σ)))) :
    Run c R σ (cc0_in_proj i (R .x) hx (R .g) hg (R .w) hw (R .cs) hcs (R .o) ho (R .qt) hqt (R .vt) hvt (R .c4) h4 (R .c16) h16
      (R .h) hh (R .stage) hst) Q := by
  unfold cc0_in_proj
  refine run_neg n1 ?_
  refine run_neg n2 ?_
  refine run_neg n3 ?_
  refine run_neg n4 ?_
  refine run_pos p5 ?_
  refine load_h ?_
  refine load_w ?_
  refine load_cs ?_
  refine run_reg 0 ?_
  iterate 8
    iterate 4 refine step4 (by decide) ?_
    iterate 16 refine step16 (by decide) ?_
  refine run_load .qt ?_
  refine run_store' .qt _ (whole_put _ _) ?_
  refine run_neg n6 ?_
  refine run_neg n7 ?_
  exact run_ret h

end Cert.Kernel4Ideal.InProj
end
-- ==== Proof.InProj.Point.lean ====
/- What each of the six steps leaves in the result windows and in the two scratch buffers, block by block. -/
module

public import proofs.«01_k».proof.Proof.InProj.Case1
public import proofs.«01_k».proof.Proof.InProj.Case2
public import proofs.«01_k».proof.Proof.InProj.Case3

@[expose] public section

set_option maxRecDepth 16384

noncomputable section

namespace Cert.Kernel4Ideal.InProj

open Cert.Kernel4Ideal Cert.Kernel4Ideal.Gen Idealize.ShloMosaic Idealize.ShloMosaic.TcCoe Idealize.SL.Sem
open Idealize.ShloMosaic.Tactic
open Idealize.SL Idealize.SL.RA Idealize.SL.BI Idealize.SL.ProofMode
open Idealize.SL.BI.BIBase Idealize.SL.BI.Laws
open scoped Idealize.SL.BI
open Idealize.ShloMosaic.Pipeline (Dat)

variable {F : FTy → Type} [FloatOps F]

local notation "𝕄" => MT nD τ sig Unit (Elt F) ℕ (UR sig nD τ) ℕ

/-! ## The step a point is at -/

theorem stepAt1 : ∀ t : Fin cfg0.N, Scalar.cmpi .ne (Scalar.extui (Scalar.cmpi .eq (BitVec.ofNat 32 (grid0.coords t 1).val) 0#32) : BitVec 32) 0#32 = 1#1
    ↔ t.val % 6 = 0 := (fun t => by
  have ht : t.val < 192 := Nat.lt_of_lt_of_eq t.isLt N_0
  have e1 : (grid0.coords t 1).val = t.val / 1 % 6 := Pipeline.Grid.coords_val t 1 (by decide) rfl
  simp only [e1]
  word_cmp : ∀ t : Fin grid0.N, _)

theorem stepAt2 : ∀ t : Fin cfg0.N, k0_cond2 (grid0.coords t) = 1#1 ↔ t.val % 6 = 0 := (fun t => by
  have ht : t.val < 192 := Nat.lt_of_lt_of_eq t.isLt N_0
  have e1 : (grid0.coords t 1).val = t.val / 1 % 6 := Pipeline.Grid.coords_val t 1 (by decide) rfl
  simp only [k0_cond2, e1]
  word_cmp : ∀ t : Fin grid0.N, _)

theorem stepAt3 : ∀ t : Fin cfg0.N, k0_cond3 (grid0.coords t) = 1#1 ↔ t.val % 6 = 1 := (fun t => by
  have ht : t.val < 192 := Nat.lt_of_lt_of_eq t.isLt N_0
  have e1 : (grid0.coords t 1).val = t.val / 1 % 6 := Pipeline.Grid.coords_val t 1 (by decide) rfl
  simp only [k0_cond3, e1]
  word_cmp : ∀ t : Fin grid0.N, _)

theorem stepAt4 : ∀ t : Fin cfg0.N, k0_cond4 (grid0.coords t) = 1#1 ↔ t.val % 6 = 2 := (fun t => by
  have ht : t.val < 192 := Nat.lt_of_lt_of_eq t.isLt N_0
  have e1 : (grid0.coords t 1).val = t.val / 1 % 6 := Pipeline.Grid.coords_val t 1 (by decide) rfl
  simp only [k0_cond4, e1]
  word_cmp : ∀ t : Fin grid0.N, _)

theorem stepAt5 : ∀ t : Fin cfg0.N, k0_cond5 (grid0.coords t) = 1#1 ↔ t.val % 6 = 3 := (fun t => by
  have ht : t.val < 192 := Nat.lt_of_lt_of_eq t.isLt N_0
  have e1 : (grid0.coords t 1).val = t.val / 1 % 6 := Pipeline.Grid.coords_val t 1 (by decide) rfl
  simp only [k0_cond5, e1]
  word_cmp : ∀ t : Fin grid0.N, _)

theorem stepAt6 : ∀ t : Fin cfg0.N, k0_cond6 (grid0.coords t) = 1#1 ↔ t.val % 6 = 4 := (fun t => by
  have ht : t.val < 192 := Nat.lt_of_lt_of_eq t.isLt N_0
  have e1 : (grid0.coords t 1).val = t.val / 1 % 6 := Pipeline.Grid.coords_val t 1 (by decide) rfl
  simp only [k0_cond6, e1]
  word_cmp : ∀ t : Fin grid0.N, _)

theorem stepAt7 : ∀ t : Fin cfg0.N, k0_cond7 (grid0.coords t) = 1#1 ↔ t.val % 6 = 5 := (fun t => by
  have ht : t.val < 192 := Nat.lt_of_lt_of_eq t.isLt N_0
  have e1 : (grid0.coords t 1).val = t.val / 1 % 6 := Pipeline.Grid.coords_val t 1 (by decide) rfl
  simp only [k0_cond7, e1]
  word_cmp : ∀ t : Fin grid0.N, _)

theorem sched4 : ∀ t : Fin cfg0.N, cfg0.idle 4 (grid0.coords t) = decide (t.val % 6 = 3 ∨ t.val % 6 = 5)
    ∧ (cfg0.win 4).flush t = decide (t.val % 6 ≠ 3 ∧ t.val % 6 ≠ 4) :=
  (by decide +kernel : ∀ t : Fin grid0.N, idle0 4 (grid0.coords t) = decide (t.val % 6 = 3 ∨ t.val % 6 = 5)
    ∧ win0_4.flush t = decide (t.val % 6 ≠ 3 ∧ t.val % 6 ≠ 4))

theorem sched5 : ∀ t : Fin cfg0.N, cfg0.idle 5 (grid0.coords t) = decide (t.val % 6 ≠ 3)
    ∧ (cfg0.win 5).flush t = decide (t.val % 6 = 5) :=
  (by decide +kernel : ∀ t : Fin grid0.N, idle0 5 (grid0.coords t) = decide (t.val % 6 ≠ 3)
    ∧ win0_5.flush t = decide (t.val % 6 = 5))

theorem sched6 : ∀ t : Fin cfg0.N, cfg0.idle 6 (grid0.coords t) = decide (t.val % 6 ≠ 5)
    ∧ (cfg0.win 6).flush t = decide (t.val % 6 = 5) :=
  (by decide +kernel : ∀ t : Fin grid0.N, idle0 6 (grid0.coords t) = decide (t.val % 6 ≠ 5)
    ∧ win0_6.flush t = decide (t.val % 6 = 5))

theorem sched7 : ∀ t : Fin cfg0.N, cfg0.idle 7 (grid0.coords t) = decide (t.val % 6 = 0 ∨ t.val % 6 = 4 ∨ t.val % 6 = 5)
    ∧ (cfg0.win 7).flush t = decide (t.val % 6 = 1 ∨ t.val % 6 = 2 ∨ t.val % 6 = 5) :=
  (by decide +kernel : ∀ t : Fin grid0.N, idle0 7 (grid0.coords t) = decide (t.val % 6 = 0 ∨ t.val % 6 = 4 ∨ t.val % 6 = 5)
    ∧ win0_7.flush t = decide (t.val % 6 = 1 ∨ t.val % 6 = 2 ∨ t.val % 6 = 5))

theorem sched8 : ∀ t : Fin cfg0.N, cfg0.idle 8 (grid0.coords t) = decide (t.val % 6 = 0 ∨ t.val % 6 = 4 ∨ t.val % 6 = 5)
    ∧ (cfg0.win 8).flush t = decide (t.val % 6 = 1 ∨ t.val % 6 = 2 ∨ t.val % 6 = 5) :=
  (by decide +kernel : ∀ t : Fin grid0.N, idle0 8 (grid0.coords t) = decide (t.val % 6 = 0 ∨ t.val % 6 = 4 ∨ t.val % 6 = 5)
    ∧ win0_8.flush t = decide (t.val % 6 = 1 ∨ t.val % 6 = 2 ∨ t.val % 6 = 5))

/-! ## What the windows hold -/

variable (m : (ℓ : Loc nD τ sig) → Buf (Elt F) ℓ) (ρ : Dev nD → PrngReg)

/-- The point at step `k` of a point's row block. -/
def rowAt (t : Fin cfg0.N) (k : Fin 6) : Fin cfg0.N :=
  ⟨6 * (t.val / 6) + k.val, by have h := t.isLt; have e : cfg0.N = 192 := N_0; have hk := k.isLt; omega⟩

theorem rowAt_self (t : Fin cfg0.N) (k : Fin 6) (h : t.val % 6 = k.val) : rowAt t k = t :=
  Fin.ext (by rw [rowAt]; show 6 * (t.val / 6) + k.val = t.val; omega)

theorem rowAt_pred (t u : Fin cfg0.N) (k : Fin 6) (h : u.val / 6 = t.val / 6) : rowAt t k = rowAt u k :=
  Fin.ext (by rw [rowAt, rowAt]; show 6 * (t.val / 6) + k.val = 6 * (u.val / 6) + k.val; omega)

/-- The normalised rows of a point's row block. -/
def rowsOf (c : Dev nD) (t : Fin cfg0.N) : FVec F S512x2048 .bf16 := k0_pay1 (iblk m c 0 (rowAt t 0)) (iblk m c 1 (rowAt t 0))

/-- The scaled product a point computes. -/
def accAt (c : Dev nD) (t : Fin cfg0.N) : FVec F S512x1024 .f32 := k0_pay18 (rowsOf m c t) (iblk m c 2 t) (iblk m c 3 t)

/-- A block's rows regrouped by residue modulo 4. -/
def res4 (A : S512x1024.Idx → F .f32) : S4x128x1024.Idx → F .bf16 := fun y =>
  FloatOps.truncf .bf16 bitsLt_bf16_f32 (A (ix2 ⟨(y 0).val + 4 * (y 1).val, by
    have : (y 0).val < 4 := (y 0).isLt; have : (y 1).val < 128 := (y 1).isLt; omega⟩ ⟨(y 2).val, (y 2).isLt⟩))

/-- A block's rows regrouped by residue modulo 16. -/
def res16 (A : S512x1024.Idx → F .f32) : S16x32x1024.Idx → F .bf16 := fun y =>
  FloatOps.truncf .bf16 bitsLt_bf16_f32 (A (ix2 ⟨(y 0).val + 16 * (y 1).val, by
    have : (y 0).val < 16 := (y 0).isLt; have : (y 1).val < 32 := (y 1).isLt; omega⟩ ⟨(y 2).val, (y 2).isLt⟩))

/-- A slot holds a block by column blocks. -/
def Laid (s : Fin 2) (A : S512x1024.Idx → F .f32) (S : S2x8x512x128.Idx → F .f32) : Prop :=
  ∀ (cb : Fin 8) (r : Fin 512) (l : Fin 128), S (ix4 s cb r l) = A (ix2 r ⟨128 * cb.val + l.val, by omega⟩)

theorem laid_setS (s : Fin 2) (A : S512x1024.Idx → F .f32) (X : S2x8x512x128.Idx → F .f32) : Laid s A (setS s 8 A X) := by
  intro cb r l
  rw [setS, if_pos ⟨rfl, cb.isLt⟩]
  rfl

theorem grp4_laid {s : Fin 2} {A : S512x1024.Idx → F .f32} {S : S2x8x512x128.Idx → F .f32} (h : Laid s A S) : grp4 s S = res4 A := by
  funext y
  rw [grp4, res4]
  refine congrArg (FloatOps.truncf .bf16 bitsLt_bf16_f32) ((h _ _ _).trans (congrArg A ?_))
  refine congrArg (ix2 _) (Fin.ext ?_)
  show 128 * ((y 2).val / 128) + (y 2).val % 128 = (y 2).val
  omega

theorem grp16_laid {s : Fin 2} {A : S512x1024.Idx → F .f32} {S : S2x8x512x128.Idx → F .f32} (h : Laid s A S) : grp16 s S = res16 A := by
  funext y
  rw [grp16, res16]
  refine congrArg (FloatOps.truncf .bf16 bitsLt_bf16_f32) ((h _ _ _).trans (congrArg A ?_))
  refine congrArg (ix2 _) (Fin.ext ?_)
  show 128 * ((y 2).val / 128) + (y 2).val % 128 = (y 2).val
  omega

/-- The step whose product the first result's window holds after a step. -/
def src4 (n : ℕ) : Fin 6 := match n with
  | 0 => 0 | 1 => 1 | 2 => 2 | _ => 4

/-- The step whose product the regrouped results' windows hold after a step. -/
def src7 (n : ℕ) : Fin 6 := match n with
  | 0 => 0 | 1 => 0 | 2 => 1 | _ => 2

/-- The scratch after a point: the row block's normalised rows, and the product its last step laid out. -/
structure Inv (c : Dev nD) (t : Fin cfg0.N) (h : S512x2048.Idx → F .bf16) (S : S2x8x512x128.Idx → F .f32) : Prop where
  rows : h = rowsOf m c t
  s0 : t.val % 6 = 0 → Laid 0 (accAt m c t) S
  s1 : t.val % 6 = 1 → Laid 1 (accAt m c t) S
  s2 : t.val % 6 = 2 → Laid 0 (accAt m c t) S

/-- The memrefs of a point. -/
abbrev refs (t : Fin cfg0.N) : Refs := fun n => match n with
  | .x => win0_0.stage (cfg0.slots t 0) | .g => win0_1.stage (cfg0.slots t 1) | .w => win0_2.stage (cfg0.slots t 2)
  | .cs => win0_3.stage (cfg0.slots t 3) | .o => win0_4.stage (cfg0.slots t 4) | .qt => win0_5.stage (cfg0.slots t 5)
  | .vt => win0_6.stage (cfg0.slots t 6) | .c4 => win0_7.stage (cfg0.slots t 7) | .c16 => win0_8.stage (cfg0.slots t 8)
  | .h => Memref.whole cc0_scratch0 | .stage => Memref.whole cc0_scratch1

/-- The invariant before a position: at the first nothing of the scratch, afterwards what the point before left. -/
def PhiS (c : Dev nD) : (n : ℕ) → n ≤ cfg0.N → sProp 𝕄
  | 0, _ => Pipeline.ΦA spec0 c
  | n + 1, hn => iprop(∃ (h : S512x2048.Idx → F .bf16) (S : S2x8x512x128.Idx → F .f32), ⌜Inv m c ⟨n, hn⟩ h S⌝
      ∗ owns (c : Thread nD τ) (Memref.whole cc0_scratch0) fullShare h
      ∗ owns (c : Thread nD τ) (Memref.whole cc0_scratch1) fullShare S ∗ (∃ r, prngReg c r))

/-- The proof data: the arrays as the region finds them, each window's contents after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => castOf (accAt m c (rowAt t (src4 (t.val % 6))))
    | ⟨5, _⟩ => k0_pay15 (accAt m c (rowAt t 3))
    | ⟨6, _⟩ => k0_pay15 (accAt m c (rowAt t 5))
    | ⟨7, _⟩ => res4 (accAt m c (rowAt t (src7 (t.val % 6))))
    | ⟨8, _⟩ => res16 (accAt m c (rowAt t (src7 (t.val % 6))))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = castOf (accAt m c (rowAt t (src4 (t.val % 6)))) := by dsimp only [dats]
theorem after5 (c : Dev nD) (t : Fin cfg0.N) : (dats m 0 c).after 5 t = k0_pay15 (accAt m c (rowAt t 3)) := by dsimp only [dats]
theorem after6 (c : Dev nD) (t : Fin cfg0.N) : (dats m 0 c).after 6 t = k0_pay15 (accAt m c (rowAt t 5)) := by dsimp only [dats]
theorem after7 (c : Dev nD) (t : Fin cfg0.N) :
    (dats m 0 c).after 7 t = res4 (accAt m c (rowAt t (src7 (t.val % 6)))) := by dsimp only [dats]
theorem after8 (c : Dev nD) (t : Fin cfg0.N) :
    (dats m 0 c).after 8 t = res16 (accAt m c (rowAt t (src7 (t.val % 6)))) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- A window's contents found where the point before left them, it having stored there. -/
theorem before_live {c : Dev nD} (dat : Dat τ (Elt F) Unit ℕ (UR sig nD τ) ℕ cfg0 c) (w : Fin cfg0.W) (hw : (cfg0.win w).isOut = true)
    (hc : ∀ (i : cfg0.grid.Coords) a, (cfg0.win w).clip i a = none) (t u : Fin cfg0.N) (h : t.val = u.val + 1)
    (hf : (cfg0.win w).flush u = false) (hl : cfg0.idle w (cfg0.grid.coords u) = false) (d) : dat.before w t d = dat.after w u := by
  have hu : (⟨t.val - 1, Nat.lt_of_le_of_lt (Nat.sub_le _ _) t.isLt⟩ : Fin cfg0.N) = u := Fin.ext (by show t.val - 1 = u.val; omega)
  rw [dat.before_of_pos w t (by omega) (by rw [Pipeline.Window.fetch, hw]; rfl) d, hu, if_neg (by rw [hf]; decide), Dat.left, hl]
  show dat.kept w u d = _
  unfold Dat.kept
  rw [Pipeline.fill_of_clip_none w _ (hc _) d (dat.after w u), Pipeline.Window.fill_cut]

/-- A window's contents found where the point before found them, it having stored nothing. -/
theorem before_idle {c : Dev nD} (dat : Dat τ (Elt F) Unit ℕ (UR sig nD τ) ℕ cfg0 c) (w : Fin cfg0.W) (hw : (cfg0.win w).isOut = true)
    (t u : Fin cfg0.N) (h : t.val = u.val + 1)
    (hf : (cfg0.win w).flush u = false) (hl : cfg0.idle w (cfg0.grid.coords u) = true) (d) : dat.before w t d = dat.before w u d := by
  have hu : (⟨t.val - 1, Nat.lt_of_le_of_lt (Nat.sub_le _ _) t.isLt⟩ : Fin cfg0.N) = u := Fin.ext (by show t.val - 1 = u.val; omega)
  rw [dat.before_of_pos w t (by omega) (by rw [Pipeline.Window.fetch, hw]; rfl) d, hu, if_neg (by rw [hf]; decide), Dat.left, hl]

/-- What the obligation asks of a window's contents after a point. -/
def Left {c : Dev nD} (dat : Dat τ (Elt F) Unit ℕ (UR sig nD τ) ℕ cfg0 c) (w : Fin cfg0.W) (t : Fin cfg0.N)
    (X : (cfg0.win w).block.Idx → Elt F (cfg0.win w).elt) : Prop :=
  (cfg0.idle w (cfg0.grid.coords t) = true ∧ (cfg0.win w).flush t = false ∧ ∃ d, X = dat.before w t d)
    ∨ (cfg0.idle w (cfg0.grid.coords t) = false ∨ (cfg0.win w).flush t = true) ∧ X = dat.after w t

theorem Left.leaves {c : Dev nD} {dat : Dat τ (Elt F) Unit ℕ (UR sig nD τ) ℕ cfg0 c} {w : Fin cfg0.W} {t : Fin cfg0.N}
    {X : (cfg0.win w).block.Idx → Elt F (cfg0.win w).elt} (h : Left dat w t X) :
    owns (c : Thread nD τ) ((cfg0.win w).stage (cfg0.slots t w)) fullShare X ⊢ dat.leavesExact w t := by
  unfold Dat.leavesExact
  rcases h with ⟨hi, hf, d, rfl⟩ | ⟨h | h, rfl⟩
  · rw [hi, hf]; iintro H; iexists d; iexact H
  · rw [h]
  · cases cfg0.idle w (cfg0.grid.coords t)
    · exact Idealize.SL.BI.Entails.refl _
    · rw [h]

end Cert.Kernel4Ideal.InProj
end
-- ==== Proof.InProj.Step.lean ====
/- A point's body, run from what the pipeline hands it to what it must leave. -/
module

public import proofs.«01_k».proof.Proof.InProj.Point

@[expose] public section

set_option maxRecDepth 16384

noncomputable section

namespace Cert.Kernel4Ideal.InProj

open Cert.Kernel4Ideal Cert.Kernel4Ideal.Gen Idealize.ShloMosaic Idealize.ShloMosaic.TcCoe Idealize.SL.Sem
open Idealize.ShloMosaic.Pipeline (Dat)

variable {F : FTy → Type} [FloatOps F] (m : (ℓ : Loc nD τ sig) → Buf (Elt F) ℓ) (c : Dev nD) (t : Fin cfg0.N) (σ : St F)

/-- The buffers as a point finds them. -/
structure Found : Prop where
  x : σ .x = iblk m c 0 t
  g : σ .g = iblk m c 1 t
  w : σ .w = iblk m c 2 t
  cs : σ .cs = iblk m c 3 t
  o : ∃ d, σ .o = (dats m 0 c).before 4 t d
  qt : ∃ d, σ .qt = (dats m 0 c).before 5 t d
  vt : ∃ d, σ .vt = (dats m 0 c).before 6 t d
  c4 : ∃ d, σ .c4 = (dats m 0 c).before 7 t d
  c16 : ∃ d, σ .c16 = (dats m 0 c).before 8 t d
  scr : ∀ u : Fin cfg0.N, t.val = u.val + 1 → Inv m c u (σ .h) (σ .stage)

/-- The buffers as a point leaves them. -/
structure Done : Prop where
  x : σ .x = iblk m c 0 t
  g : σ .g = iblk m c 1 t
  w : σ .w = iblk m c 2 t
  cs : σ .cs = iblk m c 3 t
  o : Left (dats m 0 c) 4 t (σ .o)
  qt : Left (dats m 0 c) 5 t (σ .qt)
  vt : Left (dats m 0 c) 6 t (σ .vt)
  c4 : Left (dats m 0 c) 7 t (σ .c4)
  c16 : Left (dats m 0 c) 8 t (σ .c16)
  scr : Inv m c t (σ .h) (σ .stage)

variable {m c t σ}

/-- The point before. -/
theorem prev (h : t.val % 6 ≠ 0) : ∃ u : Fin cfg0.N, t.val = u.val + 1 :=
  ⟨⟨t.val - 1, Nat.lt_of_le_of_lt (Nat.sub_le _ _) t.isLt⟩, by show t.val = t.val - 1 + 1; omega⟩

theorem rowsOf_prev {u : Fin cfg0.N} (h : t.val = u.val + 1) (h0 : t.val % 6 ≠ 0) : rowsOf m c u = rowsOf m c t := by
  rw [rowsOf, rowsOf, rowAt_pred u t 0 (by omega)]

theorem Found.rows (f : Found m c t σ) (h0 : t.val % 6 ≠ 0) : σ .h = rowsOf m c t := by
  obtain ⟨u, hu⟩ := prev h0
  rw [(f.scr u hu).rows, rowsOf_prev hu h0]

theorem Found.acc (f : Found m c t σ) (h0 : t.val % 6 ≠ 0) : accOf σ = accAt m c t := by
  rw [accOf, accAt, f.rows h0, f.w, f.cs]

theorem rowsOf_zero (h0 : t.val % 6 = 0) : k0_pay1 (iblk m c 0 t) (iblk m c 1 t) = rowsOf m c t := by
  rw [rowsOf, rowAt_self t 0 h0]

theorem Found.acc0 (f : Found m c t σ) (h0 : t.val % 6 = 0) : accOf (st0 σ) = accAt m c t := by
  show k0_pay18 (k0_pay1 (σ .x) (σ .g)) (σ .w) (σ .cs) = _
  rw [accAt, f.x, f.g, f.w, f.cs, rowsOf_zero h0]

/-! ## Each result's window -/

theorem left4 (k : Fin 6) (h : t.val % 6 = k.val) (hk : k.val ≠ 3 ∧ k.val ≠ 5) {X : S512x1024.Idx → F .bf16}
    (e : X = castOf (accAt m c t)) : Left (dats m 0 c) 4 t X := by
  refine Or.inr ⟨Or.inl ((sched4 t).1.trans (decide_eq_false (by omega))), ?_⟩
  rw [after4, e, h, rowAt_self t]
  rw [h]
  exact (by decide : ∀ k : Fin 6, k.val ≠ 3 ∧ k.val ≠ 5 → k.val = (src4 k.val).val) k hk

theorem left4_keep (h : t.val % 6 = 3) {X : S512x1024.Idx → F .bf16} (e : ∃ d, X = (dats m 0 c).before 4 t d) :
    Left (dats m 0 c) 4 t X :=
  Or.inl ⟨(sched4 t).1.trans (decide_eq_true (by omega)), (sched4 t).2.trans (decide_eq_false (by omega)), e⟩

theorem left4_last (h : t.val % 6 = 5) {X : S512x1024.Idx → F .bf16} (e : ∃ d, X = (dats m 0 c).before 4 t d) :
    Left (dats m 0 c) 4 t X := by
  obtain ⟨d, rfl⟩ := e
  obtain ⟨u, hu⟩ := prev (t := t) (by omega)
  refine Or.inr ⟨Or.inr ((sched4 t).2.trans (decide_eq_true (by omega))), ?_⟩
  rw [before_live _ 4 rfl (fun _ _ => rfl) t u hu ((sched4 u).2.trans (decide_eq_false (by omega)))
    ((sched4 u).1.trans (decide_eq_false (by omega))), after4, after4, h, show u.val % 6 = 4 by omega, rowAt_pred t u _ (by omega)]
  rfl

theorem left5 (h : t.val % 6 = 3) {X : S1024x512.Idx → F .bf16} (e : X = k0_pay15 (accAt m c t)) : Left (dats m 0 c) 5 t X := by
  refine Or.inr ⟨Or.inl ((sched5 t).1.trans (decide_eq_false (by omega))), ?_⟩
  rw [after5, e, rowAt_self t 3 h]

theorem left5_keep (h : t.val % 6 ≠ 3 ∧ t.val % 6 ≠ 5) {X : S1024x512.Idx → F .bf16} (e : ∃ d, X = (dats m 0 c).before 5 t d) :
    Left (dats m 0 c) 5 t X :=
  Or.inl ⟨(sched5 t).1.trans (decide_eq_true (by omega)), (sched5 t).2.trans (decide_eq_false (by omega)), e⟩

theorem left5_last (h : t.val % 6 = 5) {X : S1024x512.Idx → F .bf16} (e : ∃ d, X = (dats m 0 c).before 5 t d) :
    Left (dats m 0 c) 5 t X := by
  obtain ⟨d, rfl⟩ := e
  obtain ⟨u, hu⟩ := prev (t := t) (by omega)
  obtain ⟨v, hv⟩ := prev (t := u) (by omega)
  refine Or.inr ⟨Or.inr ((sched5 t).2.trans (decide_eq_true (by omega))), ?_⟩
  rw [before_idle _ 5 rfl t u hu ((sched5 u).2.trans (decide_eq_false (by omega))) ((sched5 u).1.trans (decide_eq_true (by omega))),
    before_live _ 5 rfl (fun _ _ => rfl) u v hv ((sched5 v).2.trans (decide_eq_false (by omega)))
    ((sched5 v).1.trans (decide_eq_false (by omega))), after5, after5, rowAt_pred t v _ (by omega)]

theorem left6 (h : t.val % 6 = 5) {X : S1024x512.Idx → F .bf16} (e : X = k0_pay15 (accAt m c t)) : Left (dats m 0 c) 6 t X := by
  refine Or.inr ⟨Or.inl ((sched6 t).1.trans (decide_eq_false (by omega))), ?_⟩
  rw [after6, e, rowAt_self t 5 h]

theorem left6_keep (h : t.val % 6 ≠ 5) {X : S1024x512.Idx → F .bf16} (e : ∃ d, X = (dats m 0 c).before 6 t d) :
    Left (dats m 0 c) 6 t X :=
  Or.inl ⟨(sched6 t).1.trans (decide_eq_true (by omega)), (sched6 t).2.trans (decide_eq_false (by omega)), e⟩

theorem left7 {u : Fin cfg0.N} (hu : t.val = u.val + 1) (h : t.val % 6 = 1 ∨ t.val % 6 = 2 ∨ t.val % 6 = 3)
    {X : S4x128x1024.Idx → F .bf16} (e : X = res4 (accAt m c u)) : Left (dats m 0 c) 7 t X := by
  refine Or.inr ⟨Or.inl ((sched7 t).1.trans (decide_eq_false (by omega))), ?_⟩
  rw [after7, e, rowAt_pred t u _ (by omega), rowAt_self u]
  rcases h with h | h | h <;> rw [h] <;> show u.val % 6 = _ <;> simp only [src7] <;> omega

theorem left8 {u : Fin cfg0.N} (hu : t.val = u.val + 1) (h : t.val % 6 = 1 ∨ t.val % 6 = 2 ∨ t.val % 6 = 3)
    {X : S16x32x1024.Idx → F .bf16} (e : X = res16 (accAt m c u)) : Left (dats m 0 c) 8 t X := by
  refine Or.inr ⟨Or.inl ((sched8 t).1.trans (decide_eq_false (by omega))), ?_⟩
  rw [after8, e, rowAt_pred t u _ (by omega), rowAt_self u]
  rcases h with h | h | h <;> rw [h] <;> show u.val % 6 = _ <;> simp only [src7] <;> omega

theorem left7_keep (h : t.val % 6 = 0 ∨ t.val % 6 = 4) {X : S4x128x1024.Idx → F .bf16} (e : ∃ d, X = (dats m 0 c).before 7 t d) :
    Left (dats m 0 c) 7 t X :=
  Or.inl ⟨(sched7 t).1.trans (decide_eq_true (by omega)), (sched7 t).2.trans (decide_eq_false (by omega)), e⟩

theorem left8_keep (h : t.val % 6 = 0 ∨ t.val % 6 = 4) {X : S16x32x1024.Idx → F .bf16} (e : ∃ d, X = (dats m 0 c).before 8 t d) :
    Left (dats m 0 c) 8 t X :=
  Or.inl ⟨(sched8 t).1.trans (decide_eq_true (by omega)), (sched8 t).2.trans (decide_eq_false (by omega)), e⟩

theorem left7_last (h : t.val % 6 = 5) {X : S4x128x1024.Idx → F .bf16} (e : ∃ d, X = (dats m 0 c).before 7 t d) :
    Left (dats m 0 c) 7 t X := by
  obtain ⟨d, rfl⟩ := e
  obtain ⟨u, hu⟩ := prev (t := t) (by omega)
  obtain ⟨v, hv⟩ := prev (t := u) (by omega)
  refine Or.inr ⟨Or.inr ((sched7 t).2.trans (decide_eq_true (by omega))), ?_⟩
  rw [before_idle _ 7 rfl t u hu ((sched7 u).2.trans (decide_eq_false (by omega))) ((sched7 u).1.trans (decide_eq_true (by omega))),
    before_live _ 7 rfl (fun _ _ => rfl) u v hv ((sched7 v).2.trans (decide_eq_false (by omega)))
    ((sched7 v).1.trans (decide_eq_false (by omega))), after7, after7, h, show v.val % 6 = 3 by omega, rowAt_pred t v _ (by omega)]
  rfl

theorem left8_last (h : t.val % 6 = 5) {X : S16x32x1024.Idx → F .bf16} (e : ∃ d, X = (dats m 0 c).before 8 t d) :
    Left (dats m 0 c) 8 t X := by
  obtain ⟨d, rfl⟩ := e
  obtain ⟨u, hu⟩ := prev (t := t) (by omega)
  obtain ⟨v, hv⟩ := prev (t := u) (by omega)
  refine Or.inr ⟨Or.inr ((sched8 t).2.trans (decide_eq_true (by omega))), ?_⟩
  rw [before_idle _ 8 rfl t u hu ((sched8 u).2.trans (decide_eq_false (by omega))) ((sched8 u).1.trans (decide_eq_true (by omega))),
    before_live _ 8 rfl (fun _ _ => rfl) u v hv ((sched8 v).2.trans (decide_eq_false (by omega)))
    ((sched8 v).1.trans (decide_eq_false (by omega))), after8, after8, h, show v.val % 6 = 3 by omega, rowAt_pred t v _ (by omega)]
  rfl

/-! ## The body at each step -/

theorem done0 (h : t.val % 6 = 0) (f : Found m c t σ) : Done m c t (lay (stO (st0 σ)) 0 (accOf (st0 σ)) 8) where
  x := f.x
  g := f.g
  w := f.w
  cs := f.cs
  o := left4 0 h (by decide) (congrArg castOf (f.acc0 h))
  qt := left5_keep (by omega) f.qt
  vt := left6_keep (by omega) f.vt
  c4 := left7_keep (by omega) f.c4
  c16 := left8_keep (by omega) f.c16
  scr := ⟨(congrArg₂ k0_pay1 f.x f.g).trans (rowsOf_zero h), fun _ => f.acc0 h ▸ laid_setS 0 _ _, fun e => by omega, fun e => by omega⟩

theorem done1 (h : t.val % 6 = 1) (f : Found m c t σ) : Done m c t (lay (reg (stO σ) 0 32 128) 1 (accOf σ) 8) where
  x := f.x
  g := f.g
  w := f.w
  cs := f.cs
  o := left4 1 h (by decide) (congrArg castOf (f.acc (by omega)))
  qt := left5_keep (by omega) f.qt
  vt := left6_keep (by omega) f.vt
  c4 := by
    obtain ⟨u, hu⟩ := prev (t := t) (by omega)
    exact left7 hu (by omega) ((set4_all rfl _ _).trans (grp4_laid ((f.scr u hu).s0 (by omega))))
  c16 := by
    obtain ⟨u, hu⟩ := prev (t := t) (by omega)
    exact left8 hu (by omega) ((set16_all rfl _ _).trans (grp16_laid ((f.scr u hu).s0 (by omega))))
  scr := ⟨f.rows (by omega), fun e => by omega, fun _ => f.acc (by omega) ▸ laid_setS 1 _ _, fun e => by omega⟩

theorem done2 (h : t.val % 6 = 2) (f : Found m c t σ) : Done m c t (lay (reg (stO σ) 1 32 128) 0 (accOf σ) 8) where
  x := f.x
  g := f.g
  w := f.w
  cs := f.cs
  o := left4 2 h (by decide) (congrArg castOf (f.acc (by omega)))
  qt := left5_keep (by omega) f.qt
  vt := left6_keep (by omega) f.vt
  c4 := by
    obtain ⟨u, hu⟩ := prev (t := t) (by omega)
    exact left7 hu (by omega) ((set4_all rfl _ _).trans (grp4_laid ((f.scr u hu).s1 (by omega))))
  c16 := by
    obtain ⟨u, hu⟩ := prev (t := t) (by omega)
    exact left8 hu (by omega) ((set16_all rfl _ _).trans (grp16_laid ((f.scr u hu).s1 (by omega))))
  scr := ⟨f.rows (by omega), fun e => by omega, fun e => by omega, fun _ => f.acc (by omega) ▸ laid_setS 0 _ _⟩

theorem done3 (h : t.val % 6 = 3) (f : Found m c t σ) :
    Done m c t (Function.update (reg σ 0 32 128) .qt (k0_pay15 (accOf σ))) where
  x := f.x
  g := f.g
  w := f.w
  cs := f.cs
  o := left4_keep h f.o
  qt := left5 h (congrArg k0_pay15 (f.acc (by omega)))
  vt := left6_keep (by omega) f.vt
  c4 := by
    obtain ⟨u, hu⟩ := prev (t := t) (by omega)
    exact left7 hu (by omega) ((set4_all rfl _ _).trans (grp4_laid ((f.scr u hu).s2 (by omega))))
  c16 := by
    obtain ⟨u, hu⟩ := prev (t := t) (by omega)
    exact left8 hu (by omega) ((set16_all rfl _ _).trans (grp16_laid ((f.scr u hu).s2 (by omega))))
  scr := ⟨f.rows (by omega), fun e => by omega, fun e => by omega, fun e => by omega⟩

theorem done4 (h : t.val % 6 = 4) (f : Found m c t σ) : Done m c t (stO σ) where
  x := f.x
  g := f.g
  w := f.w
  cs := f.cs
  o := left4 4 h (by decide) (congrArg castOf (f.acc (by omega)))
  qt := left5_keep (by omega) f.qt
  vt := left6_keep (by omega) f.vt
  c4 := left7_keep (by omega) f.c4
  c16 := left8_keep (by omega) f.c16
  scr := ⟨f.rows (by omega), fun e => by omega, fun e => by omega, fun e => by omega⟩

theorem done5 (h : t.val % 6 = 5) (f : Found m c t σ) : Done m c t (Function.update σ .vt (k0_pay15 (accOf σ))) where
  x := f.x
  g := f.g
  w := f.w
  cs := f.cs
  o := left4_last h f.o
  qt := left5_last h f.qt
  vt := left6 h (congrArg k0_pay15 (f.acc (by omega)))
  c4 := left7_last h f.c4
  c16 := left8_last h f.c16
  scr := ⟨f.rows (by omega), fun e => by omega, fun e => by omega, fun e => by omega⟩

theorem off {a b k : ℕ} {p : Prop} (i : p ↔ a % 6 = k) (h : a % 6 = b) (n : b ≠ k) : ¬p := fun e => n (h.symm.trans (i.1 e))

/-- A point's body, from what it finds to what it leaves. -/
theorem step (f : Found m c t σ) : Run c (refs t) σ (bodyAt0 t) fun _ σ' => Done m c t σ' := by
  have h6 : t.val % 6 < 6 := Nat.mod_lt _ (by omega)
  have hh : t.val % 6 = 0 ∨ t.val % 6 = 1 ∨ t.val % 6 = 2 ∨ t.val % 6 = 3 ∨ t.val % 6 = 4 ∨ t.val % 6 = 5 := by omega
  rcases hh with h | h | h | h | h | h
  · exact run0 ((stepAt1 t).2 h) ((stepAt2 t).2 h) (off (stepAt3 t) h (by decide)) (off (stepAt4 t) h (by decide))
      (off (stepAt5 t) h (by decide)) (off (stepAt6 t) h (by decide)) (off (stepAt7 t) h (by decide)) (done0 h f)
  · exact run1 (off (stepAt1 t) h (by decide)) (off (stepAt2 t) h (by decide)) ((stepAt3 t).2 h) (off (stepAt4 t) h (by decide))
      (off (stepAt5 t) h (by decide)) (off (stepAt6 t) h (by decide)) (off (stepAt7 t) h (by decide)) (done1 h f)
  · exact run2 (off (stepAt1 t) h (by decide)) (off (stepAt2 t) h (by decide)) (off (stepAt3 t) h (by decide)) ((stepAt4 t).2 h)
      (off (stepAt5 t) h (by decide)) (off (stepAt6 t) h (by decide)) (off (stepAt7 t) h (by decide)) (done2 h f)
  · exact run3 (off (stepAt1 t) h (by decide)) (off (stepAt2 t) h (by decide)) (off (stepAt3 t) h (by decide))
      (off (stepAt4 t) h (by decide)) ((stepAt5 t).2 h) (off (stepAt6 t) h (by decide)) (off (stepAt7 t) h (by decide)) (done3 h f)
  · exact run4 (off (stepAt1 t) h (by decide)) (off (stepAt2 t) h (by decide)) (off (stepAt3 t) h (by decide))
      (off (stepAt4 t) h (by decide)) (off (stepAt5 t) h (by decide)) ((stepAt6 t).2 h) (off (stepAt7 t) h (by decide)) (done4 h f)
  · exact run5 (off (stepAt1 t) h (by decide)) (off (stepAt2 t) h (by decide)) (off (stepAt3 t) h (by decide))
      (off (stepAt4 t) h (by decide)) (off (stepAt5 t) h (by decide)) (off (stepAt6 t) h (by decide)) ((stepAt7 t).2 h) (done5 h f)

end Cert.Kernel4Ideal.InProj
end
-- ==== Proof.InProj.Body.lean ====
/- The input projection's run: the pipeline's obligation at every point, the launch, and what it leaves. -/
module

public import proofs.«01_k».proof.Proof.InProj.Step

@[expose] public section

set_option maxRecDepth 16384

noncomputable section

namespace Cert.Kernel4Ideal.InProj

open Cert.Kernel4Ideal Cert.Kernel4Ideal.Gen Idealize.ShloMosaic Idealize.ShloMosaic.TcCoe Idealize.SL.Sem
open Idealize.ShloMosaic.Tactic
open Idealize.SL Idealize.SL.RA Idealize.SL.BI Idealize.SL.ProofMode
open Idealize.SL.BI.BIBase Idealize.SL.BI.Laws
open scoped Idealize.SL.BI
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The state whose buffers hold the given contents. -/
abbrev mkSt (x : S512x2048.Idx → F .f32) (g : S1x2048.Idx → F .f32) (w : S2048x1024.Idx → F .bf16) (cs : S1x1024.Idx → F .f32)
    (o : S512x1024.Idx → F .bf16) (qt vt : S1024x512.Idx → F .bf16) (c4 : S4x128x1024.Idx → F .bf16)
    (c16 : S16x32x1024.Idx → F .bf16) (h : S512x2048.Idx → F .bf16) (S : S2x8x512x128.Idx → F .f32) : St F := fun n => match n with
  | .x => x | .g => g | .w => w | .cs => cs | .o => o | .qt => qt | .vt => vt | .c4 => c4 | .c16 => c16 | .h => h | .stage => S

/-- The buffers owned at a state, one by one. -/
theorem Own_eq (c : Dev nD) (R : Refs) (σ : St F) : Own c R σ = (iprop(owns (c : Thread nD τ) (R .x) fullShare (σ .x)
    ∗ owns (c : Thread nD τ) (R .g) fullShare (σ .g) ∗ owns (c : Thread nD τ) (R .w) fullShare (σ .w)
    ∗ owns (c : Thread nD τ) (R .cs) fullShare (σ .cs) ∗ owns (c : Thread nD τ) (R .o) fullShare (σ .o)
    ∗ owns (c : Thread nD τ) (R .qt) fullShare (σ .qt) ∗ owns (c : Thread nD τ) (R .vt) fullShare (σ .vt)
    ∗ owns (c : Thread nD τ) (R .c4) fullShare (σ .c4) ∗ owns (c : Thread nD τ) (R .c16) fullShare (σ .c16)
    ∗ owns (c : Thread nD τ) (R .h) fullShare (σ .h) ∗ owns (c : Thread nD τ) (R .stage) fullShare (σ .stage)) : sProp 𝕄) :=
  bigSep_univ_eq_bigSepL (I := Nm) [.x, .g, .w, .cs, .o, .qt, .vt, .c4, .c16, .h, .stage] (by decide) (by decide)
    fun n : Nm => owns (c : Thread nD τ) (R n) fullShare (σ n)

/-- What the launch hands over besides the windows: both scratch buffers at some contents, and the generator register. -/
theorem PhiA0_eq (c : Dev nD) : (Pipeline.ΦA spec0 c : sProp 𝕄) =
    iprop(iprop((∃ d : S512x2048.Idx → F .bf16, owns (c : Thread nD τ) (Memref.whole cc0_scratch0) fullShare d)
      ∗ (∃ d : S2x8x512x128.Idx → F .f32, owns (c : Thread nD τ) (Memref.whole cc0_scratch1) fullShare d)) ∗ (∃ r, prngReg c r)) := by
  unfold Pipeline.ΦA
  rw [scopedRest0_eq]
  simp only [owns_whole]
  try rfl

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

/-- The scratch before a point. -/
theorem Phi_open (c : Dev nD) (t : Fin cfg0.N) : (dats m 0 c).Φ t.castSucc ⊢
    iprop(∃ (h : S512x2048.Idx → F .bf16) (S : S2x8x512x128.Idx → F .f32), ⌜∀ u : Fin cfg0.N, t.val = u.val + 1 → Inv m c u h S⌝
      ∗ owns (c : Thread nD τ) (Memref.whole cc0_scratch0) fullShare h
      ∗ owns (c : Thread nD τ) (Memref.whole cc0_scratch1) fullShare S ∗ (∃ r, prngReg c r)) := by
  rw [PhiS_castSucc]
  obtain ⟨n, hn⟩ := t
  cases n with
  | zero =>
    rw [show PhiS m c (⟨0, hn⟩ : Fin cfg0.N).val (Nat.le_of_lt hn) = Pipeline.ΦA spec0 c from rfl, PhiA0_eq]
    iintro ⟨⟨⟨%h, H⟩, ⟨%S, HS⟩⟩, Hg⟩
    iexists h
    iexists S
    isplitr; · ipureintro; exact fun u hu => absurd hu (Nat.succ_ne_zero _).symm
    isplitl [H]; · iexact H
    isplitl [HS]; · iexact HS
    iexact Hg
  | succ n =>
    unfold PhiS
    iintro ⟨%h, %S, %hi, H, HS, Hg⟩
    iexists h
    iexists S
    isplitr
    · ipureintro
      intro u hu
      have e : u = ⟨n, Nat.lt_of_succ_lt hn⟩ := Fin.ext (Nat.succ.inj hu).symm
      rw [e]
      exact hi
    isplitl [H]; · iexact H
    isplitl [HS]; · iexact HS
    iexact Hg

/-- What a point's body is handed, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t ∗ (dats m 0 c).leavesExact 8 t)

theorem Done.after {c : Dev nD} {t : Fin cfg0.N} {σ : St F} (h : Done m c t σ) : Left (dats m 0 c) 0 t (σ .x)
    ∧ Left (dats m 0 c) 1 t (σ .g) ∧ Left (dats m 0 c) 2 t (σ .w) ∧ Left (dats m 0 c) 3 t (σ .cs) :=
  ⟨Or.inr ⟨Or.inl rfl, h.x.trans (after0 m c t).symm⟩, Or.inr ⟨Or.inl rfl, h.g.trans (after1 m c t).symm⟩,
    Or.inr ⟨Or.inl rfl, h.w.trans (after2 m c t).symm⟩, Or.inr ⟨Or.inl rfl, h.cs.trans (after3 m c t).symm⟩⟩

theorem Done.leave {c : Dev nD} {t : Fin cfg0.N} {σ : St F} (h : Done m c t σ) :
    iprop(Own c (refs t) σ ∗ (∃ r, prngReg c r) ∗ (dats m 0 c).owesAt () t.castSucc) ⊢ bodyPost m c t := by
  unfold bodyPost
  rw [show (dats m 0 c).owesAt () t.succ = (dats m 0 c).owesAt () t.castSucc from rfl,
    show (dats m 0 c).Φ t.succ = PhiS m c (t.val + 1) t.isLt from rfl, Own_eq]
  unfold PhiS
  iintro ⟨⟨H0, H1, H2, H3, H4, H5, H6, H7, H8, Hh, HS⟩, Hg, Ho⟩
  isplitl [Hh HS Hg]
  · iexists σ .h
    iexists σ .stage
    isplitr; · ipureintro; exact h.scr
    isplitl [Hh]; · iexact Hh
    isplitl [HS]; · iexact HS
    iexact Hg
  isplitl [Ho]; · iexact Ho
  isplitl [H0]; · iapply (h.after m).1.leaves; iexact H0
  isplitl [H1]; · iapply (h.after m).2.1.leaves; iexact H1
  isplitl [H2]; · iapply (h.after m).2.2.1.leaves; iexact H2
  isplitl [H3]; · iapply (h.after m).2.2.2.leaves; iexact H3
  isplitl [H4]; · iapply h.o.leaves; iexact H4
  isplitl [H5]; · iapply h.qt.leaves; iexact H5
  isplitl [H6]; · iapply h.vt.leaves; iexact H6
  isplitl [H7]; · iapply h.c4.leaves; iexact H7
  iapply h.c16.leaves; iexact H8

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre
  simp only [before0, before1, before2, before3]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HΦ := (Phi_open m c t) $$ HΦ
  icases HΦ with ⟨%h, %S, %hi, Hh, HS, Hg⟩
  have hr : Own c (refs t) (mkSt (iblk m c 0 t) (iblk m c 1 t) (iblk m c 2 t) (iblk m c 3 t) ((dats m 0 c).before 4 t d4)
      ((dats m 0 c).before 5 t d5) ((dats m 0 c).before 6 t d6) ((dats m 0 c).before 7 t d7) ((dats m 0 c).before 8 t d8) h S) ⊢ _ :=
    step ⟨rfl, rfl, rfl, rfl, ⟨d4, rfl⟩, ⟨d5, rfl⟩, ⟨d6, rfl⟩, ⟨d7, rfl⟩, ⟨d8, rfl⟩, hi⟩
  rw [Own_eq] at hr
  iapply (wp_wand_r _ _ _)
  isplitl [H0 H1 H2 H3 H4 H5 H6 H7 H8 Hh HS]
  · iapply hr
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [Hh]; · iexact Hh
    iexact HS
  iintro %a ⟨%σ', %hd, H⟩
  iapply (Done.leave m hd)
  isplitl [H]; · iexact H
  isplitl [Hg]; · iexact Hg
  iexact Ho

/-- The body table's row at a point's slots is the body as printed. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Pipeline.ΦA spec0 c from rfl]

/-- After the last point the invariant gives it back, its contents forgotten. -/
theorem hout (c : Dev nD) : (dats m 0 c).Φ (Fin.last cfg0.N) ⊢ Pipeline.ΦA spec0 c := by
  have hN : cfg0.N = 191 + 1 := N_0
  have e : ∀ (n : ℕ) (hn : n ≤ cfg0.N) (k : ℕ), n = k + 1 → PhiS m c n hn ⊢ Pipeline.ΦA spec0 c := by
    intro n hn k hk
    subst hk
    rw [PhiA0_eq]
    unfold PhiS
    iintro ⟨%h, %S, -, H, HS, Hg⟩
    isplitl [H HS]
    · isplitl [H]
      · iexists h; iexact H
      iexists S; iexact HS
    iexact Hg
  exact e _ _ 191 hN

set_option backward.isDefEq.respectTransparency.types false in
/-- The launch: every run ends with every array as the proof data say, and every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- Every run ends, the argument arrays unchanged and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel4Ideal.InProj
end
-- ==== Proof.InProj.Same.lean ====
/- The input projection's program and its idealised program are one text. -/
module

public import proofs.«01_k».proof.Defs
public import proofs.«01_k».proof.Proof.InProj.Body
public import proofs.«01_k».proof.Proof.Gen.Kernel4
@[expose] public section
noncomputable section
namespace Cert.Kernel4Ideal.Same
open Idealize.ShloMosaic
set_option maxRecDepth 65536
variable {F : FTy → Type} [FloatOps F]

theorem bodies : @Cert.Kernel4.defs₀ F _ Cert.Kernel4.Gen.facts = @Cert.Kernel4Ideal.defs₀ F _ Cert.Kernel4Ideal.Gen.facts := by
  refine congrArg (Defs.onTc (nD := 1) (Λ := Cert.Kernel4Ideal.Λ₀)) (funext fun l => funext fun a => ?_)
  obtain ⟨l, h⟩ := l
  match l, h, a with
  | 0, _, (t, s) => exact rfl

theorem tables : @Cert.Kernel4.defs F _ Cert.Kernel4.Gen.facts = @Cert.Kernel4Ideal.defs F _ Cert.Kernel4Ideal.Gen.facts :=
  congrArg (Pipeline.defs (@Cert.Kernel4Ideal.pcfgs F Cert.Kernel4Ideal.Gen.facts)) bodies

theorem mains : @Cert.Kernel4.main F _ Cert.Kernel4.Gen.facts = @Cert.Kernel4Ideal.main F _ Cert.Kernel4Ideal.Gen.facts := by
  exact rfl

/-- So the one run is the frame of both. -/
theorem frame : Cert.quiescent_Kernel4 (hKernel4 := Cert.Kernel4.Gen.facts) := fun m ρ _ => by
  have h := Cert.Kernel4Ideal.InProj.frame_main (F := Bits) m ρ
  rw [← tables, ← mains] at h
  exact h

end Cert.Kernel4Ideal.Same
end
-- ==== Proof.InProj.Table.lean ====
/- The table of the projection columns' scales. -/
module

public import proofs.«01_k».proof.Proof.Gen.Kernel4Ideal.Frame
@[expose] public section
noncomputable section
namespace Cert.Kernel4Ideal.Val
open Cert.Kernel4Ideal Cert.Kernel4Ideal.Gen Idealize.ShloMosaic
set_option maxRecDepth 16384
/-- The softmax scale on both kinds of queries, one elsewhere. -/
theorem table : ∀ j : Fin 6144, lit0 j = if j.val < 1024 ∨ 3072 ≤ j.val ∧ j.val < 4096 then 0x3E0293EE#32 else 0x3F800000#32 := by
  decide +kernel
end Cert.Kernel4Ideal.Val
end
-- ==== Proof.InProj.Ref.lean ====
/- The projection's reference, read at an index. -/
module

public import proofs.«01_k».proof.Defs
public import proofs.«01_k».proof.Proof.Gen.Reference4Ideal.Run
public import Idealize.ShloMosaic.Lib.Pipeline.ValueKit
public import Idealize.ShloMosaic.Lib.Pointwise

@[expose] public section

set_option maxRecDepth 16384

noncomputable section

namespace Cert.Reference4Ideal.Val

open Cert.Reference4Ideal Cert.Reference4Ideal.Gen Cert.Reference4Ideal.Value Idealize.ShloMosaic Idealize.ShloMosaic.TcCoe Idealize.SL.Sem

/-- The projection of the normalised rows, all columns. -/
def full (x : FVec Idealize.ShloMosaic.Ideal S1x16384x2048 .f32) (g : FVec Idealize.ShloMosaic.Ideal S1x2048 .f32)
    (w : FVec Idealize.ShloMosaic.Ideal S1x2048x6144 .f32) : FVec Idealize.ShloMosaic.Ideal S16384x6144 .f32 :=
  Host.dotGeneral dot_S16384x2048_S2048x6144_S16384x6144_1_0_0_1_n_n none
    (mulf (mulf (shapeCast _ x shapeCasts_S1x16384x2048_S16384x2048)
      (broadcastInDim S16384x2048 ![0, 1] bcast_S16384x1_S16384x2048_0_1 (Host.rsqrt (addf (Host.divf
        (broadcastInDim S16384x1 ![0] bcast_S16384_S16384x1_0 (Host.reduceAdd
          (mulf (shapeCast _ x shapeCasts_S1x16384x2048_S16384x2048) (shapeCast _ x shapeCasts_S1x16384x2048_S16384x2048))
          (constant S_ .f32 0x00000000#32) reducesTo_S16384x2048_S16384_d1 h_S_))
        (broadcastInDim S16384x1 ![] bcast_S_S16384x1 (constant S_ .f32 0x45000000#32)))
        (broadcastInDim S16384x1 ![] bcast_S_S16384x1 (constant S_ .f32 0x358637BD#32))))))
      (broadcastInDim S16384x2048 ![0, 1] bcast_S1x2048_S16384x2048_0_1 (broadcastInDim S1x2048 ![1] bcast_S2048_S1x2048_1
        (shapeCast _ g shapeCasts_S1x2048_S2048))))
    (shapeCast _ w shapeCasts_S1x2048x6144_S2048x6144)

/-- The scale spread over a group of columns. -/
def scale : FVec Idealize.ShloMosaic.Ideal S16384x1024 .f32 :=
  broadcastInDim S16384x1024 ![] bcast_S_S16384x1024 (constant S_ .f32 0x3E0293EE#32)

/-- The dilated attention's columns of a projection. -/
def dil (P : FVec Idealize.ShloMosaic.Ideal S16384x6144 .f32) : FVec Idealize.ShloMosaic.Ideal S16384x3072 .f32 :=
  fn_main_v25 (mulf (extractStridedSlice S16384x1024 ![0, 3072] P slices_S16384x6144_S16384x1024_0_3072) scale)
    (extractStridedSlice S16384x1024 ![0, 4096] P slices_S16384x6144_S16384x1024_0_4096)
    (extractStridedSlice S16384x1024 ![0, 5120] P slices_S16384x6144_S16384x1024_0_5120)

/-- The five results, from a projection's columns. -/
def out0 (P : FVec Idealize.ShloMosaic.Ideal S16384x6144 .f32) : FVec Idealize.ShloMosaic.Ideal S16384x4096 .bf16 :=
  truncf .bf16 (fn_main_v26 (F := Idealize.ShloMosaic.Ideal) (extractStridedSlice S16384x1024 ![0, 1024] P slices_S16384x6144_S16384x1024_0_1024) (dil P)) bitsLt_bf16_f32

def out1 (P : FVec Idealize.ShloMosaic.Ideal S16384x6144 .f32) : FVec Idealize.ShloMosaic.Ideal S1024x16384 .bf16 :=
  truncf .bf16 (transpose S1024x16384 [1, 0]
    (mulf (extractStridedSlice S16384x1024 ![0, 0] P slices_S16384x6144_S16384x1024_0_0) scale)
    transposes_S16384x1024_S1024x16384_1_0) bitsLt_bf16_f32

def out2 (P : FVec Idealize.ShloMosaic.Ideal S16384x6144 .f32) : FVec Idealize.ShloMosaic.Ideal S1024x16384 .bf16 :=
  truncf .bf16 (transpose S1024x16384 [1, 0] (extractStridedSlice S16384x1024 ![0, 2048] P slices_S16384x6144_S16384x1024_0_2048)
    transposes_S16384x1024_S1024x16384_1_0) bitsLt_bf16_f32

def out3 (P : FVec Idealize.ShloMosaic.Ideal S16384x6144 .f32) : FVec Idealize.ShloMosaic.Ideal S4x4096x3072 .bf16 :=
  truncf .bf16 (transpose S4x4096x3072 [1, 0, 2] (shapeCast _ (dil P) shapeCasts_S16384x3072_S4096x4x3072)
    transposes_S4096x4x3072_S4x4096x3072_1_0_2) bitsLt_bf16_f32

def out4 (P : FVec Idealize.ShloMosaic.Ideal S16384x6144 .f32) : FVec Idealize.ShloMosaic.Ideal S16x1024x3072 .bf16 :=
  truncf .bf16 (transpose S16x1024x3072 [1, 0, 2] (shapeCast _ (dil P) shapeCasts_S16384x3072_S1024x16x3072)
    transposes_S1024x16x3072_S16x1024x3072_1_0_2) bitsLt_bf16_f32

/-- The projection of the arguments. -/
abbrev fullOf (m : (ℓ : Loc nD τ sig) → Buf (Elt Idealize.ShloMosaic.Ideal) ℓ) (c : Dev nD) : FVec Idealize.ShloMosaic.Ideal S16384x6144 .f32 :=
  full (m ((c.tc : Thread nD τ).loc main_arg0)) (m ((c.tc : Thread nD τ).loc main_arg1)) (m ((c.tc : Thread nD τ).loc main_arg2))

/-- Every run of the reference ends with its five results, the arguments unchanged. -/
theorem run (m : (ℓ : Loc nD τ sig) → Buf (Elt Idealize.ShloMosaic.Ideal) ℓ) (ρ : Dev nD → PrngReg) :
    θ_run defs (onTc (τ := τ) (main (F := Idealize.ShloMosaic.Ideal))) ⟨m, fun _ => 0, ρ⟩ fun r => ∀ c : Dev nD,
      r.2.mem ((c.tc : Thread nD τ).loc main_v35) = out0 (fullOf m c)
      ∧ r.2.mem ((c.tc : Thread nD τ).loc main_v36) = out1 (fullOf m c)
      ∧ r.2.mem ((c.tc : Thread nD τ).loc main_v37) = out2 (fullOf m c)
      ∧ r.2.mem ((c.tc : Thread nD τ).loc main_v38) = out3 (fullOf m c)
      ∧ r.2.mem ((c.tc : Thread nD τ).loc main_v39) = out4 (fullOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

/-- A column's scale. -/
def scl (j : ℕ) : EReal := FloatOps.ofBits (F := Idealize.ShloMosaic.Ideal) .f32
  (if j < 1024 ∨ 3072 ≤ j ∧ j < 4096 then 0x3E0293EE#32 else 0x3F800000#32)

theorem scl_on (j : ℕ) (h : j < 1024 ∨ 3072 ≤ j ∧ j < 4096) : scl j = Ideal.ofBits .f32 1040356334#32 := by
  rw [scl, if_pos h]; rfl

theorem scl_off (j : ℕ) (h : ¬(j < 1024 ∨ 3072 ≤ j ∧ j < 4096)) : scl j = 1 := by
  rw [scl, if_neg h]; exact Ideal.ofBits_one_f32

variable (P : FVec Idealize.ShloMosaic.Ideal S16384x6144 .f32)

/-- A projection's entry, scaled. -/
def ent (n j : ℕ) (hn : n < 16384) (hj : j < 6144) : EReal := (P (ix2 ⟨n, hn⟩ ⟨j, hj⟩) : EReal) * scl j

theorem dil_apply (n : Fin 16384) (j : Fin 3072) : (dil P (ix2 n j) : EReal) = ent P n.val (3072 + j.val) n.isLt (by omega) := by
  pointwise [dil, fn_main_v25, scale]
  rw [ent]
  split
  · rw [scl_on _ (by omega)]
  · rw [scl_off _ (by omega), mul_one]
    split
    · simp only [show 4096 + (j.val - 1024) = 3072 + j.val by omega]
    · simp only [show 5120 + (j.val - 1024 - 1024) = 3072 + j.val by omega]

theorem out0_apply (n : Fin 16384) (j : Fin 4096) :
    (out0 P (ix2 n j) : EReal) = ent P n.val (if j.val < 1024 then 1024 + j.val else 2048 + j.val) n.isLt (by split <;> omega) := by
  pointwise [out0, fn_main_v26]
  split
  · rw [ent, scl_off _ (by omega), mul_one]
  · rw [dil_apply]
    simp only [show 3072 + (j.val - 1024) = 2048 + j.val by omega]

theorem out1_apply (n : Fin 16384) (j : Fin 1024) : (out1 P (ix2 j n) : EReal) = ent P n.val j.val n.isLt (by omega) := by
  pointwise [out1, scale]
  rw [ent, scl_on _ (by omega)]

theorem out2_apply (n : Fin 16384) (j : Fin 1024) : (out2 P (ix2 j n) : EReal) = ent P n.val (2048 + j.val) n.isLt (by omega) := by
  pointwise [out2]
  rw [ent, scl_off _ (by omega), mul_one]

theorem out3_apply (a : Fin 4) (n : Fin 4096) (j : Fin 3072) :
    (out3 P (ix3 a n j) : EReal) = ent P (n.val * 4 + a.val) (3072 + j.val) (by omega) (by omega) := by
  pointwise [out3]
  rw [dil_apply]

theorem out4_apply (a : Fin 16) (n : Fin 1024) (j : Fin 3072) :
    (out4 P (ix3 a n j) : EReal) = ent P (n.val * 16 + a.val) (3072 + j.val) (by omega) (by omega) := by
  pointwise [out4]
  rw [dil_apply]

theorem full_apply (x : FVec Idealize.ShloMosaic.Ideal S1x16384x2048 .f32) (g : FVec Idealize.ShloMosaic.Ideal S1x2048 .f32) (w : FVec Idealize.ShloMosaic.Ideal S1x2048x6144 .f32)
    (n : Fin 16384) (j : Fin 6144) : (full x g w (ix2 n j) : EReal) = ∑ k, (x (ix3 0 n k) : EReal) * Ideal.rsqrt (Ideal.div
      (∑ d, (x (ix3 0 n d) : EReal) * x (ix3 0 n d)) (Ideal.ofBits .f32 1157627904#32) + Ideal.ofBits .f32 897988541#32)
      * g (ix2 0 k) * w (ix3 0 k j) := by
  pointwise [full]

end Cert.Reference4Ideal.Val
end
-- ==== Proof.InProj.Value.lean ====
/- The input projection's five results, read at an index, are the reference's terms there. -/
module

public import proofs.«01_k».proof.Defs
public import proofs.«01_k».proof.Proof.InProj.Body
public import proofs.«01_k».proof.Proof.InProj.Table
public import proofs.«01_k».proof.Proof.InProj.Ref
public import Idealize.ShloMosaic.Lib.Pipeline.ValueKit
public import Idealize.ShloMosaic.Lib.Pointwise
public import Idealize.ShloMosaic.Lib.Tactic.CleanTypes

@[expose] public section

set_option maxRecDepth 16384

noncomputable section

namespace Cert.Kernel4Ideal.Val

open Cert.Kernel4Ideal Cert.Kernel4Ideal.Gen Idealize.ShloMosaic Idealize.ShloMosaic.TcCoe Idealize.SL.Sem
open Idealize.ShloMosaic.Pipeline (Dat)
open Cert.Reference4Ideal.Val (scl scl_on scl_off ent full full_apply out0 out1 out2 out3 out4 out0_apply out1_apply out2_apply out3_apply out4_apply fullOf)
open Cert.Kernel4Ideal.InProj (dats rowAt rowsOf accAt res4 res16 src4 src7 castOf)

/-- Where each window's block lies at a point. -/
theorem idx : ∀ t : Fin cfg0.N, win0_0.index t = ![t.val / 6, 0] ∧ win0_1.index t = ![0, 0]
    ∧ win0_2.index t = ![0, (t.val + 3) % 6] ∧ win0_3.index t = ![0, (t.val + 3) % 6]
    ∧ win0_4.index t = ![t.val / 6, if t.val % 6 < 3 then t.val % 6 + 1 else 0] ∧ win0_5.index t = ![0, t.val / 6]
    ∧ win0_6.index t = ![0, t.val / 6] ∧ win0_7.index t = ![0, t.val / 6, min (t.val % 6 - 1) 2]
    ∧ win0_8.index t = ![0, t.val / 6, min (t.val % 6 - 1) 2] := by decide +kernel

variable (m : (ℓ : Loc nD τ sig) → Buf (Elt Idealize.ShloMosaic.Ideal) ℓ) (c : Dev nD)

/-- An array's element, as an extended real. -/
abbrev rd {s : Shape} (v : s.Idx → EReal) (i : s.Idx) : EReal := v i

/-- The layer's input rows, the norm's gain and the projection's weights. -/
abbrev X (n : Fin 16384) (d : Fin 2048) : EReal := rd (s := S1x16384x2048) (m ((c : Thread nD τ).loc main_arg0)) (ix3 0 n d)
abbrev G (d : Fin 2048) : EReal := rd (s := S1x2048) (m ((c : Thread nD τ).loc main_arg1)) (ix2 0 d)
abbrev W (k : Fin 2048) (j : Fin 6144) : EReal := rd (s := S1x2048x6144) (m ((c : Thread nD τ).loc main_arg2)) (ix3 0 k j)

theorem x_eq (t : Fin cfg0.N) (a : Fin 512) (d : Fin 2048) (h : t.val / 6 * 512 + a.val < 16384) :
    iblk m c 0 t (ix2 a d) = X m c ⟨t.val / 6 * 512 + a.val, h⟩ d := by
  blk_ext! [iblk, V, idx t]

theorem g_eq (t : Fin cfg0.N) (d : Fin 2048) : iblk m c 1 t (ix2 0 d) = G m c d := by
  blk_ext! [iblk, V, idx t]

theorem w_eq (t : Fin cfg0.N) (k : Fin 2048) (q : Fin 1024) (h : (t.val + 3) % 6 * 1024 + q.val < 6144) :
    iblk m c 2 t (ix2 k q) = W m c k ⟨(t.val + 3) % 6 * 1024 + q.val, h⟩ := by
  blk_ext! [iblk, V, idx t]

/-- The columns' scales as the host lays them out. -/
theorem v0_eq : V m c main_v0 = shapeCast S1x6144 (fun i => FloatOps.ofBits (F := Idealize.ShloMosaic.Ideal) .f32 (lit0 (S6144.rowMajor i)))
    shapeCasts_S6144_S1x6144 := by
  unfold V
  unfold hostOps0
  generalize (fun i : S6144.Idx => FloatOps.ofBits (F := Idealize.ShloMosaic.Ideal) .f32 (lit0 (S6144.rowMajor i))) = f
  after_results_simp
  rfl

theorem v0_apply (j : Fin 6144) : rd (s := S1x6144) (V m c main_v0) (ix2 0 j) = scl j.val := by
  rw [v0_eq, scl, ← table j]
  generalize lit0 = f
  pointwise
  exact congrArg (fun i => Ideal.ofBits .f32 (f i)) (Fin.ext (Shape.rowMajor_val_one _))

theorem cs_eq (t : Fin cfg0.N) (q : Fin 1024) (h : (t.val + 3) % 6 * 1024 + q.val < 6144) :
    rd (s := S1x1024) (iblk m c 3 t) (ix2 0 q) = scl ((t.val + 3) % 6 * 1024 + q.val) := by
  refine Eq.trans ?_ (v0_apply m c ⟨(t.val + 3) % 6 * 1024 + q.val, h⟩)
  unfold iblk rd
  generalize V m c main_v0 = A
  show ((cfg0.win 3).blk t).view.read _ A _ = _
  blk_ext! [idx t]

/-- A row's normalisation. -/
def nrm (n : Fin 16384) (d : Fin 2048) : EReal :=
  X m c n d * Ideal.rsqrt (Ideal.div (∑ x, X m c n x * X m c n x) (Ideal.ofBits .f32 1157627904#32) + Ideal.ofBits .f32 897988541#32) * G m c d

/-- The projection of the arguments. -/
abbrev proj : FVec Idealize.ShloMosaic.Ideal Cert.Reference4Ideal.S16384x6144 .f32 := full (m ((c : Thread nD τ).loc main_arg0))
  (m ((c : Thread nD τ).loc main_arg1)) (m ((c : Thread nD τ).loc main_arg2))

theorem rows_eq (t : Fin cfg0.N) (a : Fin 512) (d : Fin 2048) (h : t.val / 6 * 512 + a.val < 16384) :
    rd (s := S512x2048) (rowsOf m c t) (ix2 a d) = nrm m c ⟨t.val / 6 * 512 + a.val, h⟩ d := by
  have e : (rowAt t 0).val / 6 = t.val / 6 := by show (6 * (t.val / 6) + 0) / 6 = _; omega
  have hx : ∀ d, iblk m c 0 (rowAt t 0) (ix2 a d) = X m c ⟨t.val / 6 * 512 + a.val, h⟩ d := fun d => by
    rw [x_eq m c (rowAt t 0) a d (by rw [e]; exact h)]
    simp only [e]
  pointwise [rowsOf, Gen.k0_pay1]
  rw [nrm]
  simp only [hx, g_eq]

/-- A point's scaled product is the projection's block, its columns scaled. -/
theorem acc_eq (t : Fin cfg0.N) (a : Fin 512) (q : Fin 1024) (n j : ℕ) (hn : n < 16384) (hj : j < 6144)
    (en : n = t.val / 6 * 512 + a.val) (ej : j = (t.val + 3) % 6 * 1024 + q.val) :
    rd (s := S512x1024) (accAt m c t) (ix2 a q) = ent (proj m c) n j hn hj := by
  subst en ej
  rw [ent, proj, full_apply, ← cs_eq m c t q hj]
  pointwise [accAt, Gen.k0_pay18]
  refine congrArg (· * _) (Finset.sum_congr rfl fun k _ => ?_)
  exact congrArg₂ (· * ·) (rows_eq m c t a k hn) (w_eq m c t k q hj)

theorem own_ix2 {a b : ℕ} (i : Fin a) (j : Fin b) : InProj.ix2 i j = ix2 i j := by
  funext d
  match d with
  | 0 => rfl
  | 1 => rfl

theorem row_div (t : Fin cfg0.N) (k : Fin 6) : (rowAt t k).val / 6 = t.val / 6 := by
  have := k.isLt
  show (6 * (t.val / 6) + k.val) / 6 = _
  omega

theorem row_grp (t : Fin cfg0.N) (k : Fin 6) : ((rowAt t k).val + 3) % 6 = (k.val + 3) % 6 := by
  show (6 * (t.val / 6) + k.val + 3) % 6 = _
  omega

theorem grp4 : ∀ s : Fin 6, ((src4 s.val).val + 3) % 6 = if s.val < 3 then 3 + s.val else 1 := by decide

theorem grp7 : ∀ s : Fin 6, ((src7 s.val).val + 3) % 6 = 3 + min (s.val - 1) 2 := by decide

/-- The first result is the reference's. -/
theorem fin0 : (dats m 0 c).arrAt 4 cfg0.N = out0 (proj m c) := by
  refine (dats m 0 c).arrAt_eq_of_covers 4 _ (by decide +kernel) fun t hf y => ?_
  have ht : t.val < 192 := lt_of_lt_of_eq t.isLt N_0
  blk_simp
  rw [InProj.after4]
  clean_types
  idx_vars y
  have hs : t.val % 6 < 6 := Nat.mod_lt _ (by omega)
  have he : ((View.whole main_v4_0).slice (win0_4.rect t)).emb (ix2 y0 y1)
      = ix2 (⟨t.val / 6 * 512 + y0.val, by omega⟩ : Fin 16384)
        (⟨(if t.val % 6 < 3 then t.val % 6 + 1 else 0) * 1024 + y1.val, by split <;> omega⟩ : Fin 4096) := by
    blk_ext [idx t]
  rw [he]
  refine Eq.trans ?_ (out0_apply _ _ _).symm
  refine acc_eq m c _ y0 y1 _ _ _ _ ?_ ?_
  · rw [row_div]
  · rw [row_grp]
    rw [grp4 ⟨t.val % 6, hs⟩]
    show (if (if t.val % 6 < 3 then t.val % 6 + 1 else 0) * 1024 + y1.val < 1024 then
      1024 + ((if t.val % 6 < 3 then t.val % 6 + 1 else 0) * 1024 + y1.val)
      else 2048 + ((if t.val % 6 < 3 then t.val % 6 + 1 else 0) * 1024 + y1.val))
      = (if t.val % 6 < 3 then 3 + t.val % 6 else 1) * 1024 + y1.val
    have h1 : y1.val < 1024 := y1.isLt
    split <;> split <;> omega

/-- The second. -/
theorem fin1 : (dats m 0 c).arrAt 5 cfg0.N = out1 (proj m c) := by
  refine (dats m 0 c).arrAt_eq_of_covers 5 _ (by decide +kernel) fun t hf y => ?_
  have ht : t.val < 192 := lt_of_lt_of_eq t.isLt N_0
  blk_simp
  rw [InProj.after5]
  clean_types
  idx_vars y
  have he : ((View.whole main_v4_1).slice (win0_5.rect t)).emb (ix2 y0 y1)
      = ix2 y0 (⟨t.val / 6 * 512 + y1.val, by omega⟩ : Fin 16384) := by
    blk_ext [idx t]
  rw [he]
  refine Eq.trans ?_ (out1_apply _ _ _).symm
  pointwise [Gen.k0_pay15]
  refine acc_eq m c _ y1 y0 _ _ _ _ ?_ ?_
  · rw [row_div]
  · rw [row_grp]
    show y0.val = 0 * 1024 + y0.val
    omega

/-- The third. -/
theorem fin2 : (dats m 0 c).arrAt 6 cfg0.N = out2 (proj m c) := by
  refine (dats m 0 c).arrAt_eq_of_covers 6 _ (by decide +kernel) fun t hf y => ?_
  have ht : t.val < 192 := lt_of_lt_of_eq t.isLt N_0
  blk_simp
  rw [InProj.after6]
  clean_types
  idx_vars y
  have he : ((View.whole main_v4_2).slice (win0_6.rect t)).emb (ix2 y0 y1)
      = ix2 y0 (⟨t.val / 6 * 512 + y1.val, by omega⟩ : Fin 16384) := by
    blk_ext [idx t]
  rw [he]
  refine Eq.trans ?_ (out2_apply _ _ _).symm
  pointwise [Gen.k0_pay15]
  refine acc_eq m c _ y1 y0 _ _ _ _ ?_ ?_
  · rw [row_div]
  · rw [row_grp]
    show 2048 + y0.val = 2 * 1024 + y0.val
    omega

/-- The fourth. -/
theorem fin3 : (dats m 0 c).arrAt 7 cfg0.N = out3 (proj m c) := by
  refine (dats m 0 c).arrAt_eq_of_covers 7 _ (by decide +kernel) fun t hf y => ?_
  have ht : t.val < 192 := lt_of_lt_of_eq t.isLt N_0
  blk_simp
  rw [InProj.after7]
  clean_types
  idx_vars y
  have he : ((View.whole main_v4_3).slice (win0_7.rect t)).emb (ix3 y0 y1 y2)
      = ix3 y0 (⟨t.val / 6 * 128 + y1.val, by omega⟩ : Fin 4096) (⟨min (t.val % 6 - 1) 2 * 1024 + y2.val, by omega⟩ : Fin 3072) := by
    blk_ext [idx t]
  rw [he]
  refine Eq.trans ?_ (out3_apply _ _ _ _).symm
  rw [res4, own_ix2]
  refine acc_eq m c _ _ _ _ _ _ _ ?_ ?_
  · rw [row_div]
    show (t.val / 6 * 128 + y1.val) * 4 + y0.val = t.val / 6 * 512 + (y0.val + 4 * y1.val)
    omega
  · rw [row_grp]
    rw [grp7 ⟨t.val % 6, Nat.mod_lt _ (by omega)⟩]
    show 3072 + (min (t.val % 6 - 1) 2 * 1024 + y2.val) = (3 + min (t.val % 6 - 1) 2) * 1024 + y2.val
    omega

/-- The fifth. -/
theorem fin4 : (dats m 0 c).arrAt 8 cfg0.N = out4 (proj m c) := by
  refine (dats m 0 c).arrAt_eq_of_covers 8 _ (by decide +kernel) fun t hf y => ?_
  have ht : t.val < 192 := lt_of_lt_of_eq t.isLt N_0
  blk_simp
  rw [InProj.after8]
  clean_types
  idx_vars y
  have he : ((View.whole main_v4_4).slice (win0_8.rect t)).emb (ix3 y0 y1 y2)
      = ix3 y0 (⟨t.val / 6 * 32 + y1.val, by omega⟩ : Fin 1024) (⟨min (t.val % 6 - 1) 2 * 1024 + y2.val, by omega⟩ : Fin 3072) := by
    blk_ext [idx t]
  rw [he]
  refine Eq.trans ?_ (out4_apply _ _ _ _).symm
  rw [res16, own_ix2]
  refine acc_eq m c _ _ _ _ _ _ _ ?_ ?_
  · rw [row_div]
    show (t.val / 6 * 32 + y1.val) * 16 + y0.val = t.val / 6 * 512 + (y0.val + 16 * y1.val)
    omega
  · rw [row_grp]
    rw [grp7 ⟨t.val % 6, Nat.mod_lt _ (by omega)⟩]
    show 3072 + (min (t.val % 6 - 1) 2 * 1024 + y2.val) = (3 + min (t.val % 6 - 1) 2) * 1024 + y2.val
    omega

/-- All five results of the input projection are the reference's. -/
theorem algebraic : Cert.algebraic_Kernel4Ideal_Reference4Ideal (hKernel4Ideal := Cert.Kernel4Ideal.Gen.facts)
    (hReference4Ideal := Cert.Reference4Ideal.Gen.facts) := by
  intro m g m' g' _ hargs
  refine ⟨fun c => (dats m 0 c).arrAt 4 cfg0.N, fun c => (dats m 0 c).arrAt 5 cfg0.N, fun c => (dats m 0 c).arrAt 6 cfg0.N,
    fun c => (dats m 0 c).arrAt 7 cfg0.N, fun c => (dats m 0 c).arrAt 8 cfg0.N, ?_, ?_⟩
  · refine (θ_run defs _ _).mono (fun r h c => ⟨(h.1 c).1 4, (h.1 c).1 5, (h.1 c).1 6, (h.1 c).1 7, (h.1 c).1 8, h.2 c⟩)
      (θ_run_and (InProj.run_main m g) (frame_of m g (dats m) (InProj.A_eq m) (InProj.run_main m g)))
  · refine (θ_run Cert.Reference4Ideal.defs _ _).mono (fun r h c => ?_) (Cert.Reference4Ideal.Val.run m' g')
    obtain ⟨h0, h1, h2, h3, h4, hr⟩ := h c
    obtain ⟨a0, a1, a2⟩ := hargs c
    rw [fullOf, a0, a1, a2] at h0 h1 h2 h3 h4
    exact ⟨h0.trans (fin0 m c).symm, h1.trans (fin1 m c).symm, h2.trans (fin2 m c).symm, h3.trans (fin3 m c).symm,
      h4.trans (fin4 m c).symm, hr⟩

end Cert.Kernel4Ideal.Val
end
-- ==== Proof.Attn.Base.lean ====
/- The attention's body as a program over a state: the contents of its buffers, one function per buffer. -/
module

public import proofs.«01_k».proof.Defs
public import proofs.«01_k».proof.Proof.Gen.Kernel5Ideal.Frame
public import proofs.«01_k».proof.Proof.Gen.Kernel5Ideal.Skeleton
public import Idealize.ShloMosaic.Lib.Pipeline.ValueKit

@[expose] public section

set_option maxRecDepth 16384

noncomputable section

namespace Cert.Kernel5Ideal.Attn

open Cert.Kernel5Ideal Cert.Kernel5Ideal.Gen Idealize.ShloMosaic Idealize.ShloMosaic.TcCoe Idealize.SL.Sem
open Idealize.SL Idealize.SL.RA Idealize.SL.BI Idealize.SL.ProofMode
open Idealize.SL.BI.BIBase Idealize.SL.BI.Laws
open scoped Idealize.SL.BI

variable {F : FTy → Type} [FloatOps F]

local notation "𝕄" => MT nD τ sig Unit (Elt F) ℕ (UR sig nD τ) ℕ

/-- The body's buffers: inputs, outputs, scratch. -/
inductive Nm
  | tab | q1 | k1 | k2 | vt | gain | q2 | lam | w1 | w2 | w3
  | out | c1 | c2 | c3
  | bias | mx | den | acc | prob | shift | kn | prev
deriving DecidableEq

instance : Fintype Nm where
  elems := {.tab, .q1, .k1, .k2, .vt, .gain, .q2, .lam, .w1, .w2, .w3, .out, .c1, .c2, .c3, .bias, .mx, .den, .acc, .prob, .shift,
    .kn, .prev}
  complete n := by cases n <;> decide

/-- Where a buffer lies. -/
abbrev Nm.sp : Nm → CoreSpace
  | .tab | .lam | .prev => .smem
  | _ => .vmem

/-- A buffer's shape. -/
abbrev Nm.sh : Nm → Shape
  | .tab => S32x12 | .q1 => S128x1024 | .k1 => S16384x128 | .k2 => S16384x128 | .vt => S256x16384 | .gain => S256x1
  | .q2 => S128x1024 | .lam => S1x1 | .w1 => S32x2048 | .w2 => S32x11264 | .w3 => S176x2048
  | .out => S1024x256 | .c1 => S32x2048 | .c2 => S32x11264 | .c3 => S176x2048
  | .bias => S3x1024x1024 | .mx => S2x1x1024 | .den => S2x1x1024 | .acc => S2x256x1024 | .prob => S8x1024x256
  | .shift => S2x1x1024 | .kn => S2x1x1 | .prev => S1

/-- A buffer's elements. -/
abbrev Nm.el : Nm → EltTy
  | .prev => .i32
  | .q1 | .k1 | .k2 | .vt | .q2 | .out | .c1 | .c2 | .c3 | .prob => .bf16
  | _ => .f32

/-- The memrefs a point is called with. -/
abbrev Refs := (n : Nm) → Memref sig .tc n.sp n.sh n.el

/-- What the buffers hold. -/
abbrev St (F : FTy → Type) := (n : Nm) → n.sh.Idx → Elt F n.el

/-- A core owns the buffers at a state. -/
def Own (c : Dev nD) (R : Refs) (σ : St F) : sProp 𝕄 :=
  bigSep Finset.univ fun n : Nm => owns (c : Thread nD τ) (R n) fullShare (σ n)

/-- A family of buffers split at one. -/
theorem split_at (Φ : Nm → sProp 𝕄) (n : Nm) : bigSep Finset.univ Φ = iprop(Φ n ∗ bigSep (Finset.univ.erase n) Φ) :=
  bigSep_erase (Finset.mem_univ n)

/-- One buffer taken out, and put back at other contents. -/
theorem own_open (c : Dev nD) (R : Refs) (σ : St F) (n : Nm) :
    Own c R σ ⊢ iprop(owns (c : Thread nD τ) (R n) fullShare (σ n)
      ∗ (∀ X, owns (c : Thread nD τ) (R n) fullShare X -∗ Own c R (Function.update σ n X))) := by
  unfold Own
  rw [split_at (fun n : Nm => owns (c : Thread nD τ) (R n) fullShare (σ n)) n]
  iintro ⟨H, HR⟩
  isplitl [H]; · iexact H
  iintro %X H
  rw [split_at (fun m : Nm => owns (c : Thread nD τ) (R m) fullShare (Function.update σ n X m)) n]
  rw [Function.update_self]
  isplitl [H]; · iexact H
  rw [bigSep_congr (s := Finset.univ.erase n) (Φ := fun m : Nm => owns (c : Thread nD τ) (R m) fullShare (Function.update σ n X m))
    (Ψ := fun m : Nm => owns (c : Thread nD τ) (R m) fullShare (σ m)) fun m hm => by
      rw [Function.update_of_ne (Finset.ne_of_mem_erase hm)]]
  iexact HR

/-- A buffer's contents with a rectangle replaced. -/
def put {s : Shape} {A : Type} (r : Rect s) (w : r.shape.Idx → A) (X : s.Idx → A) : s.Idx → A :=
  fun y => if h : ∃ x, r.emb x = y then w h.choose else X y

theorem put_emb {s : Shape} {A : Type} (r : Rect s) (w : r.shape.Idx → A) (X : s.Idx → A) (x : r.shape.Idx) :
    put r w X (r.emb x) = w x := by
  have h : ∃ x', r.emb x' = r.emb x := ⟨x, rfl⟩
  rw [put, dif_pos h, r.emb.injective h.choose_spec]

theorem put_of_not {s : Shape} {A : Type} (r : Rect s) (w : r.shape.Idx → A) (X : s.Idx → A) (y : s.Idx)
    (h : ∀ x, r.emb x ≠ y) : put r w X y = X y := by
  rw [put, dif_neg fun ⟨x, hx⟩ => h x hx]

/-- The program ends from a state in a result and a state that meet a relation. -/
def Run (c : Dev nD) (R : Refs) (σ : St F) {α : Type} (e : Prog (TpuEff nD τ sig (Elt F) Λ₀ .tc) α) (Q : α → St F → Prop) : Prop :=
  Own c R σ ⊢ wp frame (wpE (defs₀ (F := F)) Variants.none (c : Thread nD τ) none) Set.univ e
    (fun r => iprop(∃ σ' : St F, ⌜Q r σ'⌝ ∗ Own c R σ'))

variable {c : Dev nD} {R : Refs} {σ : St F} {α : Type} {Q : α → St F → Prop}

theorem run_ret {a : α} (h : Q a σ) : Run c R σ (.ret a) Q := by
  unfold Run
  rw [wp_ret]
  iintro H
  imodintro
  iexists σ
  isplitr; · ipureintro; exact h
  iexact H

theorem run_bind {β : Type} {p : Prog (TpuEff nD τ sig (Elt F) Λ₀ .tc) β} {k : β → Prog (TpuEff nD τ sig (Elt F) Λ₀ .tc) α}
    {Q' : β → St F → Prop} (h : Run c R σ p Q') (h' : ∀ a σ', Q' a σ' → Run c R σ' (k a) Q) : Run c R σ (p >>= k) Q := by
  unfold Run at *
  rw [wp_bind]
  refine h.trans (wp_mono _ _ _ fun a => ?_)
  iintro ⟨%σ', %hq, H⟩
  iapply (h' a σ' hq)
  iexact H

theorem run_mono {p : Prog (TpuEff nD τ sig (Elt F) Λ₀ .tc) α} {Q' : α → St F → Prop} (h : Run c R σ p Q')
    (h' : ∀ a σ', Q' a σ' → Q a σ') : Run c R σ p Q := by
  unfold Run at *
  refine h.trans (wp_mono _ _ _ fun a => ?_)
  iintro ⟨%σ', %hq, H⟩
  iexists σ'
  isplitr; · ipureintro; exact h' a σ' hq
  iexact H

theorem run_load (n : Nm) {r : LoadRect n.sh} {hl : (R n).view.LoadsAt r}
    {k : (r.shape.Idx → Elt F n.el) → Prog (TpuEff nD τ sig (Elt F) Λ₀ .tc) α}
    (h : Run c R σ (k fun x => σ n (r.idx x)) Q) : Run c R σ (.op (.load (R n) r hl) k) Q := by
  unfold Run at *
  iintro H
  ihave H := (own_open c R σ n) $$ H
  icases H with ⟨H, HR⟩
  unfold owns
  icases H with ⟨%f, %hf, H⟩
  iapply (wp_load Variants.none (c : Thread nD τ) none Set.univ (S := (R n).view.set) (View.setOn_subset_set _ _)) $$ H
  iintro H
  rw [show (R n).view.readAt (Elt F) r f = fun x => σ n (r.idx x) from by rw [← hf]; rfl]
  iapply h
  rw [show Own c R σ = Own c R (Function.update σ n (σ n)) from by rw [Function.update_eq_self]]
  iapply HR
  iexists f
  isplitr; · ipureintro; exact hf
  iexact H

theorem access_subset {sp : Space} {s : Shape} {e : EltTy} (m : Memref sig .tc sp s e) (r : Rect s) :
    (m.access r).setOn Finset.univ ⊆ m.view.set := by
  exact Memref.setOn_access_subset m r Finset.univ

theorem run_store (n : Nm) {r : Rect n.sh} {w : r.shape.Idx → Elt F n.el} {hx : ((R n).access r).Stores Finset.univ}
    {hm : Finset.univ = Finset.univ ∨ ∀ a, r.stride a = 1} {k : PUnit → Prog (TpuEff nD τ sig (Elt F) Λ₀ .tc) α}
    (h : Run c R (Function.update σ n (put r w (σ n))) (k ⟨⟩) Q) : Run c R σ (.op (.store (R n) r w Finset.univ hx hm) k) Q := by
  unfold Run at *
  iintro H
  ihave H := (own_open c R σ n) $$ H
  icases H with ⟨H, HR⟩
  unfold owns
  icases H with ⟨%f, %hf, H⟩
  iapply (wp_store (m := R n) (r := r) (w := w) (hx := hx) (hm := hm) (k := k) (f := f) Variants.none (c : Thread nD τ) none Set.univ
    (S := (R n).view.set) (access_subset (R n) r)) $$ H
  iintro H
  iapply h
  iapply HR
  iexists ((R n).access r).write (Elt F) f w Finset.univ
  isplitr
  · ipureintro
    funext y
    by_cases hy : ∃ x, r.emb x = y
    · obtain ⟨x, rfl⟩ := hy
      rw [put_emb]
      exact View.read_slice_write_emb r f w (Finset.mem_univ x)
    · rw [put_of_not r w _ y fun x hx => hy ⟨x, hx⟩, ← hf]
      refine View.read_slice_write_of_not_mem r f w _ fun hm => hy ?_
      obtain ⟨x, -, hx⟩ := Finset.mem_map.mp hm
      exact ⟨x, hx⟩
  iexact H

theorem run_assume {P : Prop} {d : Decidable P} {k : PLift P → Prog (TpuEff nD τ sig (Elt F) Λ₀ .tc) α} (hp : P)
    (h : Run c R σ (k ⟨hp⟩) Q) : Run c R σ (.op (.assume P d) k) Q := by
  unfold Run at *
  exact h.trans (wp_assume Variants.none (c : Thread nD τ) none Set.univ hp)

/-- A counted loop, by a family of relations on the carried value and the state. -/
theorem run_for {w : ℕ} {β : Type} {lb ub st : BitVec w} {hok : Scf.OK lb ub st} {init : β}
    {body : Fin (Scf.trips lb ub st) → β → Prog (TpuEff nD τ sig (Elt F) Λ₀ .tc) β} {k : β → Prog (TpuEff nD τ sig (Elt F) Λ₀ .tc) α}
    (I : ℕ → β → St F → Prop) (h0 : I 0 init σ)
    (hb : ∀ (t : Fin (Scf.trips lb ub st)) a σ', I t.val a σ' → Run c R σ' (body t a) (I (t.val + 1)))
    (hk : ∀ a σ', I (Scf.trips lb ub st) a σ' → Run c R σ' (k a) Q) : Run c R σ (Scf.for lb ub st hok init body >>= k) Q := by
  refine run_bind (Q' := I (Scf.trips lb ub st)) ?_ hk
  unfold Run
  iintro H
  iapply (Scf.wp_for _ _ _ lb ub st hok init body (fun t a => iprop(∃ σ' : St F, ⌜I t a σ'⌝ ∗ Own c R σ')) fun t a => by
    iintro ⟨%σ', %hi, H⟩
    have hb' := hb t a σ' hi
    unfold Run at hb'
    iapply hb'
    iexact H)
  isplitl [H]
  · iexists σ
    isplitr; · ipureintro; exact h0
    iexact H
  iintro %a H
  iexact H

/-- A part of the body over the buffers. -/
abbrev over {β : Sort*} (R : Refs) (W : ∀ n, (R n).IsWhole) (f :
    (a0 : Memref sig .tc (Nm.sp .tab) (Nm.sh .tab) (Nm.el .tab)) → a0.IsWhole → (a1 : Memref sig .tc (Nm.sp .q1) (Nm.sh .q1) (Nm.el .q1)) → a1.IsWhole →
    (a2 : Memref sig .tc (Nm.sp .k1) (Nm.sh .k1) (Nm.el .k1)) → a2.IsWhole → (a3 : Memref sig .tc (Nm.sp .k2) (Nm.sh .k2) (Nm.el .k2)) → a3.IsWhole →
    (a4 : Memref sig .tc (Nm.sp .vt) (Nm.sh .vt) (Nm.el .vt)) → a4.IsWhole → (a5 : Memref sig .tc (Nm.sp .gain) (Nm.sh .gain) (Nm.el .gain)) → a5.IsWhole →
    (a6 : Memref sig .tc (Nm.sp .q2) (Nm.sh .q2) (Nm.el .q2)) → a6.IsWhole → (a7 : Memref sig .tc (Nm.sp .lam) (Nm.sh .lam) (Nm.el .lam)) → a7.IsWhole →
    (a8 : Memref sig .tc (Nm.sp .w1) (Nm.sh .w1) (Nm.el .w1)) → a8.IsWhole → (a9 : Memref sig .tc (Nm.sp .w2) (Nm.sh .w2) (Nm.el .w2)) → a9.IsWhole →
    (a10 : Memref sig .tc (Nm.sp .w3) (Nm.sh .w3) (Nm.el .w3)) → a10.IsWhole → (a11 : Memref sig .tc (Nm.sp .out) (Nm.sh .out) (Nm.el .out)) → a11.IsWhole →
    (a12 : Memref sig .tc (Nm.sp .c1) (Nm.sh .c1) (Nm.el .c1)) → a12.IsWhole → (a13 : Memref sig .tc (Nm.sp .c2) (Nm.sh .c2) (Nm.el .c2)) → a13.IsWhole →
    (a14 : Memref sig .tc (Nm.sp .c3) (Nm.sh .c3) (Nm.el .c3)) → a14.IsWhole → (a15 : Memref sig .tc (Nm.sp .bias) (Nm.sh .bias) (Nm.el .bias)) → a15.IsWhole →
    (a16 : Memref sig .tc (Nm.sp .mx) (Nm.sh .mx) (Nm.el .mx)) → a16.IsWhole → (a17 : Memref sig .tc (Nm.sp .den) (Nm.sh .den) (Nm.el .den)) → a17.IsWhole →
    (a18 : Memref sig .tc (Nm.sp .acc) (Nm.sh .acc) (Nm.el .acc)) → a18.IsWhole → (a19 : Memref sig .tc (Nm.sp .prob) (Nm.sh .prob) (Nm.el .prob)) → a19.IsWhole →
    (a20 : Memref sig .tc (Nm.sp .shift) (Nm.sh .shift) (Nm.el .shift)) → a20.IsWhole → (a21 : Memref sig .tc (Nm.sp .kn) (Nm.sh .kn) (Nm.el .kn)) → a21.IsWhole →
    (a22 : Memref sig .tc (Nm.sp .prev) (Nm.sh .prev) (Nm.el .prev)) → a22.IsWhole → β) : β :=
  f (R .tab) (W .tab) (R .q1) (W .q1) (R .k1) (W .k1) (R .k2) (W .k2) (R .vt) (W .vt) (R .gain) (W .gain) (R .q2) (W .q2) (R .lam) (W
    .lam) (R .w1) (W .w1) (R .w2) (W .w2) (R .w3) (W .w3) (R .out) (W .out) (R .c1) (W .c1) (R .c2) (W .c2) (R .c3) (W .c3) (R .bias)
    (W .bias) (R .mx) (W .mx) (R .den) (W .den) (R .acc) (W .acc) (R .prob) (W .prob) (R .shift) (W .shift) (R .kn) (W .kn) (R .prev)
    (W .prev)

/-- A number of a tile. -/
abbrev Tile (w : BitVec 32) : Prop := w.toNat < 16

/-- What the body may change: the outputs and the scratch, but the number of the previous tile only to a tile's. -/
abbrev Nm.free : Nm → Bool
  | .out | .c1 | .c2 | .c3 | .bias | .mx | .den | .acc | .prob | .shift | .kn => true
  | _ => false

/-- A state the body may reach from another: its inputs as they were, the previous tile's number a tile's once one is
written. -/
structure Ok (T : Prop) (σ₀ σ : St F) : Prop where
  prev : T → ∀ x, Tile (σ .prev x)
  keep : ∀ n, n.free = false → n ≠ .prev → σ n = σ₀ n

/-- The program reaches such a state from any such, and its result meets a predicate. -/
def Safe (c : Dev nD) (R : Refs) (σ₀ : St F) (T T' : Prop) {α : Type} (e : Prog (TpuEff nD τ sig (Elt F) Λ₀ .tc) α) (Q : α → Prop) : Prop :=
  ∀ σ, Ok T σ₀ σ → Run c R σ e fun a σ' => Q a ∧ Ok T' σ₀ σ'

namespace Safe

variable {σ₀ : St F} {Q : α → Prop} {T T' T'' : Prop}

theorem ret {a : α} (h : Q a) : Safe c R σ₀ T T (.ret a) Q := fun _ hσ => run_ret ⟨h, hσ⟩

theorem bind {β : Type} {p : Prog (TpuEff nD τ sig (Elt F) Λ₀ .tc) β} {k : β → Prog (TpuEff nD τ sig (Elt F) Λ₀ .tc) α}
    {Q' : β → Prop} (h : Safe c R σ₀ T T'' p Q') (h' : ∀ a, Q' a → Safe c R σ₀ T'' T' (k a) Q) : Safe c R σ₀ T T' (p >>= k) Q :=
  fun σ hσ => run_bind (h σ hσ) fun a σ' hq => h' a hq.1 σ' hq.2

theorem load {n : Nm} {r : LoadRect n.sh} {hl : (R n).view.LoadsAt r}
    {k : (r.shape.Idx → Elt F n.el) → Prog (TpuEff nD τ sig (Elt F) Λ₀ .tc) α}
    (h : ∀ X, Safe c R σ₀ T T' (k X) Q) : Safe c R σ₀ T T' (.op (.load (R n) r hl) k) Q :=
  fun σ hσ => run_load n (h _ σ hσ)

theorem load_prev {r : LoadRect (Nm.sh .prev)} {hl : (R .prev).view.LoadsAt r}
    {k : (r.shape.Idx → Elt F (Nm.el .prev)) → Prog (TpuEff nD τ sig (Elt F) Λ₀ .tc) α}
    (h : ∀ X : r.shape.Idx → BitVec 32, (∀ x, Tile (X x)) → Safe c R σ₀ True T' (k X) Q) :
    Safe c R σ₀ True T' (.op (.load (R .prev) r hl) k) Q :=
  fun σ hσ => run_load .prev (h _ (fun _ => hσ.prev trivial _) σ hσ)

theorem store {n : Nm} (hn : n.free = true) {r : Rect n.sh} {w : r.shape.Idx → Elt F n.el}
    {hx : ((R n).access r).Stores Finset.univ} {hm : Finset.univ = Finset.univ ∨ ∀ a, r.stride a = 1}
    {k : PUnit → Prog (TpuEff nD τ sig (Elt F) Λ₀ .tc) α} (h : Safe c R σ₀ T T' (k ⟨⟩) Q) :
    Safe c R σ₀ T T' (.op (.store (R n) r w Finset.univ hx hm) k) Q := fun σ hσ => run_store n (h _ {
  prev := by
    have e : Nm.prev ≠ n := by rintro rfl; cases hn
    rw [Function.update_of_ne e]; exact hσ.prev
  keep := fun m hf hp => by
    have e : m ≠ n := by rintro rfl; exact Bool.noConfusion (hn.symm.trans hf)
    rw [Function.update_of_ne e]; exact hσ.keep m hf hp })

theorem store_prev {r : Rect (Nm.sh .prev)} {w : r.shape.Idx → BitVec 32} {hx : ((R .prev).access r).Stores Finset.univ}
    {hm : Finset.univ = Finset.univ ∨ ∀ a, r.stride a = 1} {k : PUnit → Prog (TpuEff nD τ sig (Elt F) Λ₀ .tc) α}
    (hw : ∀ x, Tile (w x)) (h : Safe c R σ₀ T T' (k ⟨⟩) Q) :
    Safe c R σ₀ T T' (.op (.store (R .prev) r w Finset.univ hx hm) k) Q := fun σ hσ => run_store .prev (h _ {
  prev := fun hT x => by
    rw [Function.update_self]; unfold put
    split
    · exact hw _
    · exact hσ.prev hT x
  keep := fun m hf hp => by rw [Function.update_of_ne hp]; exact hσ.keep m hf hp })

theorem store_first {r : Rect (Nm.sh .prev)} {w : r.shape.Idx → BitVec 32} {hx : ((R .prev).access r).Stores Finset.univ}
    {hm : Finset.univ = Finset.univ ∨ ∀ a, r.stride a = 1} {k : PUnit → Prog (TpuEff nD τ sig (Elt F) Λ₀ .tc) α}
    (hr : ∀ y, ∃ x, r.emb x = y) (hw : ∀ x, Tile (w x)) (h : Safe c R σ₀ True T' (k ⟨⟩) Q) :
    Safe c R σ₀ T T' (.op (.store (R .prev) r w Finset.univ hx hm) k) Q := fun σ hσ => run_store .prev (h _ {
  prev := fun hT x => by
    rw [Function.update_self]; unfold put
    split
    · exact hw _
    · rename_i hx; exact absurd (hr x) hx
  keep := fun m hf hp => by rw [Function.update_of_ne hp]; exact hσ.keep m hf hp })

theorem assume {P : Prop} {d : Decidable P} {k : PLift P → Prog (TpuEff nD τ sig (Elt F) Λ₀ .tc) α} (hp : P)
    (h : Safe c R σ₀ T T' (k ⟨hp⟩) Q) : Safe c R σ₀ T T' (.op (.assume P d) k) Q := fun σ hσ => run_assume hp (h σ hσ)

/-- A branch. -/
theorem dite {P : Prop} {d : Decidable P} {e : P → Prog (TpuEff nD τ sig (Elt F) Λ₀ .tc) α}
    {e' : ¬P → Prog (TpuEff nD τ sig (Elt F) Λ₀ .tc) α} (h : ∀ p, Safe c R σ₀ T T' (e p) Q) (h' : ∀ p, Safe c R σ₀ T T' (e' p) Q) :
    Safe c R σ₀ T T' (if p : P then e p else e' p) Q := by
  by_cases p : P
  · rw [dif_pos p]; exact h p
  · rw [dif_neg p]; exact h' p

/-- A branch before the rest of the body. -/
theorem branch {P : Prop} {d : Decidable P} {J : PUnit → Prog (TpuEff nD τ sig (Elt F) Λ₀ .tc) α}
    {A : P → Prog (TpuEff nD τ sig (Elt F) Λ₀ .tc) α} (hJ : ∀ y, Safe c R σ₀ T T' (J y) Q)
    (hA : ∀ p, (∀ y, Safe c R σ₀ T T' (J y) Q) → Safe c R σ₀ T T' (A p) Q) : Safe c R σ₀ T T' (if p : P then A p else J ⟨⟩) Q :=
  dite (fun p => hA p hJ) fun _ => hJ _

/-- A counted loop whose every pass is safe. -/
theorem loop {w : ℕ} {β : Type} {L : Scf.Loop w} {hok : Scf.OK L.lb L.ub L.st} {init : β}
    {body : Fin L.trips → β → Prog (TpuEff nD τ sig (Elt F) Λ₀ .tc) β} {k : β → Prog (TpuEff nD τ sig (Elt F) Λ₀ .tc) α}
    (hb : ∀ t a, Safe c R σ₀ T T (body t a) fun _ => True) (hk : ∀ a, Safe c R σ₀ T T' (k a) Q) :
    Safe c R σ₀ T T' (Scf.Loop.for L hok init body >>= k) Q := fun σ hσ =>
  run_for (fun _ _ σ' => Ok T σ₀ σ') hσ (fun t a σ' h => run_mono (hb t a σ' h) fun _ _ q => q.2) fun a σ' h => hk a σ' h

/-! The same, as the printed body has them. -/

variable {β : Type}

theorem pure' {a : α} (h : Q a) : Safe c R σ₀ T T (pure a) Q := ret h

theorem pure_bind {a : β} {k : β → Prog (TpuEff nD τ sig (Elt F) Λ₀ .tc) α} (h : Safe c R σ₀ T T' (k a) Q) :
    Safe c R σ₀ T T' (pure a >>= k) Q := h

theorem assoc {γ : Type} {p : Prog (TpuEff nD τ sig (Elt F) Λ₀ .tc) γ} {f : γ → Prog (TpuEff nD τ sig (Elt F) Λ₀ .tc) β}
    {k : β → Prog (TpuEff nD τ sig (Elt F) Λ₀ .tc) α} (h : Safe c R σ₀ T T' (p >>= fun x => f x >>= k) Q) :
    Safe c R σ₀ T T' ((p >>= f) >>= k) Q := by
  rw [bind_assoc]; exact h

theorem last {p : Prog (TpuEff nD τ sig (Elt F) Λ₀ .tc) α} (h : Safe c R σ₀ T T' (p >>= fun x => pure x) Q) : Safe c R σ₀ T T' p Q := by
  rw [bind_pure] at h; exact h

theorem load' {n : Nm} {r : LoadRect n.sh} {hl : (R n).view.LoadsAt r}
    {k : (r.shape.Idx → Elt F n.el) → Prog (TpuEff nD τ sig (Elt F) Λ₀ .tc) α}
    (h : ∀ X, Safe c R σ₀ T T' (k X) Q) : Safe c R σ₀ T T' (Prog.lift (.load (R n) r hl) >>= k) Q := load h

theorem sload {n : Nm} {r : LoadRect n.sh} {hl : (R n).view.LoadsAt r} {x : r.shape.Idx}
    {k : Elt F n.el → Prog (TpuEff nD τ sig (Elt F) Λ₀ .tc) α} (h : ∀ X, Safe c R σ₀ T T' (k X) Q) :
    Safe c R σ₀ T T' (Prog.op (.load (R n) r hl) (fun f => .ret (f x)) >>= k) Q := load fun _ => h _

theorem sload_prev {r : LoadRect (Nm.sh .prev)} {hl : (R .prev).view.LoadsAt r} {x : r.shape.Idx}
    {k : Elt F (Nm.el .prev) → Prog (TpuEff nD τ sig (Elt F) Λ₀ .tc) α}
    (h : ∀ X : Elt F (Nm.el .prev), Tile X → Safe c R σ₀ True T' (k X) Q) :
    Safe c R σ₀ True T' (Prog.op (.load (R .prev) r hl) (fun f => .ret (f x)) >>= k) Q := load_prev fun _ hX => h _ (hX _)

theorem store' {n : Nm} {r : Rect n.sh} {w : r.shape.Idx → Elt F n.el}
    {hx : ((R n).access r).Stores Finset.univ} {hm : Finset.univ = Finset.univ ∨ ∀ a, r.stride a = 1}
    {k : PUnit → Prog (TpuEff nD τ sig (Elt F) Λ₀ .tc) α} (hn : n.free = true) (h : Safe c R σ₀ T T' (k ⟨⟩) Q) :
    Safe c R σ₀ T T' (Prog.lift (.store (R n) r w Finset.univ hx hm) >>= k) Q := store hn h

theorem store_prev' {r : Rect (Nm.sh .prev)} {w : BitVec 32} {hx : ((R .prev).access r).Stores Finset.univ}
    {hm : Finset.univ = Finset.univ ∨ ∀ a, r.stride a = 1} {k : PUnit → Prog (TpuEff nD τ sig (Elt F) Λ₀ .tc) α}
    (hw : Tile w) (h : Safe c R σ₀ T T' (k ⟨⟩) Q) :
    Safe c R σ₀ T T' (Prog.lift (.store (R .prev) r (fun _ => w) Finset.univ hx hm) >>= k) Q := store_prev (fun _ => hw) h

theorem store_first' {r : Rect (Nm.sh .prev)} {w : BitVec 32} {hx : ((R .prev).access r).Stores Finset.univ}
    {hm : Finset.univ = Finset.univ ∨ ∀ a, r.stride a = 1} {k : PUnit → Prog (TpuEff nD τ sig (Elt F) Λ₀ .tc) α}
    (hr : ∀ y, ∃ x, r.emb x = y) (hw : Tile w) (h : Safe c R σ₀ True T' (k ⟨⟩) Q) :
    Safe c R σ₀ T T' (Prog.lift (.store (R .prev) r (fun _ => w) Finset.univ hx hm) >>= k) Q := store_first hr (fun _ => hw) h

theorem assume' {P : Prop} {d : Decidable P} {k : PLift P → Prog (TpuEff nD τ sig (Elt F) Λ₀ .tc) α} (hp : P)
    (h : Safe c R σ₀ T T' (k ⟨hp⟩) Q) : Safe c R σ₀ T T' (Prog.lift (.assume P d) >>= k) Q := assume hp h

end Safe

end Cert.Kernel5Ideal.Attn
end
-- ==== Proof.Attn.Tiles.lean ====
/- The numbers of the tiles the attention visits are numbers of tiles, and the offsets computed from one are inside. -/
module

public import proofs.«01_k».proof.Proof.Attn.Base

@[expose] public section

set_option maxRecDepth 65536

noncomputable section

namespace Cert.Kernel5Ideal.Attn

open Cert.Kernel5Ideal Cert.Kernel5Ideal.Gen Idealize.ShloMosaic Idealize.ShloMosaic.TcCoe Idealize.SL.Sem

/-- The point's block of queries. -/
abbrev at1 (i : grid0.Coords) : BitVec 32 := BitVec.ofNat 32 (i 1).val

/-- The near tiles are those from here -/
abbrev lo (q : BitVec 32) : BitVec 32 := Scalar.maxsi (Scalar.subi q 1#32) 0#32
/-- to before here; -/
abbrev hi (q : BitVec 32) : BitVec 32 := Scalar.minsi (Scalar.addi (Scalar.addi q 1#32) 1#32) 16#32
/-- how many are far, -/
abbrev far (q : BitVec 32) : BitVec 32 := Scalar.subi 16#32 (Scalar.subi (hi q) (lo q))
/-- of which so many are done after the first branch -/
abbrev d1 (q : BitVec 32) : BitVec 32 := Scalar.addi 0#32 (Scalar.andi (far q) 1#32)
/-- and after the second. -/
abbrev d3 (q : BitVec 32) : BitVec 32 := Scalar.addi (d1 q) (Scalar.andi (far q) 2#32)
/-- The far tile of a number. -/
abbrev pick (q s : BitVec 32) : BitVec 32 :=
  Scalar.select (Scalar.cmpi .slt s (lo q)) s (Scalar.addi s (Scalar.subi (hi q) (lo q)))
/-- The first far tile of a pass. -/
abbrev pass (q lb : BitVec 32) (t : ℕ) : BitVec 32 :=
  Scalar.addi (d3 q) (Scalar.muli (Scalar.addi 0#32 (Scalar.muli (Scf.iv lb 1#32 t) 1#32)) 4#32)

theorem tile2 (i : grid0.Coords) (h : k0_cond2 i = 1#1) : Tile (Scalar.addi (at1 i) 4294967295#32) := by
  unfold k0_cond2 at h; revert h; unfold at1; generalize i 1 = n; revert n; decide +kernel

theorem tile3 (i : grid0.Coords) : Tile (Scalar.addi (at1 i) 0#32) := by
  unfold at1; generalize i 1 = n; revert n; decide +kernel

theorem tile4 (i : grid0.Coords) (h : k0_cond4 i = 1#1) : Tile (Scalar.addi (at1 i) 1#32) := by
  unfold k0_cond4 at h; revert h; unfold at1; generalize i 1 = n; revert n; decide +kernel

theorem tile5 (i : grid0.Coords) (h : k0_cond5 i = 1#1) : Tile (Scalar.select (Scalar.cmpi .sgt (lo (at1 i)) 0#32) 0#32
    (Scalar.addi 0#32 (Scalar.subi (hi (at1 i)) (lo (at1 i))))) := by
  unfold k0_cond5 at h; revert h; unfold at1; generalize i 1 = n; revert n; decide +kernel

theorem tile6 (i : grid0.Coords) (h : k0_cond6 i = 1#1) :
    Tile (pick (at1 i) (Scalar.addi (d1 (at1 i)) 0#32)) ∧ Tile (pick (at1 i) (Scalar.addi (d1 (at1 i)) 1#32)) := by
  unfold k0_cond6 at h; revert h; unfold at1; generalize i 1 = n; revert n; decide +kernel

theorem tile7 (i : grid0.Coords) (t : ℕ) (h : t < (k0_t3_loop i).trips) :
    Tile (pick (at1 i) (Scalar.addi (pass (at1 i) 0#32 t) 0#32)) ∧ Tile (pick (at1 i) (Scalar.addi (pass (at1 i) 0#32 t) 1#32))
    ∧ Tile (pick (at1 i) (Scalar.addi (pass (at1 i) 0#32 t) 2#32)) ∧ Tile (pick (at1 i) (Scalar.addi (pass (at1 i) 0#32 t) 3#32)) := by
  revert t; unfold k0_t3_loop at1; generalize i 1 = n; revert n; decide +kernel

/-- The loop over what four passes at a time leave has no pass. -/
theorem none4 (i : grid0.Coords) : (k0_t4_loop i).trips = 0 := by
  unfold k0_t4_loop; generalize i 1 = n; revert n; decide +kernel

theorem inside {w : BitVec 32} (h : Tile w) : 1024 ∣ (k0_mult31 w).toNat
    ∧ ∀ a, (k0_off87 w) a + S256x1024.size a ≤ S256x16384.size a := by
  have key : ∀ n : Fin 16, 1024 ∣ (k0_mult31 (BitVec.ofNat 32 n.val)).toNat
      ∧ ∀ a, (k0_off87 (BitVec.ofNat 32 n.val)) a + S256x1024.size a ≤ S256x16384.size a := by decide +kernel
  have e : w = BitVec.ofNat 32 w.toNat := (BitVec.ofNat_toNat 32 w).symm ▸ by simp
  rw [e]
  exact key ⟨w.toNat, h⟩

theorem chk1 {i : grid0.Coords} {w : BitVec 32} (h : Tile w) : k0_chk1 i w := ⟨fun _ => (inside h).1, fun _ => (inside h).2⟩
theorem chk2 {i : grid0.Coords} {w : BitVec 32} (h : Tile w) : k0_chk2 i w := ⟨fun _ => (inside h).1, fun _ => (inside h).2⟩
theorem chk3 {i : grid0.Coords} {w : BitVec 32} (h : Tile w) : k0_chk3 i w := ⟨fun _ => (inside h).1, fun _ => (inside h).2⟩
theorem chk4 {i : grid0.Coords} {w : BitVec 32} (h : Tile w) : k0_chk4 i w := ⟨fun _ => (inside h).1, fun _ => (inside h).2⟩
theorem chk5 {i : grid0.Coords} {w : BitVec 32} (h : Tile w) : k0_chk5 i w := ⟨fun _ => (inside h).1, fun _ => (inside h).2⟩
theorem chk6 {w : BitVec 32} (h : Tile w) : k0_chk6 w := inside h
theorem chk8 {w : BitVec 32} (h : Tile w) : k0_chk8 w := inside h

namespace Safe

variable {F : FTy → Type} [FloatOps F]
variable {c : Dev nD} {R : Refs} {σ₀ : St F} {T T' T'' : Prop} {α β : Type} {Q : α → Prop}

/-- The same as `bind`, the rest first. -/
theorem after {p : Prog (TpuEff nD τ sig (Elt F) Λ₀ .tc) β} {k : β → Prog (TpuEff nD τ sig (Elt F) Λ₀ .tc) α}
    {Q' : β → Prop} (h' : ∀ a, Q' a → Safe c R σ₀ T'' T' (k a) Q) (h : Safe c R σ₀ T T'' p Q') : Safe c R σ₀ T T' (p >>= k) Q :=
  bind h h'

/-- The same as `loop`, the rest first. -/
theorem loop_after {w : ℕ} {β : Type} {L : Scf.Loop w} {hok : Scf.OK L.lb L.ub L.st} {init : β}
    {body : Fin L.trips → β → Prog (TpuEff nD τ sig (Elt F) Λ₀ .tc) β} {k : β → Prog (TpuEff nD τ sig (Elt F) Λ₀ .tc) α}
    (hk : ∀ a, Safe c R σ₀ T T' (k a) Q) (hb : ∀ t a, Safe c R σ₀ T T (body t a) fun _ => True) :
    Safe c R σ₀ T T' (Scf.Loop.for L hok init body >>= k) Q := loop hb hk

end Safe

end Cert.Kernel5Ideal.Attn
end
-- ==== Proof.Attn.Begin.lean ====
/- The parts before the near tiles are safe. -/
module

public import proofs.«01_k».proof.Proof.Attn.Tiles

@[expose] public section

set_option maxRecDepth 16384

noncomputable section

namespace Cert.Kernel5Ideal.Attn

open Cert.Kernel5Ideal Cert.Kernel5Ideal.Gen Idealize.ShloMosaic Idealize.ShloMosaic.TcCoe Idealize.SL.Sem

variable {F : FTy → Type} [FloatOps F]
variable {c : Dev nD} {R : Refs} {W : ∀ n, (R n).IsWhole} {σ₀ : St F} {T : Prop}

set_option maxHeartbeats 2000000

/-- A buffer of one element is written whole. -/
theorem one : ∀ y, ∃ x, (Rect.unit (s := S1) ![0] ![1] inb_S1_S1_0).emb x = y := fun y => ⟨y, by
  funext a
  match a with
  | 0 => exact Subsingleton.elim (α := Fin 1) _ _⟩

/-- The tables before the first block of a head. -/
theorem part159 (i : grid0.Coords) :
    Safe c R σ₀ T T (over R W (k0_part159 (F := F) i))
      fun a => a.2.1 = at1 i := by
  dsimp only [over]
  rw [k0_part159_eq_skeleton]
  unfold k0_part159_skel
  extract_lets arg0 arg1 jp
  refine Safe.branch (J := jp) ?_ ?_
  · intro y
    dsimp only [jp, smemLoad, smemLoadElt]
    repeat
      first
        | with_reducible first
            | exact Safe.pure' True.intro
            | refine Safe.assoc ?_
            | (refine Safe.pure_bind ?_; try dsimp only)
            | (refine Safe.sload_prev (F := F) ?_; intro _ _)
            | (refine Safe.load' ?_; intro _)
            | (refine Safe.sload ?_; intro _)
            | refine Safe.store' rfl ?_
            | refine Safe.loop_after (fun _ => ?_) (fun _ _ => ?_)
    exact Safe.pure' rfl
  · intro p hJ
    clear_value jp
    iterate 17 with_reducible refine Safe.after (Q' := fun _ => True) (T'' := T) (fun _ _ => ?_) ?_
    repeat
      first
        | with_reducible first
            | exact hJ _
            | exact Safe.pure' True.intro
            | refine Safe.assoc ?_
            | (refine Safe.pure_bind ?_; try dsimp only)
            | (refine Safe.sload_prev (F := F) ?_; intro _ _)
            | (refine Safe.load' ?_; intro _)
            | (refine Safe.sload ?_; intro _)
            | refine Safe.store' rfl ?_
            | refine Safe.loop_after (fun _ => ?_) (fun _ _ => ?_)
    all_goals
      repeat' first
        | with_reducible first
            | exact True.intro
            | refine Safe.pure' ?_
            | refine Safe.assoc ?_
            | (refine Safe.pure_bind ?_; try dsimp only)
            | (refine Safe.load' ?_; intro _)
            | (refine Safe.sload ?_; intro _)
            | refine Safe.store' rfl ?_
            | refine Safe.loop_after (fun _ => ?_) (fun _ _ => ?_)
            | (refine Safe.last ?_; refine Safe.store' rfl ?_)
            | (refine Safe.last ?_; refine Safe.load' ?_; intro _)
            | (refine Safe.last ?_; refine Safe.loop_after (fun _ => ?_) (fun _ _ => ?_))
            | refine Safe.after (Q' := fun _ => True) (T'' := T) (fun _ _ => ?_) ?_
        | dsimp only [k0_t1_body, k0_t2_body]
        | (simp only [k0_part1_eq_skeleton, k0_part2_eq_skeleton, k0_part3_eq_skeleton, k0_part4_eq_skeleton, k0_part5_eq_skeleton,
          k0_part6_eq_skeleton, k0_part7_eq_skeleton, k0_part8_eq_skeleton, k0_part9_eq_skeleton, k0_part10_eq_skeleton,
          k0_part11_eq_skeleton, k0_part12_eq_skeleton, k0_part13_eq_skeleton, k0_part14_eq_skeleton, k0_part15_eq_skeleton,
          k0_part16_eq_skeleton, k0_part17_eq_skeleton];
           dsimp only [smemLoad, smemLoadElt, k0_t1_body, k0_t2_body, k0_part1_skel, k0_part2_skel, k0_part3_skel, k0_part4_skel,
             k0_part5_skel, k0_part6_skel, k0_part7_skel, k0_part8_skel, k0_part9_skel, k0_part10_skel, k0_part11_skel,
             k0_part12_skel, k0_part13_skel, k0_part14_skel, k0_part15_skel, k0_part16_skel, k0_part17_skel])

/-- The shifts -/
theorem part160 (i : grid0.Coords) (a0 : BitVec 32) (x y : F .f32) :
    Safe c R σ₀ T T (over R W (k0_part160 (F := F) i) a0 x y)
      fun _ => True := by
  dsimp only [over]
  rw [k0_part160_eq_skeleton]
  dsimp only [smemLoad, smemLoadElt, k0_part160_skel]
  repeat
    first
      | with_reducible first
          | exact Safe.pure' True.intro
          | refine Safe.assoc ?_
          | (refine Safe.pure_bind ?_; try dsimp only)
          | (refine Safe.sload_prev (F := F) ?_; intro _ _)
          | (refine Safe.load' ?_; intro _)
          | (refine Safe.sload ?_; intro _)
          | refine Safe.store' rfl ?_
          | refine Safe.loop_after (fun _ => ?_) (fun _ _ => ?_)

/-- and the running maxima. -/
theorem part161 (i : grid0.Coords) (a0 : BitVec 32) (x y : F .f32) :
    Safe c R σ₀ T T (over R W (k0_part161 (F := F) i) a0 x y)
      fun _ => True := by
  dsimp only [over]
  rw [k0_part161_eq_skeleton]
  dsimp only [smemLoad, smemLoadElt, k0_part161_skel]
  repeat
    first
      | with_reducible first
          | exact Safe.pure' True.intro
          | refine Safe.assoc ?_
          | (refine Safe.pure_bind ?_; try dsimp only)
          | (refine Safe.sload_prev (F := F) ?_; intro _ _)
          | (refine Safe.load' ?_; intro _)
          | (refine Safe.sload ?_; intro _)
          | refine Safe.store' rfl ?_
          | refine Safe.loop_after (fun _ => ?_) (fun _ _ => ?_)

/-- The first tile is the one before the first. -/
theorem part162 (i : grid0.Coords) (x : F .f32) (y : FVec F S1x1024 .f32) :
    Safe c R σ₀ False True (over R W (k0_part162 (F := F) i) (at1 i) x y)
      fun a => a.1 = lo (at1 i) ∧ a.2 = hi (at1 i) := by
  dsimp only [over]
  rw [k0_part162_eq_skeleton]
  dsimp only [smemLoad, smemLoadElt, k0_part162_skel]
  repeat
    first
      | with_reducible first
          | exact Safe.pure' True.intro
          | refine Safe.assoc ?_
          | (refine Safe.pure_bind ?_; try dsimp only)
          | (refine Safe.sload_prev (F := F) ?_; intro _ _)
          | (refine Safe.load' ?_; intro _)
          | (refine Safe.sload ?_; intro _)
          | refine Safe.store' rfl ?_
          | refine Safe.loop_after (fun _ => ?_) (fun _ _ => ?_)
      | with_reducible refine Safe.store_first' (F := F) one (by decide) ?_
  exact Safe.pure' ⟨rfl, rfl⟩

end Cert.Kernel5Ideal.Attn
end
-- ==== Proof.Attn.Two.lean ====
/- The two tiles of the second branch are safe. -/
module

public import proofs.«01_k».proof.Proof.Attn.Tiles

@[expose] public section

set_option maxRecDepth 16384

noncomputable section

namespace Cert.Kernel5Ideal.Attn

open Cert.Kernel5Ideal Cert.Kernel5Ideal.Gen Idealize.ShloMosaic Idealize.ShloMosaic.TcCoe Idealize.SL.Sem

variable {F : FTy → Type} [FloatOps F]
variable {c : Dev nD} {R : Refs} {W : ∀ n, (R n).IsWhole} {σ₀ : St F} {T : Prop}

set_option maxHeartbeats 2000000

/-- The two tiles of the second branch. -/
theorem part72 (i : grid0.Coords) (h : k0_cond6 i = 1#1) (v4 v6 : F .f32) :
    Safe c R σ₀ True True (over R W (k0_part72 (F := F) i) v4 v6 (lo (at1 i)) (hi (at1 i)) (d1 (at1 i)) h)
      fun a => a.1 = pick (at1 i) (Scalar.addi (d1 (at1 i)) 1#32) := by
  dsimp only [over]
  rw [k0_part72_eq_skeleton]
  dsimp only [k0_part72_skel]
  rw [k0_part54_eq_skeleton]
  dsimp only [smemLoad, smemLoadElt, k0_part54_skel]
  repeat
    first
      | with_reducible first
          | exact Safe.pure' True.intro
          | refine Safe.assoc ?_
          | (refine Safe.pure_bind ?_; try dsimp only)
          | (refine Safe.sload_prev (F := F) ?_; intro _ _)
          | refine Safe.assume' (chk5 (by assumption)) ?_
          | (refine Safe.load' ?_; intro _)
          | (refine Safe.sload ?_; intro _)
          | refine Safe.store' rfl ?_
          | refine Safe.loop_after (fun _ => ?_) (fun _ _ => ?_)
      | (with_reducible refine Safe.store_prev' (F := F) ?_ ?_; on_goal 1 => exact (tile6 i h).1)
  iterate 8 with_reducible refine Safe.after (Q' := fun _ => True) (T'' := True) (fun _ _ => ?_) ?_
  repeat
    first
      | with_reducible first
          | exact Safe.pure' True.intro
          | refine Safe.assoc ?_
          | (refine Safe.pure_bind ?_; try dsimp only)
          | (refine Safe.sload_prev (F := F) ?_; intro _ _)
          | refine Safe.assume' (chk5 (by assumption)) ?_
          | (refine Safe.load' ?_; intro _)
          | (refine Safe.sload ?_; intro _)
          | refine Safe.store' rfl ?_
          | refine Safe.loop_after (fun _ => ?_) (fun _ _ => ?_)
      | (with_reducible refine Safe.store_prev' (F := F) ?_ ?_; on_goal 1 => exact (tile6 i h).1)
  rw [k0_part63_eq_skeleton]
  dsimp only [smemLoad, smemLoadElt, k0_part63_skel]
  repeat
    first
      | with_reducible first
          | exact Safe.pure' True.intro
          | refine Safe.assoc ?_
          | (refine Safe.pure_bind ?_; try dsimp only)
          | (refine Safe.sload_prev (F := F) ?_; intro _ _)
          | refine Safe.assume' (chk5 (by assumption)) ?_
          | (refine Safe.load' ?_; intro _)
          | (refine Safe.sload ?_; intro _)
          | refine Safe.store' rfl ?_
          | refine Safe.loop_after (fun _ => ?_) (fun _ _ => ?_)
      | (with_reducible refine Safe.store_prev' (F := F) ?_ ?_; on_goal 1 => exact (tile6 i h).1)
  iterate 8 with_reducible refine Safe.after (Q' := fun _ => True) (T'' := True) (fun _ _ => ?_) ?_
  repeat
    first
      | with_reducible first
          | exact Safe.pure' True.intro
          | refine Safe.assoc ?_
          | (refine Safe.pure_bind ?_; try dsimp only)
          | (refine Safe.sload_prev (F := F) ?_; intro _ _)
          | refine Safe.assume' (chk5 (by assumption)) ?_
          | (refine Safe.load' ?_; intro _)
          | (refine Safe.sload ?_; intro _)
          | refine Safe.store' rfl ?_
          | refine Safe.loop_after (fun _ => ?_) (fun _ _ => ?_)
      | (with_reducible refine Safe.store_prev' (F := F) ?_ ?_; on_goal 1 => exact (tile6 i h).1)
  on_goal 1 => exact Safe.pure' (F := F) rfl
  all_goals
    repeat' first
      | with_reducible first
          | exact True.intro
          | refine Safe.pure' ?_
          | refine Safe.assoc ?_
          | (refine Safe.pure_bind ?_; try dsimp only)
          | (refine Safe.load' ?_; intro _)
          | (refine Safe.sload ?_; intro _)
          | refine Safe.store' rfl ?_
          | refine Safe.loop_after (fun _ => ?_) (fun _ _ => ?_)
          | (refine Safe.last ?_; refine Safe.store' rfl ?_)
          | (refine Safe.last ?_; refine Safe.load' ?_; intro _)
          | (refine Safe.last ?_; refine Safe.loop_after (fun _ => ?_) (fun _ _ => ?_))
          | refine Safe.after (Q' := fun _ => True) (T'' := True) (fun _ _ => ?_) ?_
      | (simp only [k0_part55_eq_skeleton, k0_part56_eq_skeleton, k0_part57_eq_skeleton, k0_part58_eq_skeleton,
        k0_part59_eq_skeleton, k0_part60_eq_skeleton, k0_part61_eq_skeleton, k0_part62_eq_skeleton, k0_part64_eq_skeleton,
        k0_part65_eq_skeleton, k0_part66_eq_skeleton, k0_part67_eq_skeleton, k0_part68_eq_skeleton, k0_part69_eq_skeleton,
        k0_part70_eq_skeleton, k0_part71_eq_skeleton];
         dsimp only [smemLoad, smemLoadElt, k0_part55_skel, k0_part56_skel, k0_part57_skel, k0_part58_skel, k0_part59_skel,
           k0_part60_skel, k0_part61_skel, k0_part62_skel, k0_part64_skel, k0_part65_skel, k0_part66_skel, k0_part67_skel,
           k0_part68_skel, k0_part69_skel, k0_part70_skel, k0_part71_skel])

end Cert.Kernel5Ideal.Attn
end
-- ==== Proof.Attn.Four.lean ====
/- The four tiles of a pass are safe. -/
module

public import proofs.«01_k».proof.Proof.Attn.Tiles

@[expose] public section

set_option maxRecDepth 16384

noncomputable section

namespace Cert.Kernel5Ideal.Attn

open Cert.Kernel5Ideal Cert.Kernel5Ideal.Gen Idealize.ShloMosaic Idealize.ShloMosaic.TcCoe Idealize.SL.Sem

variable {F : FTy → Type} [FloatOps F]
variable {c : Dev nD} {R : Refs} {W : ∀ n, (R n).IsWhole} {σ₀ : St F} {T : Prop}

set_option maxHeartbeats 2000000

/-- The four tiles of a pass. -/
theorem part110 (i : grid0.Coords) (t : Fin (k0_t3_loop i).trips) (v4 v6 : F .f32) :
    Safe c R σ₀ True True (over R W (k0_part110 (F := F) i) v4 v6 (lo (at1 i)) (hi (at1 i)) (d3 (at1 i)) 1#32 0#32 0#32 1#32 t)
      fun a => a.1 = pick (at1 i) (Scalar.addi (pass (at1 i) 0#32 t) 3#32) := by
  dsimp only [over]
  rw [k0_part110_eq_skeleton]
  dsimp only [k0_part110_skel]
  rw [k0_part73_eq_skeleton]
  dsimp only [smemLoad, smemLoadElt, k0_part73_skel]
  repeat
    first
      | with_reducible first
          | exact Safe.pure' True.intro
          | refine Safe.assoc ?_
          | (refine Safe.pure_bind ?_; try dsimp only)
          | (refine Safe.sload_prev (F := F) ?_; intro _ _)
          | refine Safe.assume' (chk6 (by assumption)) ?_
          | (refine Safe.load' ?_; intro _)
          | (refine Safe.sload ?_; intro _)
          | refine Safe.store' rfl ?_
          | refine Safe.loop_after (fun _ => ?_) (fun _ _ => ?_)
  iterate 8 with_reducible refine Safe.after (Q' := fun _ => True) (T'' := True) (fun _ _ => ?_) ?_
  repeat
    first
      | with_reducible first
          | exact Safe.pure' True.intro
          | refine Safe.assoc ?_
          | (refine Safe.pure_bind ?_; try dsimp only)
          | (refine Safe.sload_prev (F := F) ?_; intro _ _)
          | refine Safe.assume' (chk6 (by assumption)) ?_
          | (refine Safe.load' ?_; intro _)
          | (refine Safe.sload ?_; intro _)
          | refine Safe.store' rfl ?_
          | refine Safe.loop_after (fun _ => ?_) (fun _ _ => ?_)
  rw [k0_part82_eq_skeleton]
  dsimp only [smemLoad, smemLoadElt, k0_part82_skel]
  repeat
    first
      | with_reducible first
          | exact Safe.pure' True.intro
          | refine Safe.assoc ?_
          | (refine Safe.pure_bind ?_; try dsimp only)
          | (refine Safe.sload_prev (F := F) ?_; intro _ _)
          | refine Safe.assume' (chk6 (by assumption)) ?_
          | (refine Safe.load' ?_; intro _)
          | (refine Safe.sload ?_; intro _)
          | refine Safe.store' rfl ?_
          | refine Safe.loop_after (fun _ => ?_) (fun _ _ => ?_)
      | (with_reducible refine Safe.store_prev' (F := F) ?_ ?_; on_goal 1 => exact (tile7 i t t.isLt).1)
  iterate 8 with_reducible refine Safe.after (Q' := fun _ => True) (T'' := True) (fun _ _ => ?_) ?_
  repeat
    first
      | with_reducible first
          | exact Safe.pure' True.intro
          | refine Safe.assoc ?_
          | (refine Safe.pure_bind ?_; try dsimp only)
          | (refine Safe.sload_prev (F := F) ?_; intro _ _)
          | refine Safe.assume' (chk6 (by assumption)) ?_
          | (refine Safe.load' ?_; intro _)
          | (refine Safe.sload ?_; intro _)
          | refine Safe.store' rfl ?_
          | refine Safe.loop_after (fun _ => ?_) (fun _ _ => ?_)
      | (with_reducible refine Safe.store_prev' (F := F) ?_ ?_; on_goal 1 => exact (tile7 i t t.isLt).1)
  rw [k0_part91_eq_skeleton]
  dsimp only [smemLoad, smemLoadElt, k0_part91_skel]
  repeat
    first
      | with_reducible first
          | exact Safe.pure' True.intro
          | refine Safe.assoc ?_
          | (refine Safe.pure_bind ?_; try dsimp only)
          | (refine Safe.sload_prev (F := F) ?_; intro _ _)
          | refine Safe.assume' (chk6 (by assumption)) ?_
          | (refine Safe.load' ?_; intro _)
          | (refine Safe.sload ?_; intro _)
          | refine Safe.store' rfl ?_
          | refine Safe.loop_after (fun _ => ?_) (fun _ _ => ?_)
      | (with_reducible refine Safe.store_prev' (F := F) ?_ ?_; on_goal 1 => exact (tile7 i t t.isLt).2.1)
  rw [k0_part92_eq_skeleton]
  dsimp only [smemLoad, smemLoadElt, k0_part92_skel]
  repeat
    first
      | with_reducible first
          | exact Safe.pure' True.intro
          | refine Safe.assoc ?_
          | (refine Safe.pure_bind ?_; try dsimp only)
          | (refine Safe.sload_prev (F := F) ?_; intro _ _)
          | refine Safe.assume' (chk6 (by assumption)) ?_
          | (refine Safe.load' ?_; intro _)
          | (refine Safe.sload ?_; intro _)
          | refine Safe.store' rfl ?_
          | refine Safe.loop_after (fun _ => ?_) (fun _ _ => ?_)
      | (with_reducible refine Safe.store_prev' (F := F) ?_ ?_; on_goal 1 => exact (tile7 i t t.isLt).2.1)
  iterate 8 with_reducible refine Safe.after (Q' := fun _ => True) (T'' := True) (fun _ _ => ?_) ?_
  repeat
    first
      | with_reducible first
          | exact Safe.pure' True.intro
          | refine Safe.assoc ?_
          | (refine Safe.pure_bind ?_; try dsimp only)
          | (refine Safe.sload_prev (F := F) ?_; intro _ _)
          | refine Safe.assume' (chk6 (by assumption)) ?_
          | (refine Safe.load' ?_; intro _)
          | (refine Safe.sload ?_; intro _)
          | refine Safe.store' rfl ?_
          | refine Safe.loop_after (fun _ => ?_) (fun _ _ => ?_)
      | (with_reducible refine Safe.store_prev' (F := F) ?_ ?_; on_goal 1 => exact (tile7 i t t.isLt).2.1)
  rw [k0_part101_eq_skeleton]
  dsimp only [smemLoad, smemLoadElt, k0_part101_skel]
  repeat
    first
      | with_reducible first
          | exact Safe.pure' True.intro
          | refine Safe.assoc ?_
          | (refine Safe.pure_bind ?_; try dsimp only)
          | (refine Safe.sload_prev (F := F) ?_; intro _ _)
          | refine Safe.assume' (chk6 (by assumption)) ?_
          | (refine Safe.load' ?_; intro _)
          | (refine Safe.sload ?_; intro _)
          | refine Safe.store' rfl ?_
          | refine Safe.loop_after (fun _ => ?_) (fun _ _ => ?_)
      | (with_reducible refine Safe.store_prev' (F := F) ?_ ?_; on_goal 1 => exact (tile7 i t t.isLt).2.2.1)
  iterate 8 with_reducible refine Safe.after (Q' := fun _ => True) (T'' := True) (fun _ _ => ?_) ?_
  repeat
    first
      | with_reducible first
          | exact Safe.pure' True.intro
          | refine Safe.assoc ?_
          | (refine Safe.pure_bind ?_; try dsimp only)
          | (refine Safe.sload_prev (F := F) ?_; intro _ _)
          | refine Safe.assume' (chk6 (by assumption)) ?_
          | (refine Safe.load' ?_; intro _)
          | (refine Safe.sload ?_; intro _)
          | refine Safe.store' rfl ?_
          | refine Safe.loop_after (fun _ => ?_) (fun _ _ => ?_)
      | (with_reducible refine Safe.store_prev' (F := F) ?_ ?_; on_goal 1 => exact (tile7 i t t.isLt).2.2.1)
  on_goal 1 => exact Safe.pure' (F := F) rfl
  all_goals
    repeat' first
      | with_reducible first
          | exact True.intro
          | refine Safe.pure' ?_
          | refine Safe.assoc ?_
          | (refine Safe.pure_bind ?_; try dsimp only)
          | (refine Safe.load' ?_; intro _)
          | (refine Safe.sload ?_; intro _)
          | refine Safe.store' rfl ?_
          | refine Safe.loop_after (fun _ => ?_) (fun _ _ => ?_)
          | (refine Safe.last ?_; refine Safe.store' rfl ?_)
          | (refine Safe.last ?_; refine Safe.load' ?_; intro _)
          | (refine Safe.last ?_; refine Safe.loop_after (fun _ => ?_) (fun _ _ => ?_))
          | refine Safe.after (Q' := fun _ => True) (T'' := True) (fun _ _ => ?_) ?_
      | (simp only [k0_part74_eq_skeleton, k0_part75_eq_skeleton, k0_part76_eq_skeleton, k0_part77_eq_skeleton,
        k0_part78_eq_skeleton, k0_part79_eq_skeleton, k0_part80_eq_skeleton, k0_part81_eq_skeleton, k0_part83_eq_skeleton,
        k0_part84_eq_skeleton, k0_part85_eq_skeleton, k0_part86_eq_skeleton, k0_part87_eq_skeleton, k0_part88_eq_skeleton,
        k0_part89_eq_skeleton, k0_part90_eq_skeleton, k0_part93_eq_skeleton, k0_part94_eq_skeleton, k0_part95_eq_skeleton,
        k0_part96_eq_skeleton, k0_part97_eq_skeleton, k0_part98_eq_skeleton, k0_part99_eq_skeleton, k0_part100_eq_skeleton,
        k0_part102_eq_skeleton, k0_part103_eq_skeleton, k0_part104_eq_skeleton, k0_part105_eq_skeleton, k0_part106_eq_skeleton,
        k0_part107_eq_skeleton, k0_part108_eq_skeleton, k0_part109_eq_skeleton];
         dsimp only [smemLoad, smemLoadElt, k0_part74_skel, k0_part75_skel, k0_part76_skel, k0_part77_skel, k0_part78_skel,
           k0_part79_skel, k0_part80_skel, k0_part81_skel, k0_part83_skel, k0_part84_skel, k0_part85_skel, k0_part86_skel,
           k0_part87_skel, k0_part88_skel, k0_part89_skel, k0_part90_skel, k0_part93_skel, k0_part94_skel, k0_part95_skel,
           k0_part96_skel, k0_part97_skel, k0_part98_skel, k0_part99_skel, k0_part100_skel, k0_part102_skel, k0_part103_skel,
           k0_part104_skel, k0_part105_skel, k0_part106_skel, k0_part107_skel, k0_part108_skel, k0_part109_skel])

end Cert.Kernel5Ideal.Attn
end
-- ==== Proof.Attn.Mid.lean ====
/- The near and the far tiles are safe. -/
module

public import proofs.«01_k».proof.Proof.Attn.Two
public import proofs.«01_k».proof.Proof.Attn.Four

@[expose] public section

set_option maxRecDepth 16384

noncomputable section

namespace Cert.Kernel5Ideal.Attn

open Cert.Kernel5Ideal Cert.Kernel5Ideal.Gen Idealize.ShloMosaic Idealize.ShloMosaic.TcCoe Idealize.SL.Sem

variable {F : FTy → Type} [FloatOps F]
variable {c : Dev nD} {R : Refs} {W : ∀ n, (R n).IsWhole} {σ₀ : St F} {T : Prop}

set_option maxHeartbeats 2000000

/-- The near tiles and the first far ones. -/
theorem part163 (i : grid0.Coords) (v4 v6 : F .f32) :
    Safe c R σ₀ True True (over R W (k0_part163 (F := F) i) (at1 i) v4 v6 (lo (at1 i)) (hi (at1 i)))
      fun a => a.2.1 = d3 (at1 i) := by
  dsimp only [over]
  rw [k0_part163_eq_skeleton]
  unfold k0_part163_skel
  extract_lets v156 v162 v168 v174 v175 v176 v180 v181 v185 v186 v187 v188 j6 j5 j4 j3 j2
  have h6 : ∀ y, Safe c R σ₀ True True (j6 y) fun a => a.2.1 = d3 (at1 i) := fun _ => Safe.pure' (F := F) rfl
  have h5 : ∀ y, Safe c R σ₀ True True (j5 y) fun a => a.2.1 = d3 (at1 i) := by
    intro y
    dsimp only [j5]
    refine Safe.branch (J := j6) h6 ?_
    intro p hJ
    clear_value j6
    dsimp only [smemLoad, smemLoadElt]
    refine Safe.bind (part72 i p v4 v6) fun a ha => ?_
    try dsimp only
    repeat
      first
        | with_reducible first
            | exact hJ _
            | exact Safe.pure' True.intro
            | refine Safe.assoc ?_
            | (refine Safe.pure_bind ?_; try dsimp only)
            | (refine Safe.sload_prev (F := F) ?_; intro _ _)
            | (refine Safe.load' ?_; intro _)
            | (refine Safe.sload ?_; intro _)
            | refine Safe.store' rfl ?_
            | refine Safe.loop_after (fun _ => ?_) (fun _ _ => ?_)
        | (with_reducible refine Safe.store_prev' (F := F) ?_ ?_; on_goal 1 => exact (by rw [ha]; exact (tile6 i p).2))
  have h4 : ∀ y, Safe c R σ₀ True True (j4 y) fun a => a.2.1 = d3 (at1 i) := by
    intro y
    dsimp only [j4]
    refine Safe.branch (J := j5) h5 ?_
    intro p hJ
    clear_value j5
    dsimp only [smemLoad, smemLoadElt]
    rw [k0_part45_eq_skeleton]
    dsimp only [smemLoad, smemLoadElt, k0_part45_skel]
    repeat
      first
        | with_reducible first
            | exact hJ _
            | exact Safe.pure' True.intro
            | refine Safe.assoc ?_
            | (refine Safe.pure_bind ?_; try dsimp only)
            | (refine Safe.sload_prev (F := F) ?_; intro _ _)
            | refine Safe.assume' (chk4 (by assumption)) ?_
            | (refine Safe.load' ?_; intro _)
            | (refine Safe.sload ?_; intro _)
            | refine Safe.store' rfl ?_
            | refine Safe.loop_after (fun _ => ?_) (fun _ _ => ?_)
        | (with_reducible refine Safe.store_prev' (F := F) ?_ ?_; on_goal 1 => exact tile5 i p)
    iterate 8 with_reducible refine Safe.after (Q' := fun _ => True) (T'' := True) (fun _ _ => ?_) ?_
    repeat
      first
        | with_reducible first
            | exact hJ _
            | exact Safe.pure' True.intro
            | refine Safe.assoc ?_
            | (refine Safe.pure_bind ?_; try dsimp only)
            | (refine Safe.sload_prev (F := F) ?_; intro _ _)
            | refine Safe.assume' (chk4 (by assumption)) ?_
            | (refine Safe.load' ?_; intro _)
            | (refine Safe.sload ?_; intro _)
            | refine Safe.store' rfl ?_
            | refine Safe.loop_after (fun _ => ?_) (fun _ _ => ?_)
        | (with_reducible refine Safe.store_prev' (F := F) ?_ ?_; on_goal 1 => exact tile5 i p)
    all_goals
      repeat' first
        | with_reducible first
            | exact True.intro
            | refine Safe.pure' ?_
            | refine Safe.assoc ?_
            | (refine Safe.pure_bind ?_; try dsimp only)
            | (refine Safe.load' ?_; intro _)
            | (refine Safe.sload ?_; intro _)
            | refine Safe.store' rfl ?_
            | refine Safe.loop_after (fun _ => ?_) (fun _ _ => ?_)
            | (refine Safe.last ?_; refine Safe.store' rfl ?_)
            | (refine Safe.last ?_; refine Safe.load' ?_; intro _)
            | (refine Safe.last ?_; refine Safe.loop_after (fun _ => ?_) (fun _ _ => ?_))
            | refine Safe.after (Q' := fun _ => True) (T'' := True) (fun _ _ => ?_) ?_
        | (simp only [k0_part46_eq_skeleton, k0_part47_eq_skeleton, k0_part48_eq_skeleton, k0_part49_eq_skeleton,
          k0_part50_eq_skeleton, k0_part51_eq_skeleton, k0_part52_eq_skeleton, k0_part53_eq_skeleton];
           dsimp only [smemLoad, smemLoadElt, k0_part46_skel, k0_part47_skel, k0_part48_skel, k0_part49_skel, k0_part50_skel,
             k0_part51_skel, k0_part52_skel, k0_part53_skel])
  have h3 : ∀ y, Safe c R σ₀ True True (j3 y) fun a => a.2.1 = d3 (at1 i) := by
    intro y
    dsimp only [j3]
    refine Safe.branch (J := j4) h4 ?_
    intro p hJ
    clear_value j4
    dsimp only [smemLoad, smemLoadElt]
    rw [k0_part36_eq_skeleton]
    dsimp only [smemLoad, smemLoadElt, k0_part36_skel]
    repeat
      first
        | with_reducible first
            | exact hJ _
            | exact Safe.pure' True.intro
            | refine Safe.assoc ?_
            | (refine Safe.pure_bind ?_; try dsimp only)
            | (refine Safe.sload_prev (F := F) ?_; intro _ _)
            | refine Safe.assume' (chk3 (by assumption)) ?_
            | (refine Safe.load' ?_; intro _)
            | (refine Safe.sload ?_; intro _)
            | refine Safe.store' rfl ?_
            | refine Safe.loop_after (fun _ => ?_) (fun _ _ => ?_)
        | (with_reducible refine Safe.store_prev' (F := F) ?_ ?_; on_goal 1 => exact tile4 i p)
    iterate 8 with_reducible refine Safe.after (Q' := fun _ => True) (T'' := True) (fun _ _ => ?_) ?_
    repeat
      first
        | with_reducible first
            | exact hJ _
            | exact Safe.pure' True.intro
            | refine Safe.assoc ?_
            | (refine Safe.pure_bind ?_; try dsimp only)
            | (refine Safe.sload_prev (F := F) ?_; intro _ _)
            | refine Safe.assume' (chk3 (by assumption)) ?_
            | (refine Safe.load' ?_; intro _)
            | (refine Safe.sload ?_; intro _)
            | refine Safe.store' rfl ?_
            | refine Safe.loop_after (fun _ => ?_) (fun _ _ => ?_)
        | (with_reducible refine Safe.store_prev' (F := F) ?_ ?_; on_goal 1 => exact tile4 i p)
    all_goals
      repeat' first
        | with_reducible first
            | exact True.intro
            | refine Safe.pure' ?_
            | refine Safe.assoc ?_
            | (refine Safe.pure_bind ?_; try dsimp only)
            | (refine Safe.load' ?_; intro _)
            | (refine Safe.sload ?_; intro _)
            | refine Safe.store' rfl ?_
            | refine Safe.loop_after (fun _ => ?_) (fun _ _ => ?_)
            | (refine Safe.last ?_; refine Safe.store' rfl ?_)
            | (refine Safe.last ?_; refine Safe.load' ?_; intro _)
            | (refine Safe.last ?_; refine Safe.loop_after (fun _ => ?_) (fun _ _ => ?_))
            | refine Safe.after (Q' := fun _ => True) (T'' := True) (fun _ _ => ?_) ?_
        | (simp only [k0_part37_eq_skeleton, k0_part38_eq_skeleton, k0_part39_eq_skeleton, k0_part40_eq_skeleton,
          k0_part41_eq_skeleton, k0_part42_eq_skeleton, k0_part43_eq_skeleton, k0_part44_eq_skeleton];
           dsimp only [smemLoad, smemLoadElt, k0_part37_skel, k0_part38_skel, k0_part39_skel, k0_part40_skel, k0_part41_skel,
             k0_part42_skel, k0_part43_skel, k0_part44_skel])
  have h2 : ∀ y, Safe c R σ₀ True True (j2 y) fun a => a.2.1 = d3 (at1 i) := by
    intro y
    dsimp only [j2]
    refine Safe.branch (J := j3) h3 ?_
    intro p hJ
    clear_value j3
    dsimp only [smemLoad, smemLoadElt]
    rw [k0_part27_eq_skeleton]
    dsimp only [smemLoad, smemLoadElt, k0_part27_skel]
    repeat
      first
        | with_reducible first
            | exact hJ _
            | exact Safe.pure' True.intro
            | refine Safe.assoc ?_
            | (refine Safe.pure_bind ?_; try dsimp only)
            | (refine Safe.sload_prev (F := F) ?_; intro _ _)
            | refine Safe.assume' (chk2 (by assumption)) ?_
            | (refine Safe.load' ?_; intro _)
            | (refine Safe.sload ?_; intro _)
            | refine Safe.store' rfl ?_
            | refine Safe.loop_after (fun _ => ?_) (fun _ _ => ?_)
        | (with_reducible refine Safe.store_prev' (F := F) ?_ ?_; on_goal 1 => exact tile3 i)
    iterate 8 with_reducible refine Safe.after (Q' := fun _ => True) (T'' := True) (fun _ _ => ?_) ?_
    repeat
      first
        | with_reducible first
            | exact hJ _
            | exact Safe.pure' True.intro
            | refine Safe.assoc ?_
            | (refine Safe.pure_bind ?_; try dsimp only)
            | (refine Safe.sload_prev (F := F) ?_; intro _ _)
            | refine Safe.assume' (chk2 (by assumption)) ?_
            | (refine Safe.load' ?_; intro _)
            | (refine Safe.sload ?_; intro _)
            | refine Safe.store' rfl ?_
            | refine Safe.loop_after (fun _ => ?_) (fun _ _ => ?_)
        | (with_reducible refine Safe.store_prev' (F := F) ?_ ?_; on_goal 1 => exact tile3 i)
    all_goals
      repeat' first
        | with_reducible first
            | exact True.intro
            | refine Safe.pure' ?_
            | refine Safe.assoc ?_
            | (refine Safe.pure_bind ?_; try dsimp only)
            | (refine Safe.load' ?_; intro _)
            | (refine Safe.sload ?_; intro _)
            | refine Safe.store' rfl ?_
            | refine Safe.loop_after (fun _ => ?_) (fun _ _ => ?_)
            | (refine Safe.last ?_; refine Safe.store' rfl ?_)
            | (refine Safe.last ?_; refine Safe.load' ?_; intro _)
            | (refine Safe.last ?_; refine Safe.loop_after (fun _ => ?_) (fun _ _ => ?_))
            | refine Safe.after (Q' := fun _ => True) (T'' := True) (fun _ _ => ?_) ?_
        | (simp only [k0_part28_eq_skeleton, k0_part29_eq_skeleton, k0_part30_eq_skeleton, k0_part31_eq_skeleton,
          k0_part32_eq_skeleton, k0_part33_eq_skeleton, k0_part34_eq_skeleton, k0_part35_eq_skeleton];
           dsimp only [smemLoad, smemLoadElt, k0_part28_skel, k0_part29_skel, k0_part30_skel, k0_part31_skel, k0_part32_skel,
             k0_part33_skel, k0_part34_skel, k0_part35_skel])
  refine Safe.branch (J := j2) h2 ?_
  intro p hJ
  clear_value j2
  dsimp only [smemLoad, smemLoadElt]
  rw [k0_part18_eq_skeleton]
  dsimp only [smemLoad, smemLoadElt, k0_part18_skel]
  repeat
    first
      | with_reducible first
          | exact hJ _
          | exact Safe.pure' True.intro
          | refine Safe.assoc ?_
          | (refine Safe.pure_bind ?_; try dsimp only)
          | (refine Safe.sload_prev (F := F) ?_; intro _ _)
          | refine Safe.assume' (chk1 (by assumption)) ?_
          | (refine Safe.load' ?_; intro _)
          | (refine Safe.sload ?_; intro _)
          | refine Safe.store' rfl ?_
          | refine Safe.loop_after (fun _ => ?_) (fun _ _ => ?_)
      | (with_reducible refine Safe.store_prev' (F := F) ?_ ?_; on_goal 1 => exact tile2 i p)
  iterate 8 with_reducible refine Safe.after (Q' := fun _ => True) (T'' := True) (fun _ _ => ?_) ?_
  repeat
    first
      | with_reducible first
          | exact hJ _
          | exact Safe.pure' True.intro
          | refine Safe.assoc ?_
          | (refine Safe.pure_bind ?_; try dsimp only)
          | (refine Safe.sload_prev (F := F) ?_; intro _ _)
          | refine Safe.assume' (chk1 (by assumption)) ?_
          | (refine Safe.load' ?_; intro _)
          | (refine Safe.sload ?_; intro _)
          | refine Safe.store' rfl ?_
          | refine Safe.loop_after (fun _ => ?_) (fun _ _ => ?_)
      | (with_reducible refine Safe.store_prev' (F := F) ?_ ?_; on_goal 1 => exact tile2 i p)
  all_goals
    repeat' first
      | with_reducible first
          | exact True.intro
          | refine Safe.pure' ?_
          | refine Safe.assoc ?_
          | (refine Safe.pure_bind ?_; try dsimp only)
          | (refine Safe.load' ?_; intro _)
          | (refine Safe.sload ?_; intro _)
          | refine Safe.store' rfl ?_
          | refine Safe.loop_after (fun _ => ?_) (fun _ _ => ?_)
          | (refine Safe.last ?_; refine Safe.store' rfl ?_)
          | (refine Safe.last ?_; refine Safe.load' ?_; intro _)
          | (refine Safe.last ?_; refine Safe.loop_after (fun _ => ?_) (fun _ _ => ?_))
          | refine Safe.after (Q' := fun _ => True) (T'' := True) (fun _ _ => ?_) ?_
      | (simp only [k0_part19_eq_skeleton, k0_part20_eq_skeleton, k0_part21_eq_skeleton, k0_part22_eq_skeleton,
        k0_part23_eq_skeleton, k0_part24_eq_skeleton, k0_part25_eq_skeleton, k0_part26_eq_skeleton];
         dsimp only [smemLoad, smemLoadElt, k0_part19_skel, k0_part20_skel, k0_part21_skel, k0_part22_skel, k0_part23_skel,
           k0_part24_skel, k0_part25_skel, k0_part26_skel])

/-- A pass over the far tiles. -/
theorem pass3 (i : grid0.Coords) (v4 v6 : F .f32) (v1 v2 v3 v5 : BitVec 32) (t : Fin (k0_t3_loop i).trips) :
    Safe c R σ₀ True True (over R W (k0_t3_body (F := F) i) v4 v6 (lo (at1 i)) (hi (at1 i)) v1 (d3 (at1 i)) v2 v3 v5 t ())
      fun _ => True := by
  dsimp only [over]
  dsimp only [k0_t3_body]
  refine Safe.bind (part110 i t v4 v6) fun a ha => ?_
  dsimp only [smemLoad, smemLoadElt]
  repeat
    first
      | with_reducible first
          | exact Safe.pure' True.intro
          | refine Safe.assoc ?_
          | (refine Safe.pure_bind ?_; try dsimp only)
          | (refine Safe.sload_prev (F := F) ?_; intro _ _)
          | (refine Safe.load' ?_; intro _)
          | (refine Safe.sload ?_; intro _)
          | refine Safe.store' rfl ?_
          | refine Safe.loop_after (fun _ => ?_) (fun _ _ => ?_)
      | (with_reducible refine Safe.store_prev' (F := F) ?_ ?_; on_goal 1 => exact (by rw [ha]; exact (tile7 i t t.isLt).2.2.2))

/-- The far tiles. -/
theorem part164 (i : grid0.Coords) (v4 v6 : F .f32) (v1 v2 v3 v5 : BitVec 32) :
    Safe c R σ₀ True True (over R W (k0_part164 (F := F) i) v4 v6 (lo (at1 i)) (hi (at1 i)) v1 (d3 (at1 i)) v2 v3 v5)
      fun _ => True := by
  dsimp only [over]
  rw [k0_part164_eq_skeleton]
  dsimp only [smemLoad, smemLoadElt, k0_part164_skel]
  refine Safe.loop_after (fun _ => ?_) fun t _ => pass3 i v4 v6 v1 v2 v3 v5 t
  refine Safe.loop_after (fun _ => ?_) fun t _ => absurd (lt_of_lt_of_eq t.isLt (none4 i)) (Nat.not_lt_zero _)
  repeat
    first
      | with_reducible first
          | exact Safe.pure' True.intro
          | refine Safe.assoc ?_
          | (refine Safe.pure_bind ?_; try dsimp only)
          | (refine Safe.sload_prev (F := F) ?_; intro _ _)
          | refine Safe.assume' (chk8 (by assumption)) ?_
          | (refine Safe.load' ?_; intro _)
          | (refine Safe.sload ?_; intro _)
          | refine Safe.store' rfl ?_
          | refine Safe.loop_after (fun _ => ?_) (fun _ _ => ?_)

end Cert.Kernel5Ideal.Attn
end
-- ==== Proof.Attn.End.lean ====
/- The parts after the far tiles are safe. -/
module

public import proofs.«01_k».proof.Proof.Attn.Tiles

@[expose] public section

set_option maxRecDepth 16384

noncomputable section

namespace Cert.Kernel5Ideal.Attn

open Cert.Kernel5Ideal Cert.Kernel5Ideal.Gen Idealize.ShloMosaic Idealize.ShloMosaic.TcCoe Idealize.SL.Sem

variable {F : FTy → Type} [FloatOps F]
variable {c : Dev nD} {R : Refs} {W : ∀ n, (R n).IsWhole} {σ₀ : St F} {T : Prop}

set_option maxHeartbeats 2000000

/-- All tiles again, where a maximum was too far off. -/
theorem part165 (i : grid0.Coords) (a1 : BitVec 32) (v4 v6 : F .f32) (x : FVec F S256x256 .f32) (y : FVec F S256x1024 .bf16)
    (z : FVec F S1024x256 .bf16) :
    Safe c R σ₀ True True (over R W (k0_part165 (F := F) i) a1 v4 v6 x y z)
      fun _ => True := by
  dsimp only [over]
  rw [k0_part165_eq_skeleton]
  unfold k0_part165_skel
  refine Safe.load' fun _ => ?_
  refine Safe.store' rfl ?_
  refine Safe.load' fun _ => ?_
  extract_lets v232 v233 v234 v235 cst jp
  refine Safe.branch (J := jp) ?_ ?_
  · intro y
    dsimp only [jp, smemLoad, smemLoadElt]
    repeat
      first
        | with_reducible first
            | exact Safe.pure' True.intro
            | refine Safe.assoc ?_
            | (refine Safe.pure_bind ?_; try dsimp only)
            | (refine Safe.sload_prev (F := F) ?_; intro _ _)
            | (refine Safe.load' ?_; intro _)
            | (refine Safe.sload ?_; intro _)
            | refine Safe.store' rfl ?_
            | refine Safe.loop_after (fun _ => ?_) (fun _ _ => ?_)
  · intro p hJ
    clear_value jp
    repeat
      first
        | with_reducible first
            | exact hJ _
            | exact Safe.pure' True.intro
            | refine Safe.assoc ?_
            | (refine Safe.pure_bind ?_; try dsimp only)
            | (refine Safe.sload_prev (F := F) ?_; intro _ _)
            | (refine Safe.load' ?_; intro _)
            | (refine Safe.sload ?_; intro _)
            | refine Safe.store' rfl ?_
            | refine Safe.loop_after (fun _ => ?_) (fun _ _ => ?_)
    all_goals
      repeat' first
        | with_reducible first
            | exact True.intro
            | refine Safe.pure' ?_
            | refine Safe.assoc ?_
            | (refine Safe.pure_bind ?_; try dsimp only)
            | (refine Safe.load' ?_; intro _)
            | (refine Safe.sload ?_; intro _)
            | refine Safe.store' rfl ?_
            | refine Safe.loop_after (fun _ => ?_) (fun _ _ => ?_)
            | (refine Safe.last ?_; refine Safe.store' rfl ?_)
            | (refine Safe.last ?_; refine Safe.load' ?_; intro _)
            | (refine Safe.last ?_; refine Safe.loop_after (fun _ => ?_) (fun _ _ => ?_))
            | refine Safe.after (Q' := fun _ => True) (T'' := True) (fun _ _ => ?_) ?_
        | dsimp only [k0_t5_body]
        | (simp only [k0_part149_eq_skeleton, k0_part150_eq_skeleton, k0_part151_eq_skeleton, k0_part152_eq_skeleton,
          k0_part153_eq_skeleton, k0_part154_eq_skeleton, k0_part155_eq_skeleton, k0_part156_eq_skeleton, k0_part157_eq_skeleton,
          k0_part158_eq_skeleton];
           dsimp only [smemLoad, smemLoadElt, k0_part149_skel, k0_part150_skel, k0_part151_skel, k0_part152_skel, k0_part153_skel,
             k0_part154_skel, k0_part155_skel, k0_part156_skel, k0_part157_skel, k0_part158_skel])

end Cert.Kernel5Ideal.Attn
end
-- ==== Proof.Attn.Whole.lean ====
/- The whole body is safe. -/
module

public import proofs.«01_k».proof.Proof.Attn.Begin
public import proofs.«01_k».proof.Proof.Attn.Mid
public import proofs.«01_k».proof.Proof.Attn.End

@[expose] public section

set_option maxRecDepth 16384

noncomputable section

namespace Cert.Kernel5Ideal.Attn

open Cert.Kernel5Ideal Cert.Kernel5Ideal.Gen Idealize.ShloMosaic Idealize.ShloMosaic.TcCoe Idealize.SL.Sem

variable {F : FTy → Type} [FloatOps F]
variable {c : Dev nD} {R : Refs} {W : ∀ n, (R n).IsWhole} {σ₀ : St F} {T : Prop}

set_option maxHeartbeats 2000000

/-- The body at a point, from any contents of its scratch. -/
theorem whole (i : grid0.Coords) : Safe c R σ₀ False True (over R W (cc0_diff_attn (F := F) i)) fun _ => True := by
  dsimp only [over]
  rw [cc0_diff_attn_eq_skeleton]
  dsimp only [cc0_diff_attn_skel]
  refine Safe.bind (part159 i) fun a h1 => ?_
  try dsimp only
  rw [h1]
  refine Safe.bind (part160 i _ _ _) fun _ _ => ?_
  try dsimp only
  refine Safe.bind (part161 i _ _ _) fun _ _ => ?_
  try dsimp only
  refine Safe.bind (part162 i _ _) fun d hd => ?_
  try dsimp only
  rw [hd.1, hd.2]
  refine Safe.bind (part163 i _ _) fun e he => ?_
  try dsimp only
  rw [he]
  refine Safe.bind (part164 i _ _ _ _ _ _) fun _ _ => ?_
  try dsimp only
  refine Safe.bind (part165 i _ _ _ _ _ _) fun _ _ => ?_
  try dsimp only
  repeat
    first
      | with_reducible first
          | exact Safe.pure' True.intro
          | refine Safe.assoc ?_
          | (refine Safe.pure_bind ?_; try dsimp only)
          | (refine Safe.sload_prev (F := F) ?_; intro _ _)
          | (refine Safe.load' ?_; intro _)
          | (refine Safe.sload ?_; intro _)
          | refine Safe.store' rfl ?_
          | refine Safe.loop_after (fun _ => ?_) (fun _ _ => ?_)

end Cert.Kernel5Ideal.Attn
end
-- ==== Proof.Attn.Body.lean ====
/- The attention's run: the obligation at every point, the launch, and the arguments it leaves. -/
module

public import proofs.«01_k».proof.Proof.Attn.Whole

@[expose] public section

set_option maxRecDepth 16384

noncomputable section

namespace Cert.Kernel5Ideal.Attn

open Cert.Kernel5Ideal Cert.Kernel5Ideal.Gen Idealize.ShloMosaic Idealize.ShloMosaic.TcCoe Idealize.SL.Sem
open Idealize.ShloMosaic.Tactic
open Idealize.SL Idealize.SL.RA Idealize.SL.BI Idealize.SL.ProofMode
open Idealize.SL.BI.BIBase Idealize.SL.BI.Laws
open scoped Idealize.SL.BI
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers a point is called with. -/
abbrev refs (t : Fin cfg0.N) : Refs := fun n => match n with
  | .tab => win0_0.stage (cfg0.slots t 0)
  | .q1 => win0_1.stage (cfg0.slots t 1)
  | .k1 => win0_2.stage (cfg0.slots t 2)
  | .k2 => win0_3.stage (cfg0.slots t 3)
  | .vt => win0_4.stage (cfg0.slots t 4)
  | .gain => win0_5.stage (cfg0.slots t 5)
  | .q2 => win0_6.stage (cfg0.slots t 6)
  | .lam => win0_7.stage (cfg0.slots t 7)
  | .w1 => win0_8.stage (cfg0.slots t 8)
  | .w2 => win0_9.stage (cfg0.slots t 9)
  | .w3 => win0_10.stage (cfg0.slots t 10)
  | .out => win0_11.stage (cfg0.slots t 11)
  | .c1 => win0_12.stage (cfg0.slots t 12)
  | .c2 => win0_13.stage (cfg0.slots t 13)
  | .c3 => win0_14.stage (cfg0.slots t 14)
  | .bias => Memref.whole cc0_scratch0
  | .mx => Memref.whole cc0_scratch1
  | .den => Memref.whole cc0_scratch2
  | .acc => Memref.whole cc0_scratch3
  | .prob => Memref.whole cc0_scratch4
  | .shift => Memref.whole cc0_scratch5
  | .kn => Memref.whole cc0_scratch6
  | .prev => Memref.whole cc0_scratch7

/-- Each is whole. -/
theorem refsWhole (t : Fin cfg0.N) : ∀ n, (refs t n).IsWhole := fun n => match n with
  | .tab => hstage0_0 ((cfg0.slots t 0).cast nbuf0_0)
  | .q1 => hstage0_1 ((cfg0.slots t 1).cast nbuf0_1)
  | .k1 => hstage0_2 ((cfg0.slots t 2).cast nbuf0_2)
  | .k2 => hstage0_3 ((cfg0.slots t 3).cast nbuf0_3)
  | .vt => hstage0_4 ((cfg0.slots t 4).cast nbuf0_4)
  | .gain => hstage0_5 ((cfg0.slots t 5).cast nbuf0_5)
  | .q2 => hstage0_6 ((cfg0.slots t 6).cast nbuf0_6)
  | .lam => hstage0_7 ((cfg0.slots t 7).cast nbuf0_7)
  | .w1 => hstage0_8 ((cfg0.slots t 8).cast nbuf0_8)
  | .w2 => hstage0_9 ((cfg0.slots t 9).cast nbuf0_9)
  | .w3 => hstage0_10 ((cfg0.slots t 10).cast nbuf0_10)
  | .out => hstage0_11 ((cfg0.slots t 11).cast nbuf0_11)
  | .c1 => hstage0_12 ((cfg0.slots t 12).cast nbuf0_12)
  | .c2 => hstage0_13 ((cfg0.slots t 13).cast nbuf0_13)
  | .c3 => hstage0_14 ((cfg0.slots t 14).cast nbuf0_14)
  | .bias => Memref.isWhole_whole _
  | .mx => Memref.isWhole_whole _
  | .den => Memref.isWhole_whole _
  | .acc => Memref.isWhole_whole _
  | .prob => Memref.isWhole_whole _
  | .shift => Memref.isWhole_whole _
  | .kn => Memref.isWhole_whole _
  | .prev => Memref.isWhole_whole _

/-- The outputs, of which nothing is claimed. -/
def forgets0 : Fin 15 → Bool := fun w => w.val == 11 || w.val == 12 || w.val == 13 || w.val == 14

/-- The proof data: the arrays as the launch finds them, each input's block left in place. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d
theorem after6 (c : Dev nD) (t : Fin cfg0.N) : (dats m 0 c).after 6 t = iblk m c 6 t := by dsimp only [dats]
theorem before6 (c : Dev nD) (t : Fin cfg0.N) (d) : (dats m 0 c).before 6 t d = iblk m c 6 t :=
  before0_6_of m (dats m 0 c) (A_eq m c 6) (after6 m c) t d
theorem after7 (c : Dev nD) (t : Fin cfg0.N) : (dats m 0 c).after 7 t = iblk m c 7 t := by dsimp only [dats]
theorem before7 (c : Dev nD) (t : Fin cfg0.N) (d) : (dats m 0 c).before 7 t d = iblk m c 7 t :=
  before0_7_of m (dats m 0 c) (A_eq m c 7) (after7 m c) t d
theorem after8 (c : Dev nD) (t : Fin cfg0.N) : (dats m 0 c).after 8 t = iblk m c 8 t := by dsimp only [dats]
theorem before8 (c : Dev nD) (t : Fin cfg0.N) (d) : (dats m 0 c).before 8 t d = iblk m c 8 t :=
  before0_8_of m (dats m 0 c) (A_eq m c 8) (after8 m c) t d
theorem after9 (c : Dev nD) (t : Fin cfg0.N) : (dats m 0 c).after 9 t = iblk m c 9 t := by dsimp only [dats]
theorem before9 (c : Dev nD) (t : Fin cfg0.N) (d) : (dats m 0 c).before 9 t d = iblk m c 9 t :=
  before0_9_of m (dats m 0 c) (A_eq m c 9) (after9 m c) t d
theorem after10 (c : Dev nD) (t : Fin cfg0.N) : (dats m 0 c).after 10 t = iblk m c 10 t := by dsimp only [dats]
theorem before10 (c : Dev nD) (t : Fin cfg0.N) (d) : (dats m 0 c).before 10 t d = iblk m c 10 t :=
  before0_10_of m (dats m 0 c) (A_eq m c 10) (after10 m c) t d

/-- The buffers owned at a state, one by one. -/
theorem Own_eq (c : Dev nD) (R : Refs) (σ : St F) : Own c R σ = (iprop(owns (c : Thread nD τ) (R .tab) fullShare (σ .tab)
    ∗ owns (c : Thread nD τ) (R .q1) fullShare (σ .q1)
    ∗ owns (c : Thread nD τ) (R .k1) fullShare (σ .k1)
    ∗ owns (c : Thread nD τ) (R .k2) fullShare (σ .k2)
    ∗ owns (c : Thread nD τ) (R .vt) fullShare (σ .vt)
    ∗ owns (c : Thread nD τ) (R .gain) fullShare (σ .gain)
    ∗ owns (c : Thread nD τ) (R .q2) fullShare (σ .q2)
    ∗ owns (c : Thread nD τ) (R .lam) fullShare (σ .lam)
    ∗ owns (c : Thread nD τ) (R .w1) fullShare (σ .w1)
    ∗ owns (c : Thread nD τ) (R .w2) fullShare (σ .w2)
    ∗ owns (c : Thread nD τ) (R .w3) fullShare (σ .w3)
    ∗ owns (c : Thread nD τ) (R .out) fullShare (σ .out)
    ∗ owns (c : Thread nD τ) (R .c1) fullShare (σ .c1)
    ∗ owns (c : Thread nD τ) (R .c2) fullShare (σ .c2)
    ∗ owns (c : Thread nD τ) (R .c3) fullShare (σ .c3)
    ∗ owns (c : Thread nD τ) (R .bias) fullShare (σ .bias)
    ∗ owns (c : Thread nD τ) (R .mx) fullShare (σ .mx)
    ∗ owns (c : Thread nD τ) (R .den) fullShare (σ .den)
    ∗ owns (c : Thread nD τ) (R .acc) fullShare (σ .acc)
    ∗ owns (c : Thread nD τ) (R .prob) fullShare (σ .prob)
    ∗ owns (c : Thread nD τ) (R .shift) fullShare (σ .shift)
    ∗ owns (c : Thread nD τ) (R .kn) fullShare (σ .kn)
    ∗ owns (c : Thread nD τ) (R .prev) fullShare (σ .prev)) : sProp 𝕄) :=
  bigSep_univ_eq_bigSepL (I := Nm) [.tab, .q1, .k1, .k2, .vt, .gain, .q2, .lam, .w1, .w2, .w3, .out, .c1, .c2, .c3,
    .bias, .mx, .den, .acc, .prob, .shift, .kn, .prev] (by decide) (by decide)
    fun n : Nm => owns (c : Thread nD τ) (R n) fullShare (σ n)

/-- What the launch hands over besides the windows: the scratch buffers at some contents, and the generator register. -/
theorem PhiA0_eq (c : Dev nD) : (Pipeline.ΦA spec0 c : sProp 𝕄) =
    iprop(iprop((∃ d : S3x1024x1024.Idx → F .f32, owns (c : Thread nD τ) (Memref.whole cc0_scratch0) fullShare d)
      ∗ (∃ d : S2x1x1024.Idx → F .f32, owns (c : Thread nD τ) (Memref.whole cc0_scratch1) fullShare d)
      ∗ (∃ d : S2x1x1024.Idx → F .f32, owns (c : Thread nD τ) (Memref.whole cc0_scratch2) fullShare d)
      ∗ (∃ d : S2x256x1024.Idx → F .f32, owns (c : Thread nD τ) (Memref.whole cc0_scratch3) fullShare d)
      ∗ (∃ d : S8x1024x256.Idx → F .bf16, owns (c : Thread nD τ) (Memref.whole cc0_scratch4) fullShare d)
      ∗ (∃ d : S2x1x1024.Idx → F .f32, owns (c : Thread nD τ) (Memref.whole cc0_scratch5) fullShare d)
      ∗ (∃ d : S2x1x1.Idx → F .f32, owns (c : Thread nD τ) (Memref.whole cc0_scratch6) fullShare d)
      ∗ (∃ d : S1.Idx → BitVec 32, owns (c : Thread nD τ) (Memref.whole cc0_scratch7) fullShare d)) ∗ (∃ r, prngReg c r)) := by
  unfold Pipeline.ΦA
  rw [scopedRest0_eq]
  simp only [owns_whole]
  try rfl

/-- What a point's body is handed, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare d)
    ∗ (∃ d, owns (c : Thread nD τ) (win0_12.stage (cfg0.slots t 12)) fullShare d)
    ∗ (∃ d, owns (c : Thread nD τ) (win0_13.stage (cfg0.slots t 13)) fullShare d)
    ∗ (∃ d, owns (c : Thread nD τ) (win0_14.stage (cfg0.slots t 14)) fullShare d))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ (∃ d, owns (c : Thread nD τ) (win0_11.stage (cfg0.slots t 11)) fullShare d)
    ∗ (∃ d, owns (c : Thread nD τ) (win0_12.stage (cfg0.slots t 12)) fullShare d)
    ∗ (∃ d, owns (c : Thread nD τ) (win0_13.stage (cfg0.slots t 13)) fullShare d)
    ∗ (∃ d, owns (c : Thread nD τ) (win0_14.stage (cfg0.slots t 14)) fullShare d))

/-- A state of given contents. -/
abbrev mkSt
    (x0 : (Nm.sh .tab).Idx → Elt F (Nm.el .tab))
    (x1 : (Nm.sh .q1).Idx → Elt F (Nm.el .q1))
    (x2 : (Nm.sh .k1).Idx → Elt F (Nm.el .k1))
    (x3 : (Nm.sh .k2).Idx → Elt F (Nm.el .k2))
    (x4 : (Nm.sh .vt).Idx → Elt F (Nm.el .vt))
    (x5 : (Nm.sh .gain).Idx → Elt F (Nm.el .gain))
    (x6 : (Nm.sh .q2).Idx → Elt F (Nm.el .q2))
    (x7 : (Nm.sh .lam).Idx → Elt F (Nm.el .lam))
    (x8 : (Nm.sh .w1).Idx → Elt F (Nm.el .w1))
    (x9 : (Nm.sh .w2).Idx → Elt F (Nm.el .w2))
    (x10 : (Nm.sh .w3).Idx → Elt F (Nm.el .w3))
    (x11 : (Nm.sh .out).Idx → Elt F (Nm.el .out))
    (x12 : (Nm.sh .c1).Idx → Elt F (Nm.el .c1))
    (x13 : (Nm.sh .c2).Idx → Elt F (Nm.el .c2))
    (x14 : (Nm.sh .c3).Idx → Elt F (Nm.el .c3))
    (x15 : (Nm.sh .bias).Idx → Elt F (Nm.el .bias))
    (x16 : (Nm.sh .mx).Idx → Elt F (Nm.el .mx))
    (x17 : (Nm.sh .den).Idx → Elt F (Nm.el .den))
    (x18 : (Nm.sh .acc).Idx → Elt F (Nm.el .acc))
    (x19 : (Nm.sh .prob).Idx → Elt F (Nm.el .prob))
    (x20 : (Nm.sh .shift).Idx → Elt F (Nm.el .shift))
    (x21 : (Nm.sh .kn).Idx → Elt F (Nm.el .kn))
    (x22 : (Nm.sh .prev).Idx → Elt F (Nm.el .prev)) : St F := fun n => match n with
  | .tab => x0
  | .q1 => x1
  | .k1 => x2
  | .k2 => x3
  | .vt => x4
  | .gain => x5
  | .q2 => x6
  | .lam => x7
  | .w1 => x8
  | .w2 => x9
  | .w3 => x10
  | .out => x11
  | .c1 => x12
  | .c2 => x13
  | .c3 => x14
  | .bias => x15
  | .mx => x16
  | .den => x17
  | .acc => x18
  | .prob => x19
  | .shift => x20
  | .kn => x21
  | .prev => x22

/-- What a state that keeps the inputs gives back. -/
theorem leave {c : Dev nD} {t : Fin cfg0.N} {σ₀ σ : St F} (h : Ok True σ₀ σ)
    (h0 : σ₀ .tab = iblk m c 0 t)
    (h1 : σ₀ .q1 = iblk m c 1 t)
    (h2 : σ₀ .k1 = iblk m c 2 t)
    (h3 : σ₀ .k2 = iblk m c 3 t)
    (h4 : σ₀ .vt = iblk m c 4 t)
    (h5 : σ₀ .gain = iblk m c 5 t)
    (h6 : σ₀ .q2 = iblk m c 6 t)
    (h7 : σ₀ .lam = iblk m c 7 t)
    (h8 : σ₀ .w1 = iblk m c 8 t)
    (h9 : σ₀ .w2 = iblk m c 9 t)
    (h10 : σ₀ .w3 = iblk m c 10 t) :
    iprop(Own c (refs t) σ ∗ (∃ r, prngReg c r) ∗ (dats m 0 c).owesAt () t.castSucc) ⊢ bodyPost m c t := by
  unfold bodyPost
  rw [show (dats m 0 c).owesAt () t.succ = (dats m 0 c).owesAt () t.castSucc from rfl,
    show (dats m 0 c).Φ t.succ = Pipeline.ΦA spec0 c from rfl, PhiA0_eq, Own_eq]
  rw [after0, h.keep .tab rfl (by decide), h0]
  rw [after1, h.keep .q1 rfl (by decide), h1]
  rw [after2, h.keep .k1 rfl (by decide), h2]
  rw [after3, h.keep .k2 rfl (by decide), h3]
  rw [after4, h.keep .vt rfl (by decide), h4]
  rw [after5, h.keep .gain rfl (by decide), h5]
  rw [after6, h.keep .q2 rfl (by decide), h6]
  rw [after7, h.keep .lam rfl (by decide), h7]
  rw [after8, h.keep .w1 rfl (by decide), h8]
  rw [after9, h.keep .w2 rfl (by decide), h9]
  rw [after10, h.keep .w3 rfl (by decide), h10]
  iintro ⟨⟨H0, H1, H2, H3, H4, H5, H6, H7, H8, H9, H10, H11, H12, H13, H14, H15, H16, H17, H18, H19, H20, H21, H22⟩, Hg, Ho⟩
  isplitl [H15 H16 H17 H18 H19 H20 H21 H22 Hg]
  · isplitl [H15 H16 H17 H18 H19 H20 H21 H22]
    · isplitl [H15]; · iexists σ .bias; iexact H15
      isplitl [H16]; · iexists σ .mx; iexact H16
      isplitl [H17]; · iexists σ .den; iexact H17
      isplitl [H18]; · iexists σ .acc; iexact H18
      isplitl [H19]; · iexists σ .prob; iexact H19
      isplitl [H20]; · iexists σ .shift; iexact H20
      isplitl [H21]; · iexists σ .kn; iexact H21
      iexists σ .prev; iexact H22
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists σ .out; iexact H11
  isplitl [H12]; · iexists σ .c1; iexact H12
  isplitl [H13]; · iexists σ .c2; iexact H13
  iexists σ .c3; iexact H14

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre
  rw [show (dats m 0 c).Φ t.castSucc = Pipeline.ΦA spec0 c from rfl, PhiA0_eq]
  simp only [before0, before1, before2, before3, before4, before5, before6, before7, before8, before9, before10]
  iintro ⟨⟨⟨⟨%s15, H15⟩, ⟨%s16, H16⟩, ⟨%s17, H17⟩, ⟨%s18, H18⟩, ⟨%s19, H19⟩, ⟨%s20, H20⟩, ⟨%s21, H21⟩, ⟨%s22, H22⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  have hs : Safe c (refs t) (mkSt (iblk m c 0 t) (iblk m c 1 t) (iblk m c 2 t) (iblk m c 3 t) (iblk m c 4 t) (iblk m c 5 t) (iblk m c 6 t) (iblk m c 7 t) (iblk m c 8 t) (iblk m c 9 t) (iblk m c 10 t)
      d11 d12 d13 d14 s15 s16 s17 s18 s19 s20 s21 s22) False True (bodyAt0 t) fun _ => True :=
    whole (W := refsWhole t) (grid0.coords t)
  have hr := hs _ ⟨False.elim, fun _ _ _ => rfl⟩
  unfold Run at hr
  rw [Own_eq] at hr
  iapply (wp_wand_r _ _ _)
  isplitl [H0 H1 H2 H3 H4 H5 H6 H7 H8 H9 H10 H11 H12 H13 H14 H15 H16 H17 H18 H19 H20 H21 H22]
  · iapply hr
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22
  iintro %a ⟨%σ', %hd, H⟩
  iapply (leave m hd.2 rfl rfl rfl rfl rfl rfl rfl rfl rfl rfl rfl)
  isplitl [H]; · iexact H
  isplitl [Hg]; · iexact Hg
  iexact Ho

/-- The body table's row at a point's slots is the body as printed. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = Pipeline.ΦA spec0 c from rfl]

set_option backward.isDefEq.respectTransparency.types false in
/-- The launch: every run ends, the inputs' arrays as they were and every counter at zero. -/
theorem run_main_quiescent : θ_run defs (onTc (τ := τ) (main (F := F))) (s₀ m ρ)
    (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)
    (hQ' := fun _ h => h)

/-- Every run ends, the argument arrays unchanged and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨
      (((h.1 c).2 main_arg0 (Pipeline.mem_restRefs_of main_arg0 (by decide) (by decide))).trans (V_main_arg0 m c)),
      (((h.1 c).2 main_arg1 (Pipeline.mem_restRefs_of main_arg1 (by decide) (by decide))).trans (V_main_arg1 m c)),
      ((Pipeline.RDat.FramePost.arr_in h.1 c 7 rfl).trans ((A_eq m c 7).trans (V_main_arg2 m c))),
      (((h.1 c).2 main_arg3 (Pipeline.mem_restRefs_of main_arg3 (by decide) (by decide))).trans (V_main_arg3 m c)),
      (((h.1 c).2 main_arg4 (Pipeline.mem_restRefs_of main_arg4 (by decide) (by decide))).trans (V_main_arg4 m c)),
      (((h.1 c).2 main_arg5 (Pipeline.mem_restRefs_of main_arg5 (by decide) (by decide))).trans (V_main_arg5 m c)),
      (((h.1 c).2 main_arg6 (Pipeline.mem_restRefs_of main_arg6 (by decide) (by decide))).trans (V_main_arg6 m c))⟩, h.2⟩)
    (run_main_quiescent m ρ)

end Cert.Kernel5Ideal.Attn
end
-- ==== Proof.Attn.Same.lean ====
/- The attention's program and its idealised program are one text. -/
module

public import proofs.«01_k».proof.Defs
public import proofs.«01_k».proof.Proof.Attn.Body
public import proofs.«01_k».proof.Proof.Gen.Kernel5
@[expose] public section
noncomputable section
namespace Cert.Kernel5Ideal.Same
open Idealize.ShloMosaic Idealize.ShloMosaic.TcCoe Idealize.SL.Sem
set_option maxRecDepth 65536
set_option maxHeartbeats 4000000

/-- What the one run says of floats read as their bits. -/
def Ends : Prop := ∀ (m : (ℓ : Loc Cert.Kernel5Ideal.nD Cert.Kernel5Ideal.τ Cert.Kernel5Ideal.sig) → Buf (Elt Bits) ℓ) (g : Dev Cert.Kernel5Ideal.nD → PrngReg),
    True → θ_run (Cert.Kernel5Ideal.defs (F := Bits)) (onTc (τ := Cert.Kernel5Ideal.τ) (Cert.Kernel5Ideal.main (F := Bits))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

/-- The program's claim is that of its idealised program, read on floats as their bits. -/
theorem same : Cert.quiescent_Kernel5 (hKernel5 := Cert.Kernel5.Gen.facts) = Ends := by
  chain_rfl

/-- So the one run is the frame of both. -/
theorem frame : Cert.quiescent_Kernel5 (hKernel5 := Cert.Kernel5.Gen.facts) :=
  same.mpr fun m ρ _ => Cert.Kernel5Ideal.Attn.frame_main (F := Bits) m ρ

end Cert.Kernel5Ideal.Same
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.FfnUp
public import proofs.«01_k».proof.Proof.FfnDown
public import proofs.«01_k».proof.Proof.OutProj
public import proofs.«01_k».proof.Proof.InProj.Same
public import proofs.«01_k».proof.Proof.InProj.Value
public import proofs.«01_k».proof.Proof.Attn.Same
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The feed-forward references' frames and the output projection's: host operations only, no semaphore declared. -/
theorem reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

theorem reference2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run m ρ)

theorem reference3 : Cert.quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩)
    (Cert.Reference3Ideal.Value.run m ρ)

theorem reference4 : Cert.quiescent_Reference4Ideal (hReference4Ideal := Cert.Reference4Ideal.Gen.facts) := fun m ρ _ =>
  (θ_run Cert.Reference4Ideal.defs _ _).mono (fun r h => ⟨fun c => (h c).2.2.2.2.2, sem_eq_zero_of_no_sems (by decide) r.2⟩)
    (Cert.Reference4Ideal.Value.run m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts,
  fun m ρ _ => Cert.Kernel.Gen.frame m ρ, fun m ρ _ => Cert.KernelIdeal.Gen.frame m ρ, reference,
  fun m ρ _ => Cert.Kernel2.Gen.frame m ρ, fun m ρ _ => Cert.Kernel2Ideal.Gen.frame m ρ, reference2,
  fun m ρ _ => Cert.Kernel3.Gen.frame m ρ, fun m ρ _ => Cert.Kernel3Ideal.Gen.frame m ρ, reference3,
  Cert.Kernel4Ideal.Same.frame, fun m ρ _ => Cert.Kernel4Ideal.InProj.frame_main m ρ, reference4,
  Cert.Kernel5Ideal.Same.frame, fun m ρ _ => Cert.Kernel5Ideal.Attn.frame_main m ρ,
  trivial, Cert.KernelIdeal.Val.algebraic, trivial, Cert.Kernel2Ideal.Val.algebraic, trivial, Cert.Kernel3Ideal.Val.algebraic,
  trivial, Cert.Kernel4Ideal.Val.algebraic, trivial⟩

end Cert.Proof

end
